-- ==== Defs.lean ====
def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_idx_in_rows [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_idx_in_rows : Cert.Pre_idx_in_rows.Facts] (m : (ℓ : Loc Cert.GatherRef.nD Cert.GatherRef.τ Cert.GatherRef.sig) → Buf (Elt Bits) ℓ) : Prop :=
  ∀ c : Dev Cert.GatherRef.nD,
    (Cert.Pre_idx_in_rows.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_idx_in_rows [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_idx_in_rows m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_idx_in_rows : Cert.Pre_idx_in_rows.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Gather_GatherRef [hGather : Cert.Gather.Facts] [hGatherRef : Cert.GatherRef.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v3)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v3) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v8) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def preserves_Gather_GatherIdeal : Prop :=
  True

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v3)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v3) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v8) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherRefIdeal : Cert.GatherRefIdeal.Facts) (hGatherRef : Cert.GatherRef.Facts) (hPre_no_tie : Cert.Pre_no_tie.Facts) (hPre_idx_in_rows : Cert.Pre_idx_in_rows.Facts),
    quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal)
    ∧ quiescent_GatherRefIdeal_pre_idx_in_rows (hGatherRefIdeal := hGatherRefIdeal) (hPre_idx_in_rows := hPre_idx_in_rows)
    ∧ quiescent_GatherRef (hGatherRef := hGatherRef) (hPre_idx_in_rows := hPre_idx_in_rows)
    ∧ algebraic_KernelIdeal_ReferenceIdeal (hKernelIdeal := hKernelIdeal) (hReferenceIdeal := hReferenceIdeal) (hPre_no_tie := hPre_no_tie)
    ∧ bitexact_Gather_GatherRef (hGather := hGather) (hGatherRef := hGatherRef) (hPre_idx_in_rows := hPre_idx_in_rows)
    ∧ preserves_Gather_GatherIdeal
    ∧ algebraic_GatherIdeal_GatherRefIdeal (hGatherIdeal := hGatherIdeal) (hGatherRefIdeal := hGatherRefIdeal) (hPre_idx_in_rows := hPre_idx_in_rows)
-- ==== Pre_idx_in_rows.lean ====
abbrev S1x640x128 : Shape := ⟨3, ![1, 640, 128]⟩
abbrev S16384x2 : Shape := ⟨2, ![16384, 2]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : FVec F S1x640x128 .f32) (main_arg1 : IVec S16384x2 32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg1 main_v0
  let main_c_0 : IVec S_ 32 := constantI S_ 32 640#32
  let main_v2 : IVec S16384x2 32 := broadcastInDim S16384x2 ![] bcast_S_S16384x2 main_c_0
  let main_v3 : IVec S16384x2 1 := cmpi .slt main_arg1 main_v2
  let main_v4 : IVec S16384x2 1 := andi main_v1 main_v3
  main_v4
-- ==== Pre_no_tie.lean ====
abbrev S8x2048x512 : Shape := ⟨3, ![8, 2048, 512]⟩
abbrev S1x640x128 : Shape := ⟨3, ![1, 640, 128]⟩
abbrev S512x640 : Shape := ⟨2, ![512, 640]⟩
abbrev S640 : Shape := ⟨1, ![640]⟩
abbrev S8x2048x640 : Shape := ⟨3, ![8, 2048, 640]⟩
abbrev S1x1x640 : Shape := ⟨3, ![1, 1, 640]⟩
abbrev S8x2048x2x320 : Shape := ⟨4, ![8, 2048, 2, 320]⟩
abbrev S_ : Shape := ⟨0, ![]⟩
abbrev S8x2048x2 : Shape := ⟨3, ![8, 2048, 2]⟩
abbrev S8x2048x2x1 : Shape := ⟨4, ![8, 2048, 2, 1]⟩

class Facts : Prop where
  bcast_S640_S1x1x640_2 : S640.BroadcastsInDim S1x1x640 (![2] : Fin 1 → Fin S1x1x640.rank)
  bcast_S1x1x640_S8x2048x640_0_1_2 : S1x1x640.BroadcastsInDim S8x2048x640 (![0, 1, 2] : Fin 3 → Fin S8x2048x640.rank)
  shapeCasts_S8x2048x640_S8x2048x2x320 : S8x2048x640.ShapeCasts S8x2048x2x320
  reducesTo_S8x2048x2x320_S8x2048x2_d3 : S8x2048x2x320.ReducesTo [3] S8x2048x2
  h_S_ : 0 < S_.numel
  bcast_S8x2048x2_S8x2048x2x1_0_1_2 : S8x2048x2.BroadcastsInDim S8x2048x2x1 (![0, 1, 2] : Fin 3 → Fin S8x2048x2x1.rank)
  bcast_S8x2048x2x1_S8x2048x2x320_0_1_2_3 : S8x2048x2x1.BroadcastsInDim S8x2048x2x320 (![0, 1, 2, 3] : Fin 4 → Fin S8x2048x2x320.rank)
  natLt_1_32 : 1 < 32
  bcast_S_S8x2048x2 : S_.BroadcastsInDim S8x2048x2 (![] : Fin 0 → Fin S8x2048x2.rank)
  shapeCasts_S8x2048x2x1_S8x2048x2 : S8x2048x2x1.ShapeCasts S8x2048x2
  dot_S8x2048x512_S512x640_S8x2048x640_2_0_01_1_n_n_wf : DotDims.WF S8x2048x512 S512x640 S8x2048x640 [2] [0] [0, 1] [1] [] []

variable [Facts]

def dot_S8x2048x512_S512x640_S8x2048x640_2_0_01_1_n_n : DotDims S8x2048x512 S512x640 S8x2048x640 where
  lhsContracting := [2]
  rhsContracting := [0]
  lhsNonContracting := [0, 1]
  rhsNonContracting := [1]
  lhsBatch := []
  rhsBatch := []
  wf := dot_S8x2048x512_S512x640_S8x2048x640_2_0_01_1_n_n_wf
def fn {F : FTy → Type} [FloatOps F] (main_arg0 : FVec F S8x2048x512 .f32) (main_arg1 : FVec F S1x640x128 .f32) (main_arg2 : FVec F S512x640 .f32) (main_arg3 : FVec F S640 .f32) : IVec S8x2048x2 1 :=
  let main_v0 : FVec F S8x2048x640 .f32 := (fun l r => Host.dotGeneral dot_S8x2048x512_S512x640_S8x2048x640_2_0_01_1_n_n none l r) main_arg0 main_arg2
  let main_v1 : FVec F S1x1x640 .f32 := broadcastInDim S1x1x640 ![2] bcast_S640_S1x1x640_2 main_arg3
  let main_v2 : FVec F S8x2048x640 .f32 := broadcastInDim S8x2048x640 ![0, 1, 2] bcast_S1x1x640_S8x2048x640_0_1_2 main_v1
  let main_v3 : FVec F S8x2048x640 .f32 := addf main_v0 main_v2
  let main_v4 : FVec F S8x2048x2x320 .f32 := shapeCast S8x2048x2x320 main_v3 shapeCasts_S8x2048x640_S8x2048x2x320
  let main_cst : FVec F S_ .f32 := constant S_ .f32 0xFF800000#32
  let main_v5 : FVec F S8x2048x2 .f32 := (fun x v => Host.reduce FloatOps.maximumf x v reducesTo_S8x2048x2x320_S8x2048x2_d3 h_S_) main_v4 main_cst
  let main_v6 : FVec F S8x2048x2x1 .f32 := broadcastInDim S8x2048x2x1 ![0, 1, 2] bcast_S8x2048x2_S8x2048x2x1_0_1_2 main_v5
  let main_v7 : FVec F S8x2048x2x320 .f32 := broadcastInDim S8x2048x2x320 ![0, 1, 2, 3] bcast_S8x2048x2x1_S8x2048x2x320_0_1_2_3 main_v6
  let main_v8 : IVec S8x2048x2x320 1 := cmpf .oeq main_v4 main_v7
  let main_v9 : IVec S8x2048x2x320 32 := (extui 32 · natLt_1_32) main_v8
  let main_c : IVec S_ 32 := constantI S_ 32 0#32
  let main_v10 : IVec S8x2048x2 32 := (fun x v => Host.reduce IntOp.addi x v reducesTo_S8x2048x2x320_S8x2048x2_d3 h_S_) main_v9 main_c
  let main_c_0 : IVec S_ 32 := constantI S_ 32 1#32
  let main_v11 : IVec S8x2048x2 32 := broadcastInDim S8x2048x2 ![] bcast_S_S8x2048x2 main_c_0
  let main_v12 : IVec S8x2048x2 1 := cmpi .eq main_v10 main_v11
  let main_v13 : FVec F S8x2048x2 .f32 := shapeCast S8x2048x2 main_v6 shapeCasts_S8x2048x2x1_S8x2048x2
  let main_cst_1 : FVec F S_ .f32 := constant S_ .f32 0xFF61B1E6#32
  let main_v14 : FVec F S8x2048x2 .f32 := broadcastInDim S8x2048x2 ![] bcast_S_S8x2048x2 main_cst_1
  let main_v15 : IVec S8x2048x2 1 := cmpf .ogt main_v13 main_v14
  let main_v16 : IVec S8x2048x2 1 := andi main_v12 main_v15
  main_v16
-- ==== KernelIdeal.lean ====
abbrev S8x2048x512 : Shape := ⟨3, ![8, 2048, 512]⟩
abbrev S1x640x128 : Shape := ⟨3, ![1, 640, 128]⟩
abbrev S512x640 : Shape := ⟨2, ![512, 640]⟩
abbrev S640 : Shape := ⟨1, ![640]⟩
abbrev S16384x512 : Shape := ⟨2, ![16384, 512]⟩
abbrev S512x2x320 : Shape := ⟨3, ![512, 2, 320]⟩
abbrev S_ : Shape := ⟨0, ![]⟩
abbrev S512x2x384 : Shape := ⟨3, ![512, 2, 384]⟩
abbrev S512x768 : Shape := ⟨2, ![512, 768]⟩
abbrev S1x2x320 : Shape := ⟨3, ![1, 2, 320]⟩
abbrev S1x2x384 : Shape := ⟨3, ![1, 2, 384]⟩
abbrev S1x768 : Shape := ⟨2, ![1, 768]⟩
abbrev S16384x2 : Shape := ⟨2, ![16384, 2]⟩
abbrev S1x1 : Shape := ⟨2, ![1, 1]⟩
abbrev S2048x512 : Shape := ⟨2, ![2048, 512]⟩
abbrev S2048x2 : Shape := ⟨2, ![2048, 2]⟩
abbrev S2048x768 : Shape := ⟨2, ![2048, 768]⟩
abbrev S2048x384 : Shape := ⟨2, ![2048, 384]⟩
abbrev S2048 : Shape := ⟨1, ![2048]⟩
abbrev S2048x1 : Shape := ⟨2, ![2048, 1]⟩
abbrev S384 : Shape := ⟨1, ![384]⟩
abbrev S1x384 : Shape := ⟨2, ![1, 384]⟩
abbrev S1x1x384 : Shape := ⟨3, ![1, 1, 384]⟩
abbrev S1 : Shape := ⟨1, ![1]⟩
abbrev S1x1x1 : Shape := ⟨3, ![1, 1, 1]⟩
abbrev S640x128 : Shape := ⟨2, ![640, 128]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S8x2048x256 : Shape := ⟨3, ![8, 2048, 256]⟩

abbrev nBuf : Table → Nat
  | .hbm => 22
  | .local .tc .vmem => 8
  | .local .scVector .vmem => 2
  | _ => 0

abbrev bufTy : (tb : Table) → Fin (nBuf tb) → BufTy
  | .hbm, ⟨0, _⟩ => ⟨S8x2048x512, .f32⟩
  | .hbm, ⟨1, _⟩ => ⟨S1x640x128, .f32⟩
  | .hbm, ⟨2, _⟩ => ⟨S512x640, .f32⟩
  | .hbm, ⟨3, _⟩ => ⟨S640, .f32⟩
  | .hbm, ⟨4, _⟩ => ⟨S16384x512, .f32⟩
  | .hbm, ⟨5, _⟩ => ⟨S512x2x320, .f32⟩
  | .hbm, ⟨6, _⟩ => ⟨S_, .i32⟩
  | .hbm, ⟨7, _⟩ => ⟨S_, .f32⟩
  | .hbm, ⟨8, _⟩ => ⟨S512x2x384, .f32⟩
  | .hbm, ⟨9, _⟩ => ⟨S512x768, .f32⟩
  | .hbm, ⟨10, _⟩ => ⟨S1x2x320, .f32⟩
  | .hbm, ⟨11, _⟩ => ⟨S_, .f32⟩
  | .hbm, ⟨12, _⟩ => ⟨S_, .f32⟩
  | .hbm, ⟨13, _⟩ => ⟨S1x2x384, .f32⟩
  | .hbm, ⟨14, _⟩ => ⟨S1x768, .f32⟩
  | .hbm, ⟨15, _⟩ => ⟨S16384x2, .i32⟩
  | .hbm, ⟨16, _⟩ => ⟨S1x1, .f32⟩
  | .hbm, ⟨17, _⟩ => ⟨S640x128, .f32⟩
  | .hbm, ⟨18, _⟩ => ⟨S1x32768, .i32⟩
  | .hbm, ⟨19, _⟩ => ⟨S32768x128, .f32⟩
  | .hbm, ⟨20, _⟩ => ⟨S8x2048x256, .f32⟩
  | .hbm, ⟨21, _⟩ => ⟨S_, .f32⟩
  | .local .tc .vmem, ⟨0, _⟩ => ⟨S2048x512, .f32⟩
  | .local .tc .vmem, ⟨1, _⟩ => ⟨S2048x512, .f32⟩
  | .local .tc .vmem, ⟨2, _⟩ => ⟨S512x768, .f32⟩
  | .local .tc .vmem, ⟨3, _⟩ => ⟨S1x768, .f32⟩
  | .local .tc .vmem, ⟨4, _⟩ => ⟨S2048x2, .i32⟩
  | .local .tc .vmem, ⟨5, _⟩ => ⟨S2048x2, .i32⟩
  | .local .tc .vmem, ⟨6, _⟩ => ⟨S1x1, .f32⟩
  | .local .tc .vmem, ⟨7, _⟩ => ⟨S1x768, .f32⟩
  | .local .scVector .vmem, ⟨0, _⟩ => ⟨S2x1x128, .i32⟩
  | .local .scVector .vmem, ⟨1, _⟩ => ⟨S2x128x128, .f32⟩
  | _, _ => ⟨S8x2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v8_scv : Ref sig .scVector := ⟨.hbm, 17, rfl⟩
abbrev main_v9_scv : Ref sig .scVector := ⟨.hbm, 18, rfl⟩
abbrev main_v10_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S32768x128.size a)
theorem k1_off19_inb : ∀ (i : grid1.Coords) (v33_4_r0 : BitVec 32) (k1_hw5 : k1_chk5 i v33_4_r0), ∀ a, (k1_off19 i v33_4_r0) a + S128x128.size a ≤ S32768x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x512 : Shape := ⟨3, ![8, 2048, 512]⟩
abbrev S1x640x128 : Shape := ⟨3, ![1, 640, 128]⟩
abbrev S512x640 : Shape := ⟨2, ![512, 640]⟩
abbrev S640 : Shape := ⟨1, ![640]⟩
abbrev S8x2048x640 : Shape := ⟨3, ![8, 2048, 640]⟩
abbrev S1x1x640 : Shape := ⟨3, ![1, 1, 640]⟩
abbrev S32768x320 : Shape := ⟨2, ![32768, 320]⟩
abbrev S_ : Shape := ⟨0, ![]⟩
abbrev S32768 : Shape := ⟨1, ![32768]⟩
abbrev S32768x1 : Shape := ⟨2, ![32768, 1]⟩
abbrev S1x320 : Shape := ⟨2, ![1, 320]⟩
abbrev S16384x2x320 : Shape := ⟨3, ![16384, 2, 320]⟩
abbrev S2x320 : Shape := ⟨2, ![2, 320]⟩
abbrev S2 : Shape := ⟨1, ![2]⟩
abbrev S16384x640 : Shape := ⟨2, ![16384, 640]⟩
abbrev S16384x640x1 : Shape := ⟨3, ![16384, 640, 1]⟩
abbrev S16384x640x128 : Shape := ⟨3, ![16384, 640, 128]⟩
abbrev S16384x2x320x128 : Shape := ⟨4, ![16384, 2, 320, 128]⟩
abbrev S16384x2x128 : Shape := ⟨3, ![16384, 2, 128]⟩
abbrev S8x2048x256 : Shape := ⟨3, ![8, 2048, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S1x640x128, .f32⟩
  | .hbm, ⟨2, _⟩ => ⟨S512x640, .f32⟩
  | .hbm, ⟨3, _⟩ => ⟨S640, .f32⟩
  | .hbm, ⟨4, _⟩ => ⟨S8x2048x640, .f32⟩
  | .hbm, ⟨5, _⟩ => ⟨S1x1x640, .f32⟩
  | .hbm, ⟨6, _⟩ => ⟨S8x2048x640, .f32⟩
  | .hbm, ⟨7, _⟩ => ⟨S8x2048x640, .f32⟩
  | .hbm, ⟨8, _⟩ => ⟨S32768x320, .f32⟩
  | .hbm, ⟨9, _⟩ => ⟨S32768x320, .i32⟩
  | .hbm, ⟨10, _⟩ => ⟨S_, .f32⟩
  | .hbm, ⟨11, _⟩ => ⟨S_, .i32⟩
  | .hbm, ⟨12, _⟩ => ⟨S32768, .f32⟩
  | .hbm, ⟨13, _⟩ => ⟨S32768, .i32⟩
  | .hbm, ⟨14, _⟩ => ⟨S32768x1, .i32⟩
  | .hbm, ⟨15, _⟩ => ⟨S1x320, .i32⟩
  | .hbm, ⟨16, _⟩ => ⟨S32768x320, .i32⟩
  | .hbm, ⟨17, _⟩ => ⟨S32768x320, .i32⟩
  | .hbm, ⟨18, _⟩ => ⟨S32768x320, .i1⟩
  | .hbm, ⟨19, _⟩ => ⟨S32768x320, .f32⟩
  | .hbm, ⟨20, _⟩ => ⟨S_, .f32⟩
  | .hbm, ⟨21, _⟩ => ⟨S32768x320, .f32⟩
  | .hbm, ⟨22, _⟩ => ⟨S32768x320, .f32⟩
  | .hbm, ⟨23, _⟩ => ⟨S16384x2x320, .f32⟩
  | .hbm, ⟨24, _⟩ => ⟨S_, .f32⟩
  | .hbm, ⟨25, _⟩ => ⟨S2x320, .f32⟩
  | .hbm, ⟨26, _⟩ => ⟨S_, .f32⟩
  | .hbm, ⟨27, _⟩ => ⟨S2x320, .f32⟩
  | .hbm, ⟨28, _⟩ => ⟨S2x320, .f32⟩
  | .hbm, ⟨29, _⟩ => ⟨S_, .f32⟩
  | .hbm, ⟨30, _⟩ => ⟨S2x320, .f32⟩
  | .hbm, ⟨31, _⟩ => ⟨S2x320, .f32⟩
  | .hbm, ⟨32, _⟩ => ⟨S2x320, .f32⟩
  | .hbm, ⟨33, _⟩ => ⟨S2x320, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S16384x640, .f32⟩
  | .hbm, ⟨41, _⟩ => ⟨S16384x640x1, .f32⟩
  | .hbm, ⟨42, _⟩ => ⟨S16384x640x128, .f32⟩
  | .hbm, ⟨43, _⟩ => ⟨S16384x640x128, .f32⟩
  | .hbm, ⟨44, _⟩ => ⟨S16384x640x128, .f32⟩
  | .hbm, ⟨45, _⟩ => ⟨S16384x2x320x128, .f32⟩
  | .hbm, ⟨46, _⟩ => ⟨S_, .f32⟩
  | .hbm, ⟨47, _⟩ => ⟨S16384x2x128, .f32⟩
  | .hbm, ⟨48, _⟩ => ⟨S8x2048x256, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Gather.lean ====
abbrev S1x640x128 : Shape := ⟨3, ![1, 640, 128]⟩
abbrev S16384x2 : Shape := ⟨2, ![16384, 2]⟩
abbrev S640x128 : Shape := ⟨2, ![640, 128]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S8x2048x256 : Shape := ⟨3, ![8, 2048, 256]⟩

abbrev nBuf : Table → Nat
  | .hbm => 6
  | .local .scVector .vmem => 2
  | _ => 0

abbrev bufTy : (tb : Table) → Fin (nBuf tb) → BufTy
  | .hbm, ⟨0, _⟩ => ⟨S1x640x128, .f32⟩
  | .hbm, ⟨1, _⟩ => ⟨S16384x2, .i32⟩
  | .hbm, ⟨2, _⟩ => ⟨S640x128, .f32⟩
  | .hbm, ⟨3, _⟩ => ⟨S1x32768, .i32⟩
  | .hbm, ⟨4, _⟩ => ⟨S32768x128, .f32⟩
  | .hbm, ⟨5, _⟩ => ⟨S8x2048x256, .f32⟩
  | .local .scVector .vmem, ⟨0, _⟩ => ⟨S2x1x128, .i32⟩
  | .local .scVector .vmem, ⟨1, _⟩ => ⟨S2x128x128, .f32⟩
  | _, _ => ⟨S1x640x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S1x640x128 : Shape := ⟨3, ![1, 640, 128]⟩
abbrev S16384x2 : Shape := ⟨2, ![16384, 2]⟩
abbrev S640x128 : Shape := ⟨2, ![640, 128]⟩
abbrev S_ : Shape := ⟨0, ![]⟩
abbrev S16384x2x1 : Shape := ⟨3, ![16384, 2, 1]⟩
abbrev S16384x2x128 : Shape := ⟨3, ![16384, 2, 128]⟩
abbrev S8x2048x256 : Shape := ⟨3, ![8, 2048, 256]⟩

abbrev nBuf : Space → Nat
  | .hbm => 13
  | .vmem => 0
  | .smem => 0
  | _ => 0

abbrev bufTy : (tb : Table) → Fin (tcTables nBuf tb) → BufTy
  | .hbm, ⟨0, _⟩ => ⟨S1x640x128, .f32⟩
  | .hbm, ⟨1, _⟩ => ⟨S16384x2, .i32⟩
  | .hbm, ⟨2, _⟩ => ⟨S640x128, .f32⟩
  | .hbm, ⟨3, _⟩ => ⟨S_, .i32⟩
  | .hbm, ⟨4, _⟩ => ⟨S16384x2, .i32⟩
  | .hbm, ⟨5, _⟩ => ⟨S16384x2, .i1⟩
  | .hbm, ⟨6, _⟩ => ⟨S_, .i32⟩
  | .hbm, ⟨7, _⟩ => ⟨S16384x2, .i32⟩
  | .hbm, ⟨8, _⟩ => ⟨S16384x2, .i32⟩
  | .hbm, ⟨9, _⟩ => ⟨S16384x2, .i32⟩
  | .hbm, ⟨10, _⟩ => ⟨S16384x2x1, .i32⟩
  | .hbm, ⟨11, _⟩ => ⟨S16384x2x128, .f32⟩
  | .hbm, ⟨12, _⟩ => ⟨S8x2048x256, .f32⟩
  | _, _ => ⟨S1x640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Gather.Words.lean ====
/-
  The words of the tile's pipeline at trip `t` of its eight. The carried words are, before trip `t`: the slot the next
  fetch takes (`t + 1`), the slot waited for (`t`), the slot written out (`t`), the slot whose write-out is waited for
  (`t - 1`) and the block number (`t`, back at 0 after the last trip). Every condition and every offset the pipeline
  computes from them is decided here over all tiles and trips, so that the run only cites these lemmas.
-/
module

public import proofs.«01_k».proof.Proof.Gen.Gather
public import proofs.«01_k».proof.Proof.Gen.Gather.Skeleton

@[expose] public section

noncomputable section

namespace Cert.Proof.Gather

open Cert.Gather Cert.Gather.Gen
open Idealize.ShloMosaic

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

/-- The first of the tile's eight blocks of 128 rows. -/
def base (i : grid0.Coords) : Nat := 8 * (16 * (i 0).val + (i 1).val)

theorem base_le (i : grid0.Coords) : base i + 8 ≤ 256 := by
  have h0 : (i 0).val < 2 := (i 0).isLt
  have h1 : (i 1).val < 16 := (i 1).isLt
  unfold base; omega

abbrev w (n : Nat) : BitVec 32 := BitVec.ofNat 32 n

theorem trips_eq : k0_t1_loop.trips = 8 := by decide

/-- A statement decided over all tiles and trips holds at a tile and a trip. -/
theorem of_dec {p : grid0.Coords → Fin k0_t1_loop.trips → Prop}
    (h : ∀ (c : Fin 2) (s : Fin 16) (t : Fin k0_t1_loop.trips), p (coordsV c s) t) (i : grid0.Coords)
    (t : Fin k0_t1_loop.trips) : p i t := coordsV_eta i ▸ h (i 0) (i 1) t

/-! ## The conditions -/

/-- The next block is fetched at every trip but the last. -/
theorem cond1_iff (i : grid0.Coords) (t : Fin k0_t1_loop.trips) : k0_cond1 i t (w t.val) = 1#1 ↔ t.val < 7 :=
  of_dec (p := fun i t => k0_cond1 i t (w t.val) = 1#1 ↔ t.val < 7) (by decide +kernel) i t
/-- The block is waited for at every trip. -/
theorem cond2_true (i : grid0.Coords) (t : Fin k0_t1_loop.trips) : k0_cond2 i t (w t.val) = 1#1 :=
  of_dec (p := fun i t => k0_cond2 i t (w t.val) = 1#1) (by decide +kernel) i t
/-- The rows are written out at every trip. -/
theorem cond5_true (i : grid0.Coords) (t : Fin k0_t1_loop.trips) : k0_cond5 i t (w t.val) = 1#1 :=
  of_dec (p := fun i t => k0_cond5 i t (w t.val) = 1#1) (by decide +kernel) i t
/-- The write-out before is waited for at every trip but the first. -/
theorem cond7_iff (i : grid0.Coords) (t : Fin k0_t1_loop.trips) : k0_cond7 i t (w t.val) = 1#1 ↔ 0 < t.val :=
  of_dec (p := fun i t => k0_cond7 i t (w t.val) = 1#1 ↔ 0 < t.val) (by decide +kernel) i t

/-! ## The side conditions -/

theorem chk1_true (i : grid0.Coords) (t : Fin k0_t1_loop.trips) :
    k0_chk1 i t (w (t.val + 1)) (w t.val) (w t.val) (w (t.val - 1)) (w t.val) :=
  of_dec (p := fun i t => k0_chk1 i t (w (t.val + 1)) (w t.val) (w t.val) (w (t.val - 1)) (w t.val)) (by decide +kernel) i t
theorem chk2_true (t : Fin k0_t1_loop.trips) : k0_chk2 (w t.val) := by revert t; decide +kernel
theorem chk3_true (t : Fin k0_t1_loop.trips) : k0_chk3 (w t.val) := by revert t; decide +kernel
theorem chk4_true : k0_chk4 (w 7) := by decide +kernel
theorem chk5_true (i : grid0.Coords) : k0_chk5 i (w 0) :=
  of_dec (p := fun i _ => k0_chk5 i (w 0)) (by decide +kernel) i ⟨0, by decide⟩

/-! ## The offsets -/

theorem off1_eq : k0_off1 = ![0, 0, 0] := by decide +kernel
theorem off2_eq (i : grid0.Coords) : k0_off2 i = ![0, 128 * base i] :=
  of_dec (p := fun i _ => k0_off2 i = ![0, 128 * base i]) (by decide +kernel) i ⟨0, by decide⟩
theorem off3_eq : k0_off3 = ![0] := by decide +kernel
theorem off4_eq (t : Fin k0_t1_loop.trips) : k0_off4 (w (t.val + 1)) = ![(t.val + 1) % 2, 0, 0] := by revert t; decide +kernel
theorem off5_eq (i : grid0.Coords) (t : Fin k0_t1_loop.trips) :
    t.val < 7 → k0_off5 i (w t.val) = ![0, 128 * (base i + (t.val + 1))] :=
  of_dec (p := fun i t => t.val < 7 → k0_off5 i (w t.val) = ![0, 128 * (base i + (t.val + 1))]) (by decide +kernel) i t
theorem off6_eq (t : Fin k0_t1_loop.trips) : k0_off6 (w (t.val + 1)) = ![(t.val + 1) % 2] := by revert t; decide +kernel
theorem off7_eq (t : Fin k0_t1_loop.trips) : k0_off7 (w t.val) = ![t.val % 2, 0, 0] := by revert t; decide +kernel
theorem off9_eq (t : Fin k0_t1_loop.trips) : k0_off9 (w t.val) = ![t.val % 2] := by revert t; decide +kernel
theorem off10_eq (t : Fin k0_t1_loop.trips) : k0_off10 (w t.val) = ![t.val % 2, 0, 0] := by revert t; decide +kernel
theorem off11_eq (t : Fin k0_t1_loop.trips) : k0_off11 (w t.val) = ![t.val % 2, 0, 0] := by revert t; decide +kernel
theorem off12_eq (t : Fin k0_t1_loop.trips) : k0_off12 (w t.val) = ![t.val % 2, 0, 0] := by revert t; decide +kernel
theorem off13_eq (i : grid0.Coords) (t : Fin k0_t1_loop.trips) : k0_off13 i (w t.val) = ![128 * (base i + t.val), 0] :=
  of_dec (p := fun i t => k0_off13 i (w t.val) = ![128 * (base i + t.val), 0]) (by decide +kernel) i t
theorem off14_eq (t : Fin k0_t1_loop.trips) : k0_off14 (w t.val) = ![t.val % 2] := by revert t; decide +kernel
theorem off17_eq (t : Fin k0_t1_loop.trips) : k0_off17 (w (t.val - 1)) = ![(t.val - 1) % 2] := by revert t; decide +kernel
theorem off20_eq : k0_off20 (w 7) = ![1] := by decide +kernel

end Cert.Proof.Gather
end
-- ==== Proof.Gather.Setup.lean ====
/-
  The program as the launch theorem sees it, the ghost state, the arrays and the tile's two pairs of slots: what every
  later module names. A slot is half of a scratch buffer; the sets below say which elements each half, each block of
  row numbers and each run of output rows has, and the contents functions say what the pipeline puts there.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gather.Words

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters
abbrev EH : Emb UH (MT nD τ sig (HIx 1) (Elt F) ℕ UU ℕ) := embL

/-! ## The arrays and the tile -/

/-- The table, the row numbers and the output, as the TensorCore names them. -/
abbrev cLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- The tile's two scratch buffers: two slots of 128 row numbers, two slots of 128 rows. -/
abbrev isLoc (d : Dev nD) (i : grid0.Coords) : Loc nD τ sig := (thr d i).loc cc0_scoped0
abbrev osLoc (d : Dev nD) (i : grid0.Coords) : Loc nD τ sig := (thr d i).loc cc0_scoped2

/-! ## Slots, blocks and cells as the program slices them -/

/-- A slot of the row numbers' scratch. -/
abbrev iSlot (o : Fin 3 → Nat) (h : ∀ a, o a + S1x1x128.size a ≤ S2x1x128.size a) : Memref sig .scVector .vmem S1x128 .i32 :=
  ((Memref.whole cc0_scoped0).slice (Rect.unit (s := S2x1x128) o S1x1x128.size h) (fun _ => rfl)).squeeze S1x128 squeezes_S1x1x128_S1x128
/-- A slot of the row numbers' scratch, as the list the indirect copy reads. -/
abbrev iList (o : Fin 3 → Nat) (h : ∀ a, o a + S1x1x128.size a ≤ S2x1x128.size a) : Memref sig .scVector .vmem S128 .i32 :=
  ((iSlot o h).slice (Rect.unit (s := S1x128) ![0, 0] S1x128.size inb_S1x128_S1x128_0_0) (fun _ => rfl)).squeeze S128 squeezes_S1x128_S128
/-- A slot of the rows' scratch. -/
abbrev oSlot (o : Fin 3 → Nat) (h : ∀ a, o a + S1x128x128.size a ≤ S2x128x128.size a) : Memref sig .scVector .vmem S128x128 .f32 :=
  ((Memref.whole cc0_scoped2).slice (Rect.unit (s := S2x128x128) o S1x128x128.size h) (fun _ => rfl)).squeeze S128x128 squeezes_S1x128x128_S128x128
/-- 128 of the row numbers. -/
abbrev iBlk (o : Fin 2 → Nat) (h : ∀ a, o a + S1x128.size a ≤ S1x32768.size a) : Memref sig .scVector .hbm S1x128 .i32 :=
  (Memref.whole main_v1_scv).slice (Rect.unit (s := S1x32768) o S1x128.size h) (fun _ => rfl)
/-- 128 of the output's rows. -/
abbrev oBlk (o : Fin 2 → Nat) (h : ∀ a, o a + S128x128.size a ≤ S32768x128.size a) : Memref sig .scVector .hbm S128x128 .f32 :=
  (Memref.whole main_v2_scv).slice (Rect.unit (s := S32768x128) o S128x128.size h) (fun _ => rfl)
/-- All of the table. -/
abbrev cAll : Memref sig .scVector .hbm S640x128 .f32 :=
  (Memref.whole main_v0_scv).slice (Rect.unit (s := S640x128) ![0, 0] S640x128.size inb_S640x128_S640x128_0_0) (fun _ => rfl)
/-- A cell of the fetches' pair, of the write-outs' pair. -/
abbrev iSem (o : Fin 1 → Nat) (h : ∀ a, o a + S1.size a ≤ S2.size a) : DmaSem sig :=
  ((cc0_scoped1.slice (Rect.unit (s := S2) o S1.size h)).squeeze S_ squeezes_S1_S_).sem
abbrev oSem (o : Fin 1 → Nat) (h : ∀ a, o a + S1.size a ≤ S2.size a) : DmaSem sig :=
  ((cc0_scoped3.slice (Rect.unit (s := S2) o S1.size h)).squeeze S_ squeezes_S1_S_).sem

theorem semInb (k : Fin 2) : ∀ a, (![k.val] : Fin 1 → Nat) a + S1.size a ≤ S2.size a := by revert k; decide
/-- The fetches' and the write-outs' cell of slot `k`. -/
def semI (k : Fin 2) : DmaSem sig := iSem ![k.val] (semInb k)
def semO (k : Fin 2) : DmaSem sig := oSem ![k.val] (semInb k)

theorem iSem_eq {o : Fin 1 → Nat} (h : ∀ a, o a + S1.size a ≤ S2.size a) {k : Fin 2} (ho : o = ![k.val]) : iSem o h = semI k := by
  subst ho; rfl
theorem oSem_eq {o : Fin 1 → Nat} (h : ∀ a, o a + S1.size a ≤ S2.size a) {k : Fin 2} (ho : o = ![k.val]) : oSem o h = semO k := by
  subst ho; rfl

/-- The slot of step `n`. -/
def par (n : Nat) : Fin 2 := ⟨n % 2, Nat.mod_lt _ (by decide)⟩

/-! ## Which elements -/

def slotI (k : Fin 2) : Finset S2x1x128.Idx := Finset.univ.filter fun x => (x 0).val = k.val
def slotO (k : Fin 2) : Finset S2x128x128.Idx := Finset.univ.filter fun x => (x 0).val = k.val
/-- Rows `lo` up to `hi` of the output. -/
def rowsO (lo hi : Nat) : Finset S32768x128.Idx := Finset.univ.filter fun x => lo ≤ (x 0).val ∧ (x 0).val < hi

theorem set_iSlot {o : Fin 3 → Nat} (h) {k : Fin 2} (ho : o = ![k.val, 0, 0]) : (iSlot o h).view.set = slotI k := by
  subst ho
  refine (View.set_reshape _ _).trans ((View.set_slice_whole _ _).trans ?_)
  ext x
  refine Rect.mem_set_unit.trans ?_
  have h1 : (x 1).val < 1 := (x 1).isLt
  have h2 : (x 2).val < 128 := (x 2).isLt
  simp only [slotI, Finset.mem_filter, Finset.mem_univ, true_and]
  constructor
  · intro H
    have := H 0
    simp at this
    omega
  · intro e a
    match a with
    | 0 => simp [← e]
    | 1 => exact ⟨Nat.zero_le _, show (x 1).val < 0 + 1 by omega⟩
    | 2 => exact ⟨Nat.zero_le _, show (x 2).val < 0 + 128 by omega⟩

theorem set_iList {o : Fin 3 → Nat} (h) {k : Fin 2} (ho : o = ![k.val, 0, 0]) : (iList o h).view.set = slotI k := by
  show (((iSlot o h).view.slice (Rect.unit (s := S1x128) ![0, 0] S1x128.size inb_S1x128_S1x128_0_0)).reshape S128 _).set = _
  rw [View.set_reshape, View.set_slice, ← set_iSlot h ho]
  rw [show (Rect.unit (s := S1x128) ![0, 0] S1x128.size inb_S1x128_S1x128_0_0).set = Finset.univ from ?_]; · rfl
  ext x
  refine Rect.mem_set_unit.trans (iff_of_true (fun a => ?_) (Finset.mem_univ _))
  match a with
  | 0 => exact ⟨Nat.zero_le _, show (x 0).val < 0 + 1 by have : (x 0).val < 1 := (x 0).isLt; omega⟩
  | 1 => exact ⟨Nat.zero_le _, show (x 1).val < 0 + 128 by have : (x 1).val < 128 := (x 1).isLt; omega⟩

theorem set_oSlot {o : Fin 3 → Nat} (h) {k : Fin 2} (ho : o = ![k.val, 0, 0]) : (oSlot o h).view.set = slotO k := by
  subst ho
  refine (View.set_reshape _ _).trans ((View.set_slice_whole _ _).trans ?_)
  ext x
  refine Rect.mem_set_unit.trans ?_
  have h1 : (x 1).val < 128 := (x 1).isLt
  have h2 : (x 2).val < 128 := (x 2).isLt
  simp only [slotO, Finset.mem_filter, Finset.mem_univ, true_and]
  constructor
  · intro H
    have := H 0
    simp at this
    omega
  · intro e a
    match a with
    | 0 => simp [← e]
    | 1 => exact ⟨Nat.zero_le _, show (x 1).val < 0 + 128 by omega⟩
    | 2 => exact ⟨Nat.zero_le _, show (x 2).val < 0 + 128 by omega⟩

theorem set_oBlk {o : Fin 2 → Nat} (h) {r : Nat} (ho : o = ![r, 0]) : (oBlk o h).view.set = rowsO r (r + 128) := by
  subst ho
  refine (View.set_slice_whole _ _).trans ?_
  ext x
  refine Rect.mem_set_unit.trans ?_
  have h1 : (x 1).val < 128 := (x 1).isLt
  simp only [rowsO, Finset.mem_filter, Finset.mem_univ, true_and]
  constructor
  · intro H
    have := H 0
    simpa using this
  · intro e a
    match a with
    | 0 => simpa using e
    | 1 => exact ⟨Nat.zero_le _, show (x 1).val < 0 + 128 by omega⟩

theorem set_cAll : cAll.view.set = Finset.univ := by
  refine (View.set_slice_whole _ _).trans ?_
  ext x
  refine Rect.mem_set_unit.trans (iff_of_true (fun a => ?_) (Finset.mem_univ _))
  match a with
  | 0 => exact ⟨Nat.zero_le _, show (x 0).val < 0 + 640 by have : (x 0).val < 640 := (x 0).isLt; omega⟩
  | 1 => exact ⟨Nat.zero_le _, show (x 1).val < 0 + 128 by have : (x 1).val < 128 := (x 1).isLt; omega⟩

/-! ## Which contents -/

/-- The row a row number names. -/
def rowNo (v : BitVec 32) : Fin 640 := ⟨v.toNat % 640, Nat.mod_lt _ (by decide)⟩

/-- Block `b` of the row numbers, in a slot. -/
def fetched (fi : S1x32768.Idx → BitVec 32) (b : Nat) : S2x1x128.Idx → BitVec 32 :=
  fun x => fi (ix2 (0 : Fin 1) (Fin.ofNat 32768 (128 * b + (x 2).val)))
/-- The rows of the table that block `b` names, in a slot. -/
def gathered (fc : S640x128.Idx → F .f32) (fi : S1x32768.Idx → BitVec 32) (b : Nat) : S2x128x128.Idx → F .f32 :=
  fun x => fc (ix2 (rowNo (fi (ix2 (0 : Fin 1) (Fin.ofNat 32768 (128 * b + (x 1).val))))) (x 2))
/-- The call's result: row `r` is the table's row `fi r`. -/
def result (fc : S640x128.Idx → F .f32) (fi : S1x32768.Idx → BitVec 32) : S32768x128.Idx → F .f32 :=
  fun x => fc (ix2 (rowNo (fi (ix2 (0 : Fin 1) (x 0)))) (x 1))

end Cert.Proof.Gather
end
-- ==== Proof.Gather.Own.lean ====
/-
  What the launch gives a tile, taken apart for the pipeline: each scratch buffer as its two slots, the five counters by
  name.
-/
module

public import proofs.«01_k».proof.Proof.Gather.Trip

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords)

/-- A buffer at some contents is two parts of it, each at some contents. -/
theorem halves {ℓ : Loc nD τ sig} {A B : Finset (Idx ℓ)} (hd : Disjoint A B) (hu : A ∪ B = Finset.univ) :
    iprop(∃ f, ℓ ↦{fullShare} f) = (iprop((∃ f, ℓ ↦[A]{fullShare} f) ∗ ∃ f, ℓ ↦[B]{fullShare} f) : sProp 𝕄) := by
  classical
  have h₁ : iprop(∃ f, ℓ ↦{fullShare} f) ⊢ (iprop((∃ f, ℓ ↦[A]{fullShare} f) ∗ ∃ f, ℓ ↦[B]{fullShare} f) : sProp 𝕄) := by
    iintro ⟨%f, H⟩
    ihave H := (Entails.of_eq (show (ℓ ↦{fullShare} f : sProp 𝕄) = ℓ ↦[A ∪ B]{fullShare} f by rw [hu])) $$ H
    ihave H := (pointsTo_union (Val := Elt F) (ℓ := ℓ) (q := fullShare) (f := f) (Ix := HIx 1) (Name := ℕ) (U := UU) (Lvl := ℕ) hd).1 $$ H
    icases H with ⟨HA, HB⟩
    isplitl [HA]; · iexists f; iexact HA
    iexists f; iexact HB
  have h₂ : iprop((∃ f, ℓ ↦[A]{fullShare} f) ∗ ∃ f, ℓ ↦[B]{fullShare} f) ⊢ (iprop(∃ f, ℓ ↦{fullShare} f) : sProp 𝕄) := by
    iintro ⟨⟨%f, HA⟩, ⟨%g, HB⟩⟩
    have eA : (ℓ ↦[A]{fullShare} f : sProp 𝕄) = ℓ ↦[A]{fullShare} (fun x => if x ∈ A then f x else g x) :=
      pointsTo_congr fun x hx => (if_pos hx).symm
    have eB : (ℓ ↦[B]{fullShare} g : sProp 𝕄) = ℓ ↦[B]{fullShare} (fun x => if x ∈ A then f x else g x) :=
      pointsTo_congr fun x hx => (if_neg (Finset.disjoint_right.mp hd hx)).symm
    ihave HA := (Entails.of_eq eA) $$ HA
    ihave HB := (Entails.of_eq eB) $$ HB
    iexists (fun x => if x ∈ A then f x else g x)
    rw [show (ℓ ↦{fullShare} (fun x => if x ∈ A then f x else g x) : sProp 𝕄) = ℓ ↦[A ∪ B]{fullShare} (fun x => if x ∈ A then f x else g x) by rw [hu]]
    iapply (pointsTo_union (Val := Elt F) (ℓ := ℓ) (q := fullShare) (f := fun x => if x ∈ A then f x else g x) (Ix := HIx 1) (Name := ℕ) (U := UU) (Lvl := ℕ) hd).2
    isplitl [HA]; · iexact HA
    iexact HB
  exact Idealize.SL.BI.Entails.antisymm h₁ h₂

theorem slotsI : iprop(∃ f, isLoc d L ↦{fullShare} f)
    = (iprop((∃ f, isLoc d L ↦[slotI 0]{fullShare} f) ∗ ∃ f, isLoc d L ↦[slotI 1]{fullShare} f) : sProp 𝕄) :=
  halves (Finset.disjoint_left.mpr fun x h h' => absurd ((Finset.mem_filter.mp h).2.symm.trans (Finset.mem_filter.mp h').2) (by decide))
    (Finset.eq_univ_of_forall fun x => by
      have h : (x 0).val < 2 := (x 0).isLt
      refine Finset.mem_union.mpr ?_
      rcases (by omega : (x 0).val = 0 ∨ (x 0).val = 1) with h | h
      · exact .inl (Finset.mem_filter.mpr ⟨Finset.mem_univ _, h⟩)
      · exact .inr (Finset.mem_filter.mpr ⟨Finset.mem_univ _, h⟩))
theorem slotsO : iprop(∃ f, osLoc d L ↦{fullShare} f)
    = (iprop((∃ f, osLoc d L ↦[slotO 0]{fullShare} f) ∗ ∃ f, osLoc d L ↦[slotO 1]{fullShare} f) : sProp 𝕄) :=
  halves (Finset.disjoint_left.mpr fun x h h' => absurd ((Finset.mem_filter.mp h).2.symm.trans (Finset.mem_filter.mp h').2) (by decide))
    (Finset.eq_univ_of_forall fun x => by
      have h : (x 0).val < 2 := (x 0).isLt
      refine Finset.mem_union.mpr ?_
      rcases (by omega : (x 0).val = 0 ∨ (x 0).val = 1) with h | h
      · exact .inl (Finset.mem_filter.mpr ⟨Finset.mem_univ _, h⟩)
      · exact .inr (Finset.mem_filter.mpr ⟨Finset.mem_univ _, h⟩))

/-- The five counters, in the order the program allocates them. -/
def dmaOf : Fin 5 → DmaSem sig := ![semI 0, semI 1, semO 0, semO 1, semG]
abbrev cell (k : Fin 5) : GSem nD τ sig := (thr d L, .dma (dmaOf k))
theorem dmaOf_ne : ∀ a b : Fin 5, a ≠ b → dmaOf a ≠ dmaOf b := by decide
theorem cell_ne {a b : Fin 5} (h : a ≠ b) : cell d L a ≠ cell d L b := fun e =>
  dmaOf_ne a b h (SemLoc.dma.inj (congrArg Prod.snd e))
theorem cell_mem (k : Fin 5) : cell d L k ∈ ownCells (thr d L) :=
  mem_ownCells.mpr ⟨rfl, by show (SemLoc.dma (dmaOf k) : SemLoc sig).isScoped .scVector = true; revert k; decide⟩
/-- The tile's other counters. -/
def otherCells : Finset (GSem nD τ sig) :=
  (((((ownCells (thr d L)).erase (cell d L 0)).erase (cell d L 1)).erase (cell d L 2)).erase (cell d L 3)).erase (cell d L 4)

theorem ownSems0_tile :
    (ownSems0 (thr d L) : sProp 𝕄)
      = iprop(semVal (cell d L 0) 0 ∗ semVal (cell d L 1) 0 ∗ semVal (cell d L 2) 0 ∗ semVal (cell d L 3) 0 ∗ semVal (cell d L 4) 0
          ∗ bigSep (otherCells d L) fun g => semVal g 0) := by
  have ne (a b : Fin 5) (h : a ≠ b := by decide) := cell_ne d L h
  have m0 := cell_mem d L 0
  have m1 := Finset.mem_erase.mpr ⟨ne 1 0, cell_mem d L 1⟩
  have m2 := Finset.mem_erase.mpr ⟨ne 2 1, Finset.mem_erase.mpr ⟨ne 2 0, cell_mem d L 2⟩⟩
  have m3 := Finset.mem_erase.mpr ⟨ne 3 2, Finset.mem_erase.mpr ⟨ne 3 1, Finset.mem_erase.mpr ⟨ne 3 0, cell_mem d L 3⟩⟩⟩
  have m4 := Finset.mem_erase.mpr ⟨ne 4 3, Finset.mem_erase.mpr ⟨ne 4 2, Finset.mem_erase.mpr ⟨ne 4 1, Finset.mem_erase.mpr ⟨ne 4 0, cell_mem d L 4⟩⟩⟩⟩
  unfold SparseCore.Cfg.ownSems0 otherCells
  rw [SparseCore.bigSep_erase' m0, SparseCore.bigSep_erase' m1, SparseCore.bigSep_erase' m2, SparseCore.bigSep_erase' m3, SparseCore.bigSep_erase' m4]

/-- The tile's other buffers. -/
def otherBufs : Finset (DevRef τ sig) :=
  ((ownRefs (τ := τ) (.scVector (cV L) (jV L))).erase ((Proc.scVector (cV L) (jV L)).devRef cc0_scoped0)).erase
    ((Proc.scVector (cV L) (jV L)).devRef cc0_scoped2)

theorem ownBufs_tile :
    (ownBufs (thr d L) : sProp 𝕄)
      = iprop((∃ f, isLoc d L ↦{fullShare} f) ∗ (∃ f, osLoc d L ↦{fullShare} f)
          ∗ bigSep (otherBufs L) fun b => iprop(∃ f, ((d, b) : Loc nD τ sig) ↦{fullShare} f)) := by
  unfold SparseCore.Cfg.ownBufs otherBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Cert.Proof.Gather
end
-- ==== Proof.Gather.Tile.lean ====
/-
  A tile's run: the first block's fetch, the eight trips, the last write-out's wait. It reads the table and the row
  numbers at shares, and fills its 1024 rows of the output with the rows its numbers name.
-/
module

public import proofs.«01_k».proof.Proof.Gather.Own

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {L : grid0.Coords}
variable {fc : S640x128.Idx → F .f32} {fi : S1x32768.Idx → BitVec 32} {f0 : S32768x128.Idx → F .f32}
variable {qc : PosShare TreeShare} {qi : Fin 2 → PosShare TreeShare}

local notation "WP" => wp frame (wpE (defs₀ (F := F)) 𝒱₀ (thr d L) none) Set.univ

/-- The tile's first block, as the program computes it. -/
theorem base_word (L : grid0.Coords) :
    Scalar.muli (Scalar.addi (Scalar.addi 0#32 (Scalar.muli (BitVec.ofNat 32 (L 1).val) 1#32)) (Scalar.muli (BitVec.ofNat 32 (L 0).val) 16#32)) 8#32
      = BitVec.ofNat 32 (base L) := by
  rw [← coordsV_eta L]
  generalize L 0 = a
  generalize L 1 = b
  revert a b
  decide +kernel

/-- What the tile is handed and hands back: its shares of the table and the row numbers, its rows of the output. -/
def tilePts (d : Dev nD) (L : grid0.Coords) (fc : S640x128.Idx → F .f32) (fi : S1x32768.Idx → BitVec 32) (qc : PosShare TreeShare)
    (qi : Fin 2 → PosShare TreeShare) (f : S32768x128.Idx → F .f32) : sProp 𝕄 :=
  iprop((cLoc d ↦{qc} fc) ∗ (iLoc d ↦{qi 0} fi) ∗ (iLoc d ↦{qi 1} fi)
    ∗ oLoc d ↦[rowsO (128 * base L) (128 * (base L + 8))]{fullShare} (f : Buf (Elt F) (oLoc d)))

set_option maxHeartbeats 400000 in
theorem tile_body (hF : (K (F := F)).Facts) (hfi : InRange fi) (O : CellTallies nD τ sig (HIx 1)) (W : Waits sig (HIx 1)) (hO : ∀ g, O g none = 0) :
    iprop(levAts (K (F := F)).L (K (F := F)).lev ∗ emp ∗ tilePts d L fc fi qc qi f0
        ∗ scopedBufs (thr d L) ∗ scopedSems0 (thr d L) ∗ owes (thr d L) O W)
      ⊢ WP (cc0_k L (Memref.whole main_v0_scv) (Memref.isWhole_whole _) (Memref.whole main_v1_scv) (Memref.isWhole_whole _)
          (Memref.whole main_v2_scv) (Memref.isWhole_whole _) (Memref.whole cc0_scoped0) (Memref.isWhole_whole _) cc0_scoped1
          (Memref.whole cc0_scoped2) (Memref.isWhole_whole _) cc0_scoped3 cc0_scoped4)
        fun _ => iprop(tilePts d L fc fi qc qi (result fc fi) ∗ scopedBufs (thr d L) ∗ scopedSems0 (thr d L) ∗ Owed d L O W) := by
  simp only [cc0_k_eq_skeleton]
  unfold cc0_k_skel
  simp only [k0_part3_eq_skeleton, k0_part4_eq_skeleton]
  unfold k0_part3_skel tilePts
  simp only [wp_bind]
  rw [(K (F := F)).scopedBufs_V hF d (cV L) (jV L), SparseCore.Cfg.scopedSems0_V (Val := Elt F) d (cV L) (jV L), ownSems0_tile, ownBufs_tile,
    slotsI, slotsO]
  iintro ⟨#Hlv, -, ⟨Hc, Hi0, Hi1, Ho⟩, ⟨⟨Hs0, Hs1⟩, ⟨Hr0, Hr1⟩, Hbufs⟩, ⟨Hv0, Hv1, Hw0, Hw1, Hg, Hsems⟩, HO⟩
  ihave #Hmw := (show levAts (K (F := F)).L (K (F := F)).lev ⊢ Transfers.MayWaits (thr d L) (default : HIx 1) O from
    (K (F := F)).mayWaits_none (thr := thr d L) hO) $$ Hlv
  -- block 0's fetch
  have hb := base_le L
  iapply (wp_fetch _ _ _ (k := 0) (b := base L) (by omega) off1_eq (off2_eq L) off3_eq) $$ [Hi0 Hs0 Hv0]
  · isplitl [Hi0]; · iexact Hi0
    isplitl [Hs0]; · iexact Hs0
    iexact Hv0
  iintro Hf
  sl_step
  rw [base_word L]
  unfold k0_part4_skel
  simp only [wp_bind]
  iapply (Scf.wp_for (I := inv d L fc fi f0 qc qi O W) (hbody := fun t acc => trip hfi t acc))
  isplitl [Hf Hi1 Hs1 Hv1 Hr0 Hr1 Hw0 Hw1 Hc Hg Ho HO]
  · unfold inv
    isplitr
    · ipureintro; decide
    isplitl [Hf]
    · rw [nextI_busy d L fi qi (by decide)]
      iexact Hf
    isplitl [Hi1 Hs1 Hv1]
    · unfold idleI
      isplitl [Hs1]; · iexact Hs1
      isplitl [Hi1]; · iexact Hi1
      iexact Hv1
    isplitl [Hr1 Hw1]
    · rw [lastO_first, idleO_eq]
      isplitl [Hr1]; · iexact Hr1
      iexact Hw1
    isplitl [Hr0 Hw0]
    · rw [idleO_eq]
      isplitl [Hr0]; · iexact Hr0
      iexact Hw0
    isplitl [Hc]; · iexact Hc
    isplitl [Hg]; · iexact Hg
    isplitr [Ho HO]
    · rw [show rowsO (128 * base L) (128 * (base L + (0 - 1))) = ∅ from
        Finset.filter_eq_empty_iff.mpr fun x _ h => absurd h.1 (by have := h.2; simp only [Nat.zero_sub, Nat.add_zero] at this; omega), pointsTo_empty]
      iempintro
    isplitl [Ho]; · iexact Ho
    isplitl [HO]
    · unfold Owed
      iexists W
      isplitr
      · ipureintro; exact fun p hp => .inl hp
      iexact HO
    iexact Hmw
  iintro %acc HI
  ihave HI := (Entails.of_eq (show inv d L fc fi f0 qc qi O W k0_t1_loop.trips acc = inv d L fc fi f0 qc qi O W 8 acc by rw [trips_eq])) $$ HI
  unfold inv
  icases HI with ⟨%hacc, HI0, HI1, HO1, HO0, Hc, Hg, Hd, -, Ho, -⟩
  subst hacc
  iapply (wp_ask (show k0_chk5 L (accAt 8).2.2.2.2 from chk5_true L))
  iapply (wp_ask (show k0_chk4 (accAt 8).2.2.2.1 from chk4_true))
  sl_step
  -- the last write-out's arrival
  ihave Hf := (Entails.of_eq (lastO_busy d L fc fi 7)) $$ HO1
  iapply (wp_await_out (k := 1) (show k0_off20 (accAt 8).2.2.2.1 = _ from off20_eq)) $$ [Hf Ho]
  · isplitl [Hf]; · iexact Hf
    isplitl [Ho]; · iexact Ho
    iexact Hmw
  iintro ⟨⟨Hn, Hr1⟩, Hw1, Ho⟩
  sl_step
  ihave HI0 := (Entails.of_eq (nextI_idle d L fi qi (show ¬(8 < 8) by decide))) $$ HI0
  ihave HI1 := (Entails.of_eq (idleI_eq d L fi qi (par (8 + 1)))) $$ HI1
  ihave HO0 := (Entails.of_eq (idleO_eq d L (par 8))) $$ HO0
  icases HI0 with ⟨Hs0, Hi0, Hv0⟩
  icases HI1 with ⟨Hs1, Hi1, Hv1⟩
  icases HO0 with ⟨Hr0, Hw0⟩
  rw [rowsO_split d (lo := 128 * base L) (mid := 128 * (base L + 7)) (hi := 128 * (base L + 8)) (by omega) (by omega) (result fc fi)]
  isplitl [Hc Hi0 Hi1 Hd Hn]
  · isplitl [Hc]; · iexact Hc
    isplitl [Hi0]; · iexact Hi0
    isplitl [Hi1]; · iexact Hi1
    isplitl [Hd]; · iexact Hd
    rw [show 128 * (base L + 8) = 128 * (base L + 7) + 128 by omega]
    iexact Hn
  isplitl [Hs0 Hs1 Hr0 Hr1 Hbufs]
  · isplitl [Hs0 Hs1]
    · isplitl [Hs0]; · iexact Hs0
      iexact Hs1
    isplitl [Hr0 Hr1]
    · isplitl [Hr0]; · iexact Hr0
      iexact Hr1
    iexact Hbufs
  isplitl [Hv0 Hv1 Hw0 Hw1 Hg Hsems]
  · isplitl [Hv0]; · iexact Hv0
    isplitl [Hv1]; · iexact Hv1
    isplitl [Hw0]; · iexact Hw0
    isplitl [Hw1]; · iexact Hw1
    isplitl [Hg]; · iexact Hg
    iexact Hsems
  iexact Ho

end Cert.Proof.Gather
end
-- ==== Proof.Gather.Call.lean ====
/-
  The call, for the launch: what the two handshakes carry, the tiles' obligation from their run, a SparseCore's part
  taken apart and put together. The table, the row numbers and the output's contents before are each device's own.
-/
module

public import proofs.«01_k».proof.Proof.Gather.Deal

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (fc : Dev nD → S640x128.Idx → F .f32) (fi : Dev nD → S1x32768.Idx → BitVec 32) (f0 : Dev nD → S32768x128.Idx → F .f32)

def P : (K (F := F)).Pay (nD := nD) (Val := Elt F) (Name := ℕ) (U := UU) where
  st := fun q d c => match q with | 0 => corePts d (fc d) (fi d) (f0 d) (Fin.cast nCore_zero c)
  dn := fun q d c => match q with | 0 => corePts d (fc d) (fi d) (result (fc d) (fi d)) (Fin.cast nCore_zero c)
  go := fun q d c i => match q with | 0 => taskPts d (fc d) (fi d) (f0 d) (Fin.cast nCore_zero c) (Fin.cast nSub_zero i)
  td := fun q d c i => match q with | 0 => taskPts d (fc d) (fi d) (result (fc d) (fi d)) (Fin.cast nCore_zero c) (Fin.cast nSub_zero i)
  x := fun _ _ => iprop(emp)

instance corePts_storable (d : Dev nD) (gc gi g c) : BI.Storable (upEmb : UEmb _ 𝕄) (corePts (F := F) d gc gi g c) := by
  unfold corePts; infer_instance
instance taskPts_storable (d : Dev nD) (gc gi g c i) : BI.Storable (upEmb : UEmb _ 𝕄) (taskPts (F := F) d gc gi g c i) := by
  unfold taskPts tilePts; infer_instance

instance P_storable : (P fc fi f0).IsStorable where
  st q d c := match q with | 0 => corePts_storable d _ _ _ _
  dn q d c := match q with | 0 => corePts_storable d _ _ _ _
  go q d c i := match q with | 0 => taskPts_storable d _ _ _ _ _
  td q d c i := match q with | 0 => taskPts_storable d _ _ _ _ _

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _)
          (Memref.whole main_v2_scv) (Memref.isWhole_whole _) (Memref.whole cc0_scoped0) (Memref.isWhole_whole _) cc0_scoped1
          (Memref.whole cc0_scoped2) (Memref.isWhole_whole _) cc0_scoped3 cc0_scoped4) ⟨⟩ c s := rfl

theorem obl_post {d : Dev nD} {L : grid0.Coords} {A B C : sProp 𝕄} {O : CellTallies nD τ sig (HIx 1)} {W : Waits sig (HIx 1)} {q : Fin 1} :
    iprop(A ∗ B ∗ C ∗ Owed d L O W)
      ⊢ iprop(A ∗ B ∗ C ∗ ∃ W', ⌜∀ p ∈ W', p ∈ W ∨ p.2 = none ∨ p.2 = some q⌝ ∗ owes (thr d L) O W') := by
  unfold Owed
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

theorem tileObl (hfi : ∀ d, InRange (fi d)) : (K (F := F)).TileObl (D (F := F)) 𝒱 (P fc fi f0) v₀ 0 := by
  intro d c i O W hO _ _
  simp only [show (P fc fi f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact BIBase.Entails.trans (tile_body (d := d) (L := coordsV ⟨_, hci.1⟩ ⟨_, hci.2⟩) (fc := fc d) (fi := fi d) (f0 := f0 d) (qc := qTile (Fin.cast nCore_zero c) (Fin.cast nSub_zero i))
    (qi := qSlot (Fin.cast nCore_zero c) (Fin.cast nSub_zero i)) facts (hfi d) O W hO) (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fc fi f0) 0 := by
  intro d c
  show corePts d (fc d) (fi d) (f0 d) (Fin.cast nCore_zero c) ⊢ |={Set.univ}=> iprop(
      (bigSep Finset.univ fun i : Fin ((K (F := F)).nSub 0) => taskPts d (fc d) (fi d) (f0 d) (Fin.cast nCore_zero c) (Fin.cast nSub_zero i))
      ∗ ((bigSep Finset.univ fun i : Fin ((K (F := F)).nSub 0) => taskPts d (fc d) (fi d) (result (fc d) (fi d)) (Fin.cast nCore_zero c) (Fin.cast nSub_zero i))
          -∗ corePts d (fc d) (fi d) (result (fc d) (fi d)) (Fin.cast nCore_zero c)))
  rw [bigSep_tasks (taskPts d (fc d) (fi d) (f0 d) (Fin.cast nCore_zero c)),
    bigSep_tasks (taskPts d (fc d) (fi d) (result (fc d) (fi d)) (Fin.cast nCore_zero c)), corePts_eq, corePts_eq]
  iintro ⟨Hk, H⟩
  imodintro
  isplitl [H]; · iexact H
  iintro H
  isplitl [Hk]; · iexact Hk
  iexact H

/-- All of the call's arrays are what the SparseCores are handed, and what they hand back. -/
theorem st_eq (d : Dev nD) : (bigSep Finset.univ fun c : Fin ((K (F := F)).nCore 0) => (P fc fi f0).st 0 d c)
    = iprop((cLoc d ↦{fullShare} fc d) ∗ (iLoc d ↦{fullShare} fi d) ∗ oLoc d ↦{fullShare} (f0 d : Buf (Elt F) (oLoc d))) :=
  (bigSep_cores (corePts d (fc d) (fi d) (f0 d))).trans (cores_eq d (fc d) (fi d) (f0 d)).symm
theorem dn_eq (d : Dev nD) : (bigSep Finset.univ fun c : Fin ((K (F := F)).nCore 0) => (P fc fi f0).dn 0 d c)
    = iprop((cLoc d ↦{fullShare} fc d) ∗ (iLoc d ↦{fullShare} fi d) ∗ oLoc d ↦{fullShare} (result (fc d) (fi d) : Buf (Elt F) (oLoc d))) :=
  (bigSep_cores (corePts d (fc d) (fi d) (result (fc d) (fi d)))).trans (cores_eq d (fc d) (fi d) (result (fc d) (fi d))).symm

/-! ## The ghost state at the launch -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fc fi f0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [emps]; iempintro
  rw [show (bigSep Finset.univ fun thr : Thread nD τ => bigSep Finset.univ fun q : Fin 1 => (P fc fi f0).x q thr) = bigSep Finset.univ fun _ => iprop(emp) from
    bigSep_congr fun _ _ => bigSep_univ_of_subsingleton (0 : Fin 1), emps]
  iempintro

end Cert.Proof.Gather
end
-- ==== Proof.Gather.Host.lean ====
/-
  @main's arrays: their contents at the launch, before the call, after it and at the end, and the call's three arrays among
  them.
-/
module

public import proofs.«01_k».proof.Proof.Gather.Call

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

abbrev vLoc (d : Dev nD) (b : Ref sig .tc) : Loc nD τ sig := (SparseCore.T d : Thread nD τ).loc b

/-! ## The arrays' contents along @main -/

abbrev hostIn0 : HloOp τ sig (Elt F) := StableHlo.reshape main_arg0 main_v0 (rfl : (.f32 : EltTy) = .f32) shapeCasts_S1x640x128_S640x128
abbrev hostIn1 : HloOp τ sig (Elt F) := StableHlo.reshape main_arg1 main_v1 (rfl : (.i32 : EltTy) = .i32) shapeCasts_S16384x2_S1x32768
abbrev hostOut : HloOp τ sig (Elt F) := StableHlo.reshape main_v2 main_v3 (rfl : (.f32 : EltTy) = .f32) shapeCasts_S32768x128_S8x2048x256

/-- At the launch; before the call; after it; at the end. -/
def V0 (d : Dev nD) : Valuation τ sig (Elt F) := fun b => m (d, b)
def V1 (d : Dev nD) : Valuation τ sig (Elt F) := hostIn1.result (hostIn0.result (V0 m d))
def V2 (d : Dev nD) : Valuation τ sig (Elt F) := Function.update (V1 m d) (Proc.devRef .tc main_v2) (result (V1 m d (Proc.devRef .tc main_v0)) (V1 m d (Proc.devRef .tc main_v1)))
def V3 (d : Dev nD) : Valuation τ sig (Elt F) := hostOut.result (V2 m d)

def rows (d : Dev nD) : S640x128.Idx → F .f32 := V1 m d (Proc.devRef .tc main_v0)
def nums (d : Dev nD) : S1x32768.Idx → BitVec 32 := V1 m d (Proc.devRef .tc main_v1)
def before (d : Dev nD) : S32768x128.Idx → F .f32 := V1 m d (Proc.devRef .tc main_v2)

/-- The row numbers given name rows. -/
def PreOK : Prop := ∀ (d : Dev nD) (x : S16384x2.Idx), ((m (vLoc d main_arg1) : S16384x2.Idx → BitVec 32) x).toNat < 640

theorem rows_eq (d : Dev nD) : rows m d = shapeCast S640x128 (m (vLoc d main_arg0) : S1x640x128.Idx → F .f32) shapeCasts_S1x640x128_S640x128 := by
  unfold rows V1
  rw [StableHlo.reshape_result_ne, StableHlo.reshape_result]
  · rfl
  all_goals decide
theorem nums_eq (d : Dev nD) : nums m d = shapeCast S1x32768 (m (vLoc d main_arg1) : S16384x2.Idx → BitVec 32) shapeCasts_S16384x2_S1x32768 := by
  unfold nums V1
  rw [StableHlo.reshape_result, StableHlo.reshape_result_ne]
  · rfl
  all_goals decide
theorem nums_inRange (h : PreOK m) (d : Dev nD) : InRange (nums m d) := fun x => by rw [nums_eq]; exact h d _

theorem V3_out (d : Dev nD) : (V3 m d (Proc.devRef .tc main_v3) : S8x2048x256.Idx → F .f32)
    = shapeCast S8x2048x256 (result (rows m d) (nums m d)) shapeCasts_S32768x128_S8x2048x256 := by
  unfold V3
  rw [StableHlo.reshape_result]
  unfold V2
  rw [Function.update_self]
  rfl
theorem V3_arg0 (d : Dev nD) : V3 m d (Proc.devRef .tc main_arg0) = m (vLoc d main_arg0) := by
  unfold V3 V2 V1
  rw [StableHlo.reshape_result_ne, Function.update_of_ne (by decide), StableHlo.reshape_result_ne,
    StableHlo.reshape_result_ne]
  · rfl
  all_goals decide
theorem V3_arg1 (d : Dev nD) : V3 m d (Proc.devRef .tc main_arg1) = m (vLoc d main_arg1) := by
  unfold V3 V2 V1
  rw [StableHlo.reshape_result_ne, Function.update_of_ne (by decide), StableHlo.reshape_result_ne,
    StableHlo.reshape_result_ne]
  · rfl
  all_goals decide

/-! ## The call's arrays among @main's -/

def callRefs : Finset (DevRef τ sig) := {Proc.devRef .tc main_v0, Proc.devRef .tc main_v1, Proc.devRef .tc main_v2}
theorem callRefs_sub : callRefs ⊆ Pipeline.ucRefs τ sig := by decide

theorem held_call (d : Dev nD) (V : Valuation τ sig (Elt F)) :
    (StableHlo.held (T d) callRefs V : sProp 𝕄)
      = iprop((cLoc d ↦{fullShare} V (Proc.devRef .tc main_v0)) ∗ (iLoc d ↦{fullShare} V (Proc.devRef .tc main_v1)) ∗ oLoc d ↦{fullShare} V (Proc.devRef .tc main_v2)) := by
  unfold StableHlo.held callRefs
  rw [SparseCore.bigSep_insert' (by decide), SparseCore.bigSep_insert' (by decide), bigSep_singleton]

/-- The other arrays keep their contents over the call. -/
theorem held_rest (d : Dev nD) : (StableHlo.held (T d) (Pipeline.ucRefs τ sig \ callRefs) (V1 m d) : sProp 𝕄)
    = StableHlo.held (T d) (Pipeline.ucRefs τ sig \ callRefs) (V2 m d) :=
  StableHlo.held_congr _ fun b hb => by
    unfold V2
    rw [Function.update_of_ne]
    rintro rfl
    exact (Finset.mem_sdiff.mp hb).2 (by decide)

theorem held_before (d : Dev nD) : (StableHlo.held (T d) (Pipeline.ucRefs τ sig) (V1 m d) : sProp 𝕄)
    = iprop(((cLoc d ↦{fullShare} rows m d) ∗ (iLoc d ↦{fullShare} nums m d) ∗ oLoc d ↦{fullShare} (before m d : Buf (Elt F) (oLoc d)))
        ∗ StableHlo.held (T d) (Pipeline.ucRefs τ sig \ callRefs) (V2 m d)) := by
  rw [StableHlo.held_sub_split _ callRefs_sub, held_call, held_rest]
  rfl
theorem held_after (d : Dev nD) : (StableHlo.held (T d) (Pipeline.ucRefs τ sig) (V2 m d) : sProp 𝕄)
    = iprop(((cLoc d ↦{fullShare} rows m d) ∗ (iLoc d ↦{fullShare} nums m d) ∗ oLoc d ↦{fullShare} (result (rows m d) (nums m d) : Buf (Elt F) (oLoc d)))
        ∗ StableHlo.held (T d) (Pipeline.ucRefs τ sig \ callRefs) (V2 m d)) := by
  have h0 : V2 m d (Proc.devRef .tc main_v0) = V1 m d (Proc.devRef .tc main_v0) := by unfold V2; rw [Function.update_of_ne (by decide)]
  have h1 : V2 m d (Proc.devRef .tc main_v1) = V1 m d (Proc.devRef .tc main_v1) := by unfold V2; rw [Function.update_of_ne (by decide)]
  have h2 : V2 m d (Proc.devRef .tc main_v2) = result (V1 m d (Proc.devRef .tc main_v0)) (V1 m d (Proc.devRef .tc main_v1)) := by unfold V2; rw [Function.update_self]
  rw [StableHlo.held_sub_split _ callRefs_sub, held_call, h0, h1, h2]
  rfl

/-- The result's contents at the end. -/
def out (d : Dev nD) : S8x2048x256.Idx → F .f32 := shapeCast S8x2048x256 (result (rows m d) (nums m d)) shapeCasts_S32768x128_S8x2048x256

/-- What @main leaves: the arguments and the result. -/
abbrev FIN (d : Dev nD) : sProp 𝕄 :=
  iprop((vLoc d main_arg0 ↦{fullShare} m (vLoc d main_arg0)) ∗ (vLoc d main_arg1 ↦{fullShare} m (vLoc d main_arg1))
    ∗ vLoc d main_v3 ↦{fullShare} (out m d : Buf (Elt F) (vLoc d main_v3)))

theorem held_end (d : Dev nD) : (StableHlo.held (T d) (Pipeline.ucRefs τ sig) (V3 m d) : sProp 𝕄) ⊢ FIN m d := by
  rw [StableHlo.held_sub_split _ (show ({Proc.devRef .tc main_arg0, Proc.devRef .tc main_arg1, Proc.devRef .tc main_v3} : Finset (DevRef τ sig)) ⊆ _ by decide)]
  refine sep_elim_left.trans (Entails.of_eq ?_)
  unfold StableHlo.held FIN
  rw [SparseCore.bigSep_insert' (by decide), SparseCore.bigSep_insert' (by decide), bigSep_singleton, V3_arg0, V3_arg1]
  show iprop(_ ∗ _ ∗ vLoc d main_v3 ↦{fullShare} (V3 m d (Proc.devRef .tc main_v3) : S8x2048x256.Idx → F .f32)) = _
  rw [V3_out]
  rfl

end Cert.Proof.Gather
end
-- ==== Proof.Gather.Launch.lean ====
/-
  @main: the two reshapes before the call, the call, the reshape after it; every memory afterwards holds the gathered rows
  in the result's shape and the arguments as they were.
-/
module

public import proofs.«01_k».proof.Proof.Gather.Host

@[expose] public section

noncomputable section

namespace Cert.Proof.Gather

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main -/

abbrev PM : (K (F := F)).Pay (nD := nD) (Val := Elt F) (Name := ℕ) (U := UU) := P (rows m) (nums m) (before m)

theorem bufs_held (d : Dev nD) : (unscopedBufs d (fun b => m ((SparseCore.T d : Thread nD τ).loc b)) : sProp 𝕄)
    = StableHlo.held (SparseCore.T d) (Pipeline.ucRefs τ sig) (V0 m d) :=
  (show (unscopedBufs d (fun b => m ((SparseCore.T d : Thread nD τ).loc b)) : sProp 𝕄) = unscopedBufs d (fun b => V0 m d (Proc.devRef .tc b)) from rfl).trans
    (Pipeline.unscopedBufs_held d (V0 m d))

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_held]
  simp only [main, wp_bind, wp_pure]
  iintro ⟨#Hctx, Hst, ⟨Hb, Hh, Hts, -⟩, -⟩
  iapply (StableHlo.wp_hlo_within 𝒱 (T d) none Set.univ (op := hostIn0) (S := Pipeline.ucRefs τ sig) (Pipeline.sub_ucRefs _ (StableHlo.reshape_bufs_sub ..)) (V := V0 m d)) $$ [Hb Hh]
  · isplitl [Hb]; · iexact Hb
    iexact Hh
  iintro ⟨Hb, Hh⟩
  simp only [wp_ret]
  imodintro
  iapply (StableHlo.wp_hlo_within 𝒱 (T d) none Set.univ (op := hostIn1) (S := Pipeline.ucRefs τ sig) (Pipeline.sub_ucRefs _ (StableHlo.reshape_bufs_sub ..)) (V := hostIn0.result (V0 m d))) $$ [Hb Hh]
  · isplitl [Hb]; · iexact Hb
    iexact Hh
  iintro ⟨Hb, Hh⟩
  simp only [wp_ret]
  imodintro
  ihave Hh' := (Entails.of_eq (show StableHlo.held (SparseCore.T d) (Pipeline.ucRefs τ sig) (hostIn1.result (hostIn0.result (V0 m d))) = _ from held_before m d)) $$ Hh
  icases Hh' with ⟨Hcall, Hrest⟩
  iapply ((K (F := F)).wp_run (D (F := F)) 𝒱 (EH := EH) (P := PM m) κ d 0) $$ [Hst Hcall Hrest Hb Hts]
  isplitr; · iexact Hctx
  isplitl [Hst]; · iexact Hst
  isplitl [Hcall]
  · rw [st_eq]; iexact Hcall
  iintro ⟨Hst, Hdn⟩
  ihave Hdn' := (Entails.of_eq (dn_eq (rows m) (nums m) (before m) d)) $$ Hdn
  ihave Hh := (Entails.of_eq (held_after m d).symm) $$ [Hdn' Hrest]
  · isplitl [Hdn']; · iexact Hdn'
    iexact Hrest
  iapply (StableHlo.wp_hlo_within 𝒱 (T d) none Set.univ (op := hostOut) (S := Pipeline.ucRefs τ sig) (Pipeline.sub_ucRefs _ (StableHlo.reshape_bufs_sub ..)) (V := V2 m d)) $$ [Hb Hh]
  · isplitl [Hb]; · iexact Hb
    iexact Hh
  iintro ⟨Hb, Hh⟩
  simp only [wp_ret]
  imodintro
  imodintro
  isplitl [Hst]; · iexact Hst
  isplitl [Hh]
  · iapply (show StableHlo.held (SparseCore.T d) (Pipeline.ucRefs τ sig) (hostOut.result (V2 m d)) ⊢ FIN m d from held_end m d); iexact Hh
  isplitl [Hb] <;> iassumption

/-! ## The whole program's run -/

def fq (d : Dev nD) (s' : Phys nD τ sig (Elt F)) : Prop :=
  s'.mem.mem (vLoc d main_v3) = out m d ∧ s'.mem.mem (vLoc d main_arg0) = m (vLoc d main_arg0) ∧ s'.mem.mem (vLoc d main_arg1) = m (vLoc d main_arg1)

theorem agree {s' : Phys nD τ sig (Elt F)} {ℓ : Loc nD τ sig} {g : Buf (Elt F) ℓ} :
    iprop(SI s' ∗ ℓ ↦{fullShare} g) ⊢ (iprop(⌜s'.mem.mem ℓ = g⌝ ∗ SI s' ∗ ℓ ↦{fullShare} g) : sProp 𝕄) := by
  refine BIBase.Entails.trans (persistent_entails_right (SI_pointsTo_agree (st := s') (ℓ := ℓ) (I := Finset.univ) (q := fullShare) (f := g))) ?_
  iintro ⟨%h, H⟩
  isplitr
  · ipureintro; exact funext fun i => h i (Finset.mem_univ i)
  iexact H

theorem hfin (d : Dev nD) (s' : Phys nD τ sig (Elt F)) : iprop(FIN m d ∗ SI s') ⊢ (⌜fq m d s'⌝ : sProp 𝕄) := by
  iintro ⟨⟨H0, H1, H3⟩, HSI⟩
  ihave H := agree $$ [HSI H0]
  · isplitl [HSI] <;> iassumption
  icases H with ⟨%h0, HSI, -⟩
  ihave H := agree $$ [HSI H1]
  · isplitl [HSI] <;> iassumption
  icases H with ⟨%h1, HSI, -⟩
  ihave H := agree $$ [HSI H3]
  · isplitl [HSI] <;> iassumption
  icases H with ⟨%h3, -, -⟩
  ipureintro
  exact ⟨h3, h0, h1⟩

def QC : PUnit × MemSt nD τ sig (Elt F) → Prop := fun r =>
  (∀ c : Dev nD, r.2.mem (vLoc c main_v3) = out m c ∧ r.2.mem (vLoc c main_arg0) = m (vLoc c main_arg0) ∧ r.2.mem (vLoc c main_arg1) = m (vLoc c main_arg1))
    ∧ r.2.sem = fun _ => 0

theorem run_main [∀ e, Nonempty (Elt F e)] (hpre : PreOK m) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (rows m) (nums m) (before m) (nums_inRange m hpre))
    (fun q _ => match q with | 0 => SparseCore.Cfg.VecSplit.of_plain (vecSplit (rows m) (nums m) (before m)))
    m ρ main (fun _ => iprop(emp)) (FIN m) (u₀ (F := F)) (sep_elim_left.trans (hu₀ (rows m) (nums m) (before m))) (hmain m ρ) (fq m) (hfin m) (QC m) (fun _ h hz => ⟨h, hz⟩)

end Cert.Proof.Gather
end
-- ==== Proof.Gather.Reference.lean ====
/-
  The reference of the gather alone at its result: `rows[indices]` in the result's shape is what the call leaves.
-/
module

public import proofs.«01_k».proof.Proof.Gather.Launch
public import proofs.«01_k».proof.Proof.Gen.GatherRef.Run
public import Idealize.ShloMosaic.Lib.ValueLayout
public import Idealize.ShloMosaic.Lib.Pointwise.Reshape

@[expose] public section

noncomputable section

namespace Cert.Proof.Gather

open Idealize.ShloMosaic hiding ix0 ix1 ix2 ix3 ix4 eq_ix1 eq_ix2 eq_ix3
open Idealize.SL.Sem
open Idealize.ShloMosaic.ValueIdx

open Cert.GatherRef.Gen Cert.Gather.Gen

variable {F : FTy → Type} [FloatOps F]

/-- A row number in range, read as the reference reads it: not negative, so itself. -/
theorem wrapped {v : BitVec 32} (h : v.toNat < 640) :
    (Scalar.select (IntOp.cmpi .slt v 0#32) (IntOp.addi v 640#32) v).toInt.toNat = v.toNat := by
  have e : IntOp.cmpi .slt v 0#32 = 0#1 := by
    simp only [IntOp.cmpi, BitVec.slt_eq_decide, BitVec.toInt_eq_toNat_cond]
    have : decide ((if 2 * v.toNat < 2 ^ 32 then (v.toNat : ℤ) else (v.toNat : ℤ) - (2 ^ 32 : ℕ)) < (if 2 * (0#32 : BitVec 32).toNat < 2 ^ 32 then ((0#32 : BitVec 32).toNat : ℤ) else ((0#32 : BitVec 32).toNat : ℤ) - (2 ^ 32 : ℕ))) = false := by
      rw [decide_eq_false_iff_not]
      simp only [BitVec.toNat_ofNat]
      omega
    rw [this]; rfl
  rw [e, select_zero, BitVec.toInt_eq_toNat_cond]
  omega

/-- The gather read at an element: the row its number names. -/
theorem gather_apply {α : Type} (x : Cert.GatherRef.S640x128.Idx → α) (idx : Cert.GatherRef.S16384x2x1.Idx → BitVec 32)
    (s : Fin 16384) (g : Fin 2) (l : Fin 128) :
    Host.gather Cert.GatherRef.gather_S640x128_S16384x2x1_S16384x2x128_2_0_n_n_0_2_1128 x idx (ix3 s g l)
      = x (ix2 ⟨min (idx (ix3 s g (0 : Fin 1))).toInt.toNat 639, by omega⟩ l) := by
  unfold Host.gather
  congr 1
  funext a
  refine Fin.ext ?_
  set D := Cert.GatherRef.gather_S640x128_S16384x2x1_S16384x2x128_2_0_n_n_0_2_1128 with hD
  show D.start (ix3 s g l) idx a + D.batchCoord (ix3 s g l) a + D.offCoord (ix3 s g l) a = _
  have h01 : a = 0 ∨ a = 1 := by
    match a with
    | ⟨0, _⟩ => exact Or.inl rfl
    | ⟨1, _⟩ => exact Or.inr rfl
  rw [GatherDims.batchCoord_eq_zero _ _ _ (fun h => List.not_mem_nil h)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ D.startIndexMap from List.mem_singleton.mpr rfl)]
    have hsi : D.siIdx (ix3 s g l) ⟨List.idxOf (0 : Fin 2) D.startIndexMap, List.idxOf_lt_length_iff.2 (List.mem_singleton.mpr rfl)⟩
        = ix3 s g (0 : Fin 1) := by
      funext b; refine Fin.ext ?_
      match b with
      | ⟨0, _⟩ => rfl
      | ⟨1, _⟩ => rfl
      | ⟨2, _⟩ => rfl
    rw [hsi]
    rfl
  · have hs : D.start (ix3 s g l) idx (1 : Fin 2) = 0 := by
      unfold GatherDims.start
      rw [dif_neg (show (1 : Fin 2) ∉ D.startIndexMap by rw [hD]; decide)]
    rw [hs]
    unfold GatherDims.offCoord
    rw [dif_pos (show (1 : Fin 2) ∈ D.sKept by rw [hD]; decide)]
    simp only [Nat.zero_add]
    rfl

/-- The reference's rows are the call's. -/
theorem rows_of_reference (h₁ : Cert.GatherRef.S16384x2x128.ShapeCasts Cert.GatherRef.S8x2048x256)
    (h₂ : Cert.Gather.S16384x2.ShapeCasts Cert.Gather.S1x32768) (h₃ : Cert.Gather.S32768x128.ShapeCasts Cert.Gather.S8x2048x256) (x : Cert.GatherRef.S640x128.Idx → F .f32) (v : Cert.GatherRef.S16384x2.Idx → BitVec 32) (hv : ∀ i, (v i).toNat < 640)
    (idx : Cert.GatherRef.S16384x2x1.Idx → BitVec 32)
    (hidx : ∀ (s : Fin 16384) (g : Fin 2), idx (ix3 s g (0 : Fin 1)) = Scalar.select (IntOp.cmpi .slt (v (ix2 s g)) 0#32) (IntOp.addi (v (ix2 s g)) 640#32) (v (ix2 s g))) :
    shapeCast Cert.GatherRef.S8x2048x256 (Host.gather Cert.GatherRef.gather_S640x128_S16384x2x1_S16384x2x128_2_0_n_n_0_2_1128 x idx) h₁
      = shapeCast Cert.Gather.S8x2048x256 (result x (shapeCast Cert.Gather.S1x32768 v h₂)) h₃ := by
  have hc : Cert.Gather.S32768x128.ShapeCasts Cert.GatherRef.S16384x2x128 := by decide
  have key : Host.gather Cert.GatherRef.gather_S640x128_S16384x2x1_S16384x2x128_2_0_n_n_0_2_1128 x idx
      = shapeCast Cert.GatherRef.S16384x2x128 (result x (shapeCast Cert.Gather.S1x32768 v h₂)) hc := by
    funext j
    obtain ⟨s, g, l, rfl⟩ : ∃ (s : Fin 16384) (g : Fin 2) (l : Fin 128), j = ix3 s g l := ⟨_, _, _, eq_ix3 j⟩
    have hb : 2 * s.val + g.val < 32768 := by omega
    rw [gather_apply, shapeCast_apply _ hc (ix3 s g l) (ix2 (⟨2 * s.val + g.val, hb⟩ : Fin 32768) l) (by
      rw [Shape.rowMajor_val_three, Shape.rowMajor_val_two]
      show (2 * s.val + g.val) * 128 + l.val = (s.val * 2 + g.val) * 128 + l.val
      omega)]
    have e : shapeCast Cert.Gather.S1x32768 v h₂ (ix2 (0 : Fin 1) (⟨2 * s.val + g.val, hb⟩ : Fin 32768)) = v (ix2 s g) :=
      shapeCast_apply _ _ _ _ (by
        rw [Shape.rowMajor_val_two, Shape.rowMajor_val_two]
        show s.val * 2 + g.val = 0 * 32768 + (2 * s.val + g.val)
        omega)
    show x (ix2 _ l) = x (ix2 (rowNo (shapeCast Cert.Gather.S1x32768 v h₂ (ix2 (0 : Fin 1) (⟨2 * s.val + g.val, hb⟩ : Fin 32768)))) l)
    rw [e]
    congr 2
    refine Fin.ext ?_
    have h := hv (ix2 s g)
    show min (idx _).toInt.toNat 639 = (v (ix2 s g)).toNat % 640
    rw [hidx, wrapped h]
    omega
  rw [key, shapeCast_comp]

end Cert.Proof.Gather
end
-- ==== Proof.Gather.Claims.lean ====
/-
  The claims about the gather alone: the frame, and the result the reference's, at any float values.
-/
module

public import proofs.«01_k».proof.Proof.Gather.Reference
public import proofs.«01_k».proof.Proof.Gen.GatherIdeal
public import proofs.«01_k».proof.Proof.Gen.GatherRefIdeal.Run
public import proofs.«01_k».proof.Proof.Gen.Pre_idx_in_rows
public import proofs.«01_k».proof.Defs

@[expose] public section

noncomputable section

namespace Cert.Proof.Gather

open Idealize.ShloMosaic hiding ix0 ix1 ix2 ix3 ix4 eq_ix1 eq_ix2 eq_ix3
open Idealize.SL.Sem
open Idealize.ShloMosaic.ValueIdx
open Cert.GatherRef.Gen Cert.Gather.Gen

variable {F : FTy → Type} [FloatOps F]

/-- What the precondition says of a row number. -/
theorem in_range {v : BitVec 32} (e : IntOp.andi (IntOp.cmpi .sge v 0#32) (IntOp.cmpi .slt v 640#32) = 1#1) : v.toNat < 640 := by
  have hand (p q : Bool) : IntOp.andi (BitVec.ofBool p) (BitVec.ofBool q) = BitVec.ofBool (p && q) := by
    cases p <;> cases q <;> decide
  have hone (p : Bool) : BitVec.ofBool p = 1#1 → p = true := by cases p <;> decide
  simp only [IntOp.cmpi, hand] at e
  have e := hone _ e
  simp only [Bool.and_eq_true, BitVec.sle_eq_decide, BitVec.slt_eq_decide, decide_eq_true_eq, BitVec.toInt_eq_toNat_cond, BitVec.toNat_ofNat,
    Nat.reducePow, Nat.reduceMod] at e
  omega

theorem ok_of_pre (m : (ℓ : Loc Cert.Gather.nD Cert.Gather.τ Cert.Gather.sig) → Buf (Elt F) ℓ)
    (h : ∀ c : Dev Cert.Gather.nD, Cert.Pre_idx_in_rows.fn (F := F) (m (vLoc c Cert.Gather.main_arg0)) (m (vLoc c Cert.Gather.main_arg1)) = fun _ => 1#1) : PreOK m := by
  intro d x
  have e := congrFun (h d) x
  simp only [Pre_idx_in_rows.fn, andi, cmpi, broadcastInDim, constantI] at e
  exact in_range e

theorem frame_run [∀ e, Nonempty (Elt F e)] (m : (ℓ : Loc Cert.Gather.nD Cert.Gather.τ Cert.Gather.sig) → Buf (Elt F) ℓ) (g : Dev Cert.Gather.nD → PrngReg) (h : PreOK m) :
    θ_run (Cert.Gather.defs (F := F)) (Cert.Gather.threads (F := F)) ⟨m, fun _ => 0, g⟩ fun r =>
      (∀ c : Dev Cert.Gather.nD, r.2.mem (vLoc c Cert.Gather.main_arg0) = m (vLoc c Cert.Gather.main_arg0) ∧ r.2.mem (vLoc c Cert.Gather.main_arg1) = m (vLoc c Cert.Gather.main_arg1))
        ∧ r.2.sem = fun _ => 0 :=
  (θ_run Cert.Gather.defs _ _).mono (fun _ h => ⟨fun c => (h.1 c).2, h.2⟩) (run_main m g h)

abbrev rLoc (c : Dev Cert.GatherRef.nD) (b : Ref Cert.GatherRef.sig .tc) : Loc Cert.GatherRef.nD Cert.GatherRef.τ Cert.GatherRef.sig :=
  (c.tc : Thread Cert.GatherRef.nD Cert.GatherRef.τ).loc b

/-- A column added: read at it, the array. -/
theorem column_apply {α : Type} (x : Cert.GatherRef.S16384x2.Idx → α) (h) (s : Fin 16384) (g : Fin 2) :
    broadcastInDim Cert.GatherRef.S16384x2x1 ![0, 1] h x (ix3 s g (0 : Fin 1)) = x (ix2 s g) := by
  unfold broadcastInDim
  congr 1
  funext a
  match a with
  | ⟨0, _⟩ => rfl
  | ⟨1, _⟩ => rfl

/-- The call's result is the reference's. -/
theorem value [∀ e, Nonempty (Elt F e)] (m : (ℓ : Loc Cert.Gather.nD Cert.Gather.τ Cert.Gather.sig) → Buf (Elt F) ℓ) (g : Dev Cert.Gather.nD → PrngReg)
    (m' : (ℓ : Loc Cert.GatherRef.nD Cert.GatherRef.τ Cert.GatherRef.sig) → Buf (Elt F) ℓ) (g' : Dev Cert.GatherRef.nD → PrngReg) (h : PreOK m)
    (hagree : ∀ c : Dev Cert.Gather.nD, m' (rLoc c Cert.GatherRef.main_arg0) = m (vLoc c Cert.Gather.main_arg0)
      ∧ m' (rLoc c Cert.GatherRef.main_arg1) = m (vLoc c Cert.Gather.main_arg1)) :
    ∃ v0 : (c : Dev Cert.Gather.nD) → Buf (Elt F) (vLoc c Cert.Gather.main_v3),
      θ_run (Cert.Gather.defs (F := F)) (Cert.Gather.threads (F := F)) ⟨m, fun _ => 0, g⟩ (fun r => ∀ c : Dev Cert.Gather.nD,
        r.2.mem (vLoc c Cert.Gather.main_v3) = v0 c ∧ r.2.mem (vLoc c Cert.Gather.main_arg0) = m (vLoc c Cert.Gather.main_arg0)
          ∧ r.2.mem (vLoc c Cert.Gather.main_arg1) = m (vLoc c Cert.Gather.main_arg1))
      ∧ θ_run (Cert.GatherRef.defs (F := F)) (onTc (τ := Cert.GatherRef.τ) (Cert.GatherRef.main (F := F))) ⟨m', fun _ => 0, g'⟩ (fun r => ∀ c : Dev Cert.GatherRef.nD,
        r.2.mem (rLoc c Cert.GatherRef.main_v8) = v0 c ∧ r.2.mem (rLoc c Cert.GatherRef.main_arg0) = m' (rLoc c Cert.GatherRef.main_arg0)
          ∧ r.2.mem (rLoc c Cert.GatherRef.main_arg1) = m' (rLoc c Cert.GatherRef.main_arg1)) := by
  refine ⟨fun c => out m c, (θ_run Cert.Gather.defs _ _).mono (fun _ h => h.1) (run_main m g h),
    (θ_run Cert.GatherRef.defs _ _).mono (fun _ hr c => ⟨(hr c).1.trans ?_, (hr c).2⟩) (Cert.GatherRef.Value.run (F := F) m' g')⟩
  refine (rows_of_reference (F := F) _ Cert.Gather.Gen.facts₀.shapeCasts_S16384x2_S1x32768 Cert.Gather.Gen.facts₀.shapeCasts_S32768x128_S8x2048x256 _
    (m' (rLoc c Cert.GatherRef.main_arg1)) (fun i => by rw [(hagree c).2]; exact h c i) _ (fun s g => (column_apply _ _ s g).trans rfl)).trans ?_
  rw [(hagree c).1, (hagree c).2]
  show _ = out m c
  unfold out
  rw [rows_eq, nums_eq]

theorem frame : Cert.quiescent_Gather := fun m g h => frame_run (F := Bits) m g (ok_of_pre m h)
theorem frame_ideal : Cert.quiescent_GatherIdeal := fun m g h => frame_run (F := Ideal) m g (ok_of_pre (F := Ideal) m h)
theorem frame_reference : Cert.quiescent_GatherRef := fun m g _ =>
  (θ_run Cert.GatherRef.defs _ _).mono (fun r h => ⟨fun c => (h c).2, sem_eq_zero_of_no_sems (by decide) r.2⟩) (Cert.GatherRef.Value.run (F := Bits) m g)
theorem frame_reference_ideal : Cert.quiescent_GatherRefIdeal := fun m g _ =>
  (θ_run Cert.GatherRefIdeal.defs _ _).mono (fun r h => ⟨fun c => (h c).2, sem_eq_zero_of_no_sems (by decide) r.2⟩) (Cert.GatherRefIdeal.Value.run (F := Ideal) m g)
theorem frame_reference_ideal_pre : Cert.quiescent_GatherRefIdeal_pre_idx_in_rows := fun m g _ => frame_reference_ideal m g trivial
theorem bitexact : Cert.bitexact_Gather_GatherRef := fun m g m' g' h hagree => value (F := Bits) m g m' g' (ok_of_pre m h) hagree
theorem algebraic : Cert.algebraic_GatherIdeal_GatherRefIdeal := fun m g m' g' h hagree => value (F := Ideal) m g m' g' (ok_of_pre (F := Ideal) m h) hagree

end Cert.Proof.Gather
end
-- ==== Proof.Whole.Words.lean ====
/-
  The words of the tile's pipeline at trip `t` of its eight. The carried words are, before trip `t`: the slot the next
  fetch takes (`t + 1`), the slot waited for (`t`), the slot written out (`t`), the slot whose write-out is waited for
  (`t - 1`) and the block number (`t`, back at 0 after the last trip). Every condition and every offset the pipeline
  computes from them is decided here over all tiles and trips, so that the run only cites these lemmas.
-/
module

public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Idealize.ShloMosaic

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (i : grid1.Coords) : coordsV (i 0) (i 1) = i := by
  funext a
  match a with
  | 0 => rfl
  | 1 => rfl

/-- The first of the tile's eight blocks of 128 rows. -/
def base (i : grid1.Coords) : Nat := 8 * (16 * (i 0).val + (i 1).val)

theorem base_le (i : grid1.Coords) : base i + 8 ≤ 256 := by
  have h0 : (i 0).val < 2 := (i 0).isLt
  have h1 : (i 1).val < 16 := (i 1).isLt
  unfold base; omega

abbrev w (n : Nat) : BitVec 32 := BitVec.ofNat 32 n

theorem trips_eq : k1_t1_loop.trips = 8 := by decide

/-- A statement decided over all tiles and trips holds at a tile and a trip. -/
theorem of_dec {p : grid1.Coords → Fin k1_t1_loop.trips → Prop}
    (h : ∀ (c : Fin 2) (s : Fin 16) (t : Fin k1_t1_loop.trips), p (coordsV c s) t) (i : grid1.Coords)
    (t : Fin k1_t1_loop.trips) : p i t := coordsV_eta i ▸ h (i 0) (i 1) t

/-! ## The conditions -/

/-- The next block is fetched at every trip but the last. -/
theorem cond1_iff (i : grid1.Coords) (t : Fin k1_t1_loop.trips) : k1_cond1 i t (w t.val) = 1#1 ↔ t.val < 7 :=
  of_dec (p := fun i t => k1_cond1 i t (w t.val) = 1#1 ↔ t.val < 7) (by decide +kernel) i t
/-- The block is waited for at every trip. -/
theorem cond2_true (i : grid1.Coords) (t : Fin k1_t1_loop.trips) : k1_cond2 i t (w t.val) = 1#1 :=
  of_dec (p := fun i t => k1_cond2 i t (w t.val) = 1#1) (by decide +kernel) i t
/-- The rows are written out at every trip. -/
theorem cond5_true (i : grid1.Coords) (t : Fin k1_t1_loop.trips) : k1_cond5 i t (w t.val) = 1#1 :=
  of_dec (p := fun i t => k1_cond5 i t (w t.val) = 1#1) (by decide +kernel) i t
/-- The write-out before is waited for at every trip but the first. -/
theorem cond7_iff (i : grid1.Coords) (t : Fin k1_t1_loop.trips) : k1_cond7 i t (w t.val) = 1#1 ↔ 0 < t.val :=
  of_dec (p := fun i t => k1_cond7 i t (w t.val) = 1#1 ↔ 0 < t.val) (by decide +kernel) i t

/-! ## The side conditions -/

theorem chk1_true (i : grid1.Coords) (t : Fin k1_t1_loop.trips) :
    k1_chk1 i t (w (t.val + 1)) (w t.val) (w t.val) (w (t.val - 1)) (w t.val) :=
  of_dec (p := fun i t => k1_chk1 i t (w (t.val + 1)) (w t.val) (w t.val) (w (t.val - 1)) (w t.val)) (by decide +kernel) i t
theorem chk2_true (t : Fin k1_t1_loop.trips) : k1_chk2 (w t.val) := by revert t; decide +kernel
theorem chk3_true (t : Fin k1_t1_loop.trips) : k1_chk3 (w t.val) := by revert t; decide +kernel
theorem chk4_true : k1_chk4 (w 7) := by decide +kernel
theorem chk5_true (i : grid1.Coords) : k1_chk5 i (w 0) :=
  of_dec (p := fun i _ => k1_chk5 i (w 0)) (by decide +kernel) i ⟨0, by decide⟩

/-! ## The offsets -/

theorem off1_eq : k1_off1 = ![0, 0, 0] := by decide +kernel
theorem off2_eq (i : grid1.Coords) : k1_off2 i = ![0, 128 * base i] :=
  of_dec (p := fun i _ => k1_off2 i = ![0, 128 * base i]) (by decide +kernel) i ⟨0, by decide⟩
theorem off3_eq : k1_off3 = ![0] := by decide +kernel
theorem off4_eq (t : Fin k1_t1_loop.trips) : k1_off4 (w (t.val + 1)) = ![(t.val + 1) % 2, 0, 0] := by revert t; decide +kernel
theorem off5_eq (i : grid1.Coords) (t : Fin k1_t1_loop.trips) :
    t.val < 7 → k1_off5 i (w t.val) = ![0, 128 * (base i + (t.val + 1))] :=
  of_dec (p := fun i t => t.val < 7 → k1_off5 i (w t.val) = ![0, 128 * (base i + (t.val + 1))]) (by decide +kernel) i t
theorem off6_eq (t : Fin k1_t1_loop.trips) : k1_off6 (w (t.val + 1)) = ![(t.val + 1) % 2] := by revert t; decide +kernel
theorem off7_eq (t : Fin k1_t1_loop.trips) : k1_off7 (w t.val) = ![t.val % 2, 0, 0] := by revert t; decide +kernel
theorem off9_eq (t : Fin k1_t1_loop.trips) : k1_off9 (w t.val) = ![t.val % 2] := by revert t; decide +kernel
theorem off10_eq (t : Fin k1_t1_loop.trips) : k1_off10 (w t.val) = ![t.val % 2, 0, 0] := by revert t; decide +kernel
theorem off11_eq (t : Fin k1_t1_loop.trips) : k1_off11 (w t.val) = ![t.val % 2, 0, 0] := by revert t; decide +kernel
theorem off12_eq (t : Fin k1_t1_loop.trips) : k1_off12 (w t.val) = ![t.val % 2, 0, 0] := by revert t; decide +kernel
theorem off13_eq (i : grid1.Coords) (t : Fin k1_t1_loop.trips) : k1_off13 i (w t.val) = ![128 * (base i + t.val), 0] :=
  of_dec (p := fun i t => k1_off13 i (w t.val) = ![128 * (base i + t.val), 0]) (by decide +kernel) i t
theorem off14_eq (t : Fin k1_t1_loop.trips) : k1_off14 (w t.val) = ![t.val % 2] := by revert t; decide +kernel
theorem off17_eq (t : Fin k1_t1_loop.trips) : k1_off17 (w (t.val - 1)) = ![(t.val - 1) % 2] := by revert t; decide +kernel
theorem off20_eq : k1_off20 (w 7) = ![1] := by decide +kernel

end Cert.Proof.Whole
end
-- ==== Proof.Whole.Setup.lean ====
/-
  The program as the launch theorem sees it, the ghost state, the arrays and the tile's two pairs of slots: what every
  later module names. A slot is half of a scratch buffer; the sets below say which elements each half, each block of
  row numbers and each run of output rows has, and the contents functions say what the pipeline puts there.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Whole.Words

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays and the tile -/

/-- The table, the row numbers and the output, as the TensorCore names them. -/
abbrev cLoc (d : Dev nD) : Loc nD τ sig := (SparseCore.T d).loc main_v8
abbrev iLoc (d : Dev nD) : Loc nD τ sig := (SparseCore.T d).loc main_v9
abbrev oLoc (d : Dev nD) : Loc nD τ sig := (SparseCore.T d).loc main_v10

abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

/-- The tile's two scratch buffers: two slots of 128 row numbers, two slots of 128 rows. -/
abbrev isLoc (d : Dev nD) (i : grid1.Coords) : Loc nD τ sig := (thr d i).loc cc1_scoped0
abbrev osLoc (d : Dev nD) (i : grid1.Coords) : Loc nD τ sig := (thr d i).loc cc1_scoped2

/-! ## Slots, blocks and cells as the program slices them -/

/-- A slot of the row numbers' scratch. -/
abbrev iSlot (o : Fin 3 → Nat) (h : ∀ a, o a + S1x1x128.size a ≤ S2x1x128.size a) : Memref sig .scVector .vmem S1x128 .i32 :=
  ((Memref.whole cc1_scoped0).slice (Rect.unit (s := S2x1x128) o S1x1x128.size h) (fun _ => rfl)).squeeze S1x128 squeezes_S1x1x128_S1x128
/-- A slot of the row numbers' scratch, as the list the indirect copy reads. -/
abbrev iList (o : Fin 3 → Nat) (h : ∀ a, o a + S1x1x128.size a ≤ S2x1x128.size a) : Memref sig .scVector .vmem S128 .i32 :=
  ((iSlot o h).slice (Rect.unit (s := S1x128) ![0, 0] S1x128.size inb_S1x128_S1x128_0_0) (fun _ => rfl)).squeeze S128 squeezes_S1x128_S128
/-- A slot of the rows' scratch. -/
abbrev oSlot (o : Fin 3 → Nat) (h : ∀ a, o a + S1x128x128.size a ≤ S2x128x128.size a) : Memref sig .scVector .vmem S128x128 .f32 :=
  ((Memref.whole cc1_scoped2).slice (Rect.unit (s := S2x128x128) o S1x128x128.size h) (fun _ => rfl)).squeeze S128x128 squeezes_S1x128x128_S128x128
/-- 128 of the row numbers. -/
abbrev iBlk (o : Fin 2 → Nat) (h : ∀ a, o a + S1x128.size a ≤ S1x32768.size a) : Memref sig .scVector .hbm S1x128 .i32 :=
  (Memref.whole main_v9_scv).slice (Rect.unit (s := S1x32768) o S1x128.size h) (fun _ => rfl)
/-- 128 of the output's rows. -/
abbrev oBlk (o : Fin 2 → Nat) (h : ∀ a, o a + S128x128.size a ≤ S32768x128.size a) : Memref sig .scVector .hbm S128x128 .f32 :=
  (Memref.whole main_v10_scv).slice (Rect.unit (s := S32768x128) o S128x128.size h) (fun _ => rfl)
/-- All of the table. -/
abbrev cAll : Memref sig .scVector .hbm S640x128 .f32 :=
  (Memref.whole main_v8_scv).slice (Rect.unit (s := S640x128) ![0, 0] S640x128.size inb_S640x128_S640x128_0_0) (fun _ => rfl)
/-- A cell of the fetches' pair, of the write-outs' pair. -/
abbrev iSem (o : Fin 1 → Nat) (h : ∀ a, o a + S1.size a ≤ S2.size a) : DmaSem sig :=
  ((cc1_scoped1.slice (Rect.unit (s := S2) o S1.size h)).squeeze S_ squeezes_S1_S_).sem
abbrev oSem (o : Fin 1 → Nat) (h : ∀ a, o a + S1.size a ≤ S2.size a) : DmaSem sig :=
  ((cc1_scoped3.slice (Rect.unit (s := S2) o S1.size h)).squeeze S_ squeezes_S1_S_).sem

theorem semInb (k : Fin 2) : ∀ a, (![k.val] : Fin 1 → Nat) a + S1.size a ≤ S2.size a := by revert k; decide
/-- The fetches' and the write-outs' cell of slot `k`. -/
def semI (k : Fin 2) : DmaSem sig := iSem ![k.val] (semInb k)
def semO (k : Fin 2) : DmaSem sig := oSem ![k.val] (semInb k)

theorem iSem_eq {o : Fin 1 → Nat} (h : ∀ a, o a + S1.size a ≤ S2.size a) {k : Fin 2} (ho : o = ![k.val]) : iSem o h = semI k := by
  subst ho; rfl
theorem oSem_eq {o : Fin 1 → Nat} (h : ∀ a, o a + S1.size a ≤ S2.size a) {k : Fin 2} (ho : o = ![k.val]) : oSem o h = semO k := by
  subst ho; rfl

/-- The slot of step `n`. -/
def par (n : Nat) : Fin 2 := ⟨n % 2, Nat.mod_lt _ (by decide)⟩

/-! ## Which elements -/

def slotI (k : Fin 2) : Finset S2x1x128.Idx := Finset.univ.filter fun x => (x 0).val = k.val
def slotO (k : Fin 2) : Finset S2x128x128.Idx := Finset.univ.filter fun x => (x 0).val = k.val
/-- Rows `lo` up to `hi` of the output. -/
def rowsO (lo hi : Nat) : Finset S32768x128.Idx := Finset.univ.filter fun x => lo ≤ (x 0).val ∧ (x 0).val < hi

theorem set_iSlot {o : Fin 3 → Nat} (h) {k : Fin 2} (ho : o = ![k.val, 0, 0]) : (iSlot o h).view.set = slotI k := by
  subst ho
  refine (View.set_reshape _ _).trans ((View.set_slice_whole _ _).trans ?_)
  ext x
  refine Rect.mem_set_unit.trans ?_
  have h1 : (x 1).val < 1 := (x 1).isLt
  have h2 : (x 2).val < 128 := (x 2).isLt
  simp only [slotI, Finset.mem_filter, Finset.mem_univ, true_and]
  constructor
  · intro H
    have := H 0
    simp at this
    omega
  · intro e a
    match a with
    | 0 => simp [← e]
    | 1 => exact ⟨Nat.zero_le _, show (x 1).val < 0 + 1 by omega⟩
    | 2 => exact ⟨Nat.zero_le _, show (x 2).val < 0 + 128 by omega⟩

theorem set_iList {o : Fin 3 → Nat} (h) {k : Fin 2} (ho : o = ![k.val, 0, 0]) : (iList o h).view.set = slotI k := by
  show (((iSlot o h).view.slice (Rect.unit (s := S1x128) ![0, 0] S1x128.size inb_S1x128_S1x128_0_0)).reshape S128 _).set = _
  rw [View.set_reshape, View.set_slice, ← set_iSlot h ho]
  rw [show (Rect.unit (s := S1x128) ![0, 0] S1x128.size inb_S1x128_S1x128_0_0).set = Finset.univ from ?_]; · rfl
  ext x
  refine Rect.mem_set_unit.trans (iff_of_true (fun a => ?_) (Finset.mem_univ _))
  match a with
  | 0 => exact ⟨Nat.zero_le _, show (x 0).val < 0 + 1 by have : (x 0).val < 1 := (x 0).isLt; omega⟩
  | 1 => exact ⟨Nat.zero_le _, show (x 1).val < 0 + 128 by have : (x 1).val < 128 := (x 1).isLt; omega⟩

theorem set_oSlot {o : Fin 3 → Nat} (h) {k : Fin 2} (ho : o = ![k.val, 0, 0]) : (oSlot o h).view.set = slotO k := by
  subst ho
  refine (View.set_reshape _ _).trans ((View.set_slice_whole _ _).trans ?_)
  ext x
  refine Rect.mem_set_unit.trans ?_
  have h1 : (x 1).val < 128 := (x 1).isLt
  have h2 : (x 2).val < 128 := (x 2).isLt
  simp only [slotO, Finset.mem_filter, Finset.mem_univ, true_and]
  constructor
  · intro H
    have := H 0
    simp at this
    omega
  · intro e a
    match a with
    | 0 => simp [← e]
    | 1 => exact ⟨Nat.zero_le _, show (x 1).val < 0 + 128 by omega⟩
    | 2 => exact ⟨Nat.zero_le _, show (x 2).val < 0 + 128 by omega⟩

theorem set_oBlk {o : Fin 2 → Nat} (h) {r : Nat} (ho : o = ![r, 0]) : (oBlk o h).view.set = rowsO r (r + 128) := by
  subst ho
  refine (View.set_slice_whole _ _).trans ?_
  ext x
  refine Rect.mem_set_unit.trans ?_
  have h1 : (x 1).val < 128 := (x 1).isLt
  simp only [rowsO, Finset.mem_filter, Finset.mem_univ, true_and]
  constructor
  · intro H
    have := H 0
    simpa using this
  · intro e a
    match a with
    | 0 => simpa using e
    | 1 => exact ⟨Nat.zero_le _, show (x 1).val < 0 + 128 by omega⟩

theorem set_cAll : cAll.view.set = Finset.univ := by
  refine (View.set_slice_whole _ _).trans ?_
  ext x
  refine Rect.mem_set_unit.trans (iff_of_true (fun a => ?_) (Finset.mem_univ _))
  match a with
  | 0 => exact ⟨Nat.zero_le _, show (x 0).val < 0 + 640 by have : (x 0).val < 640 := (x 0).isLt; omega⟩
  | 1 => exact ⟨Nat.zero_le _, show (x 1).val < 0 + 128 by have : (x 1).val < 128 := (x 1).isLt; omega⟩

/-! ## Which contents -/

/-- The row a row number names. -/
def rowNo (v : BitVec 32) : Fin 640 := ⟨v.toNat % 640, Nat.mod_lt _ (by decide)⟩

/-- Block `b` of the row numbers, in a slot. -/
def fetched (fi : S1x32768.Idx → BitVec 32) (b : Nat) : S2x1x128.Idx → BitVec 32 :=
  fun x => fi (ix2 (0 : Fin 1) (Fin.ofNat 32768 (128 * b + (x 2).val)))
/-- The rows of the table that block `b` names, in a slot. -/
def gathered (fc : S640x128.Idx → F .f32) (fi : S1x32768.Idx → BitVec 32) (b : Nat) : S2x128x128.Idx → F .f32 :=
  fun x => fc (ix2 (rowNo (fi (ix2 (0 : Fin 1) (Fin.ofNat 32768 (128 * b + (x 1).val))))) (x 2))
/-- The call's result: row `r` is the table's row `fi r`. -/
def result (fc : S640x128.Idx → F .f32) (fi : S1x32768.Idx → BitVec 32) : S32768x128.Idx → F .f32 :=
  fun x => fc (ix2 (rowNo (fi (ix2 (0 : Fin 1) (x 0)))) (x 1))

end Cert.Proof.Whole
end
-- ==== Proof.Whole.Body.lean ====
/-
  The TensorCore kernel's body, run once at any grid point: from its windows' buffers to the columns of picks it
  stores, the counts it leaves in its scratch buffer, and at the last point the perplexity.
-/
module

public import proofs.«01_k».proof.Proof.Whole.Setup
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## What the body computes from a block of the hidden states, the weights and the bias -/

abbrev XT (F : FTy → Type) := FVec F S2048x512 .f32
abbrev WT (F : FTy → Type) := FVec F S512x768 .f32
abbrev BT (F : FTy → Type) := FVec F S1x768 .f32

/-- The block's picks: the first group's in column 0, the second group's in column 1. -/
def picks (x : XT F) (w : WT F) (b : BT F) : IVec S2048x2 32 := fun j =>
  if (j 1).val = 0 then k0_pay4 x w b (ix2 (j 0) 0) else k0_pay6 x w b (ix2 (j 0) 0)

/-- The counts after a point, from those before it: started at the first point, added to at a later one. -/
def counts (i : grid0.Coords) (x : XT F) (w : WT F) (b : BT F) (c : BT F) : BT F :=
  k0_pay1 (k0_pay7 x w b) (Scalar.cmpi .eq (BitVec.ofNat 32 (i 0).val) 0#32) c

/-- What the last point stores beside the picks. -/
def plex (i : grid0.Coords) (c : BT F) (d : FVec F S1x1 .f32) : FVec F S1x1 .f32 := if k0_cond1 i = 1#1 then k0_pay2 c else d

abbrev scM : Memref sig .tc .vmem S1x768 .f32 := Memref.whole cc0_scratch0

omit [FloatOps F] in
/-- A load through the whole of a rank-2 shape reads the view. -/
theorem readAt_all {sp : Space} {m n : Nat} {e : EltTy} (v : View sig .tc sp ⟨2, ![m, n]⟩ e) (h : ∀ a, (![0, 0] : Fin 2 → Nat) a + (![m, n] : Fin 2 → Nat) a ≤ (⟨2, ![m, n]⟩ : Shape).size a)
    (f : v.ty.Contents (Elt F)) : v.readAt (Elt F) (Rect.unit (s := ⟨2, ![m, n]⟩) ![0, 0] ![m, n] h).toLoadRect f = v.read (Elt F) f := by
  funext y
  refine congrArg (v.read (Elt F) f) (funext fun a => Fin.ext ?_)
  match a with
  | 0 => show 0 + 1 * (y _).val = _; omega
  | 1 => show 0 + 1 * (y _).val = _; omega

omit [FloatOps F] in
/-- A store through the whole of a rank-2 shape leaves what was stored. -/
theorem read_write_all {sp : Space} {m n : Nat} {e : EltTy} (v : View sig .tc sp ⟨2, ![m, n]⟩ e) (h : ∀ a, (![0, 0] : Fin 2 → Nat) a + (![m, n] : Fin 2 → Nat) a ≤ (⟨2, ![m, n]⟩ : Shape).size a)
    (f : v.ty.Contents (Elt F)) (w : (⟨2, ![m, n]⟩ : Shape).Idx → Elt F e) :
    v.read (Elt F) (v.writes (Elt F) f [⟨Rect.unit (s := ⟨2, ![m, n]⟩) ![0, 0] ![m, n] h, w⟩]) = w := by
  funext y
  refine View.read_writes_cons_hit v f (Rect.unit (s := ⟨2, ![m, n]⟩) ![0, 0] ![m, n] h) w [] y y (funext fun a => Fin.ext ?_)
  match a with
  | 0 => show 0 + 1 * (y _).val = _; omega
  | 1 => show 0 + 1 * (y _).val = _; omega

omit [FloatOps F] in
/-- Two stores, of column 1 over column 0, leave the two columns. -/
theorem read_columns (v : View sig .tc .vmem S2048x2 .i32) (f : v.ty.Contents (Elt F)) (p q : IVec S2048x1 32) :
    v.read (Elt F) (v.writes (Elt F) f [⟨Rect.unit (s := S2048x2) ![0, 1] S2048x1.size inb_S2048x2_S2048x1_0_1, q⟩,
        ⟨Rect.unit (s := S2048x2) ![0, 0] S2048x1.size inb_S2048x2_S2048x1_0_0, p⟩])
      = fun j => if (j 1).val = 0 then p (ix2 (j 0) 0) else q (ix2 (j 0) 0) := by
  funext y
  by_cases hq : (y 1).val = 0
  · refine (View.read_writes_cons_miss_of_axis v f ⟨Rect.unit (s := S2048x2) ![0, 1] S2048x1.size inb_S2048x2_S2048x1_0_1, q⟩ _ y (1 : Fin 2) 1 1 rfl rfl rfl (.inl (by omega))).trans ?_
    refine (View.read_writes_cons_hit v f (Rect.unit (s := S2048x2) ![0, 0] S2048x1.size inb_S2048x2_S2048x1_0_0) p [] (ix2 (y 0) 0) y (funext fun a => Fin.ext ?_)).trans (if_pos hq).symm
    match a with
    | 0 => show 0 + 1 * (y 0).val = _; omega
    | 1 => show 0 + 1 * 0 = (y 1).val; omega
  · refine (View.read_writes_cons_hit v f (Rect.unit (s := S2048x2) ![0, 1] S2048x1.size inb_S2048x2_S2048x1_0_1) q _ (ix2 (y 0) 0) y (funext fun a => Fin.ext ?_)).trans (if_neg hq).symm
    match a with
    | 0 => show 0 + 1 * (y 0).val = _; omega
    | 1 => show 1 + 1 * 0 = (y 1).val; have : (y 1).val < 2 := (y 1).isLt; omega

theorem body_run (c : Dev nD) (i : grid0.Coords)
    (M1 : Memref sig .tc .vmem S2048x512 .f32) (h1 : M1.IsWhole) (M2 : Memref sig .tc .vmem S512x768 .f32) (h2 : M2.IsWhole)
    (M3 : Memref sig .tc .vmem S1x768 .f32) (h3 : M3.IsWhole) (M4 : Memref sig .tc .vmem S2048x2 .i32) (h4 : M4.IsWhole)
    (M5 : Memref sig .tc .vmem S1x1 .f32) (h5 : M5.IsWhole)
    (x : XT F) (w : WT F) (b : BT F) (d4 : IVec S2048x2 32) (d5 : FVec F S1x1 .f32) (s : BT F) (Q : PUnit → sProp 𝕄) :
    iprop(owns (c : Thread nD τ) M1 fullShare x ∗ owns (c : Thread nD τ) M2 fullShare w ∗ owns (c : Thread nD τ) M3 fullShare b
        ∗ owns (c : Thread nD τ) M4 fullShare d4 ∗ owns (c : Thread nD τ) M5 fullShare d5 ∗ owns (c : Thread nD τ) scM fullShare s
        ∗ (iprop(owns (c : Thread nD τ) M1 fullShare x ∗ owns (c : Thread nD τ) M2 fullShare w ∗ owns (c : Thread nD τ) M3 fullShare b
            ∗ owns (c : Thread nD τ) M4 fullShare (picks x w b) ∗ owns (c : Thread nD τ) M5 fullShare (plex i (counts i x w b s) d5)
            ∗ owns (c : Thread nD τ) scM fullShare (counts i x w b s)) -∗ Q ⟨⟩))
      ⊢ wp frame (wpE (defs₀ (F := F)) Variants.none c none) Set.univ
          (cc0__tc_body i M1 h1 M2 h2 M3 h3 M4 h4 M5 h5 scM (Memref.isWhole_whole _)) Q := by
  by_cases hc : k0_cond1 i = 1#1
  · simp only [cc0__tc_body_eq_skeleton]; unfold cc0__tc_body_skel
    simp only [k0_part1_eq_skeleton, dif_pos hc]; unfold k0_part1_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    sl_exec
    sl_step
    iapply Hk
    isplitl [H1]; · iexists f1; isplitr; swap; (· iexact H1); ipureintro; exact e1
    isplitl [H2]; · iexists f2; isplitr; swap; (· iexact H2); ipureintro; exact e2
    isplitl [H3]; · iexists f3; isplitr; swap; (· iexact H3); ipureintro; exact e3
    isplitl [H4]
    · iexists _; isplitr; swap; (· iexact H4); ipureintro
      rw [readAt_all, readAt_all, readAt_all, e1, e2, e3]; exact read_columns _ _ _ _
    isplitl [H5]
    · iexists _; isplitr; swap; (· iexact H5); ipureintro
      refine (read_write_all M5.view _ f5 _).trans ?_
      unfold body_run.sl.v45 plex
      rw [if_pos hc]
      refine congrArg k0_pay2 ?_
      unfold body_run.sl.H6_1 View.readCov
      rw [readAt_all scM.view inb_S1x768_S1x768_0_0, read_write_all scM.view inb_S1x768_S1x768_0_0]
      dsimp only
      rw [readAt_all, readAt_all, readAt_all, readAt_all, e1, e2, e3, e6]
      rfl
    · iexists _; isplitr; swap; (· iexact H6); ipureintro
      refine (read_write_all scM.view _ f6 _).trans ?_
      dsimp only
      rw [readAt_all, readAt_all, readAt_all, readAt_all, e1, e2, e3, e6]
      rfl
  · simp only [cc0__tc_body_eq_skeleton]; unfold cc0__tc_body_skel
    simp only [k0_part1_eq_skeleton, dif_neg hc]; unfold k0_part1_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    sl_exec
    sl_step
    iapply Hk
    isplitl [H1]; · iexists f1; isplitr; swap; (· iexact H1); ipureintro; exact e1
    isplitl [H2]; · iexists f2; isplitr; swap; (· iexact H2); ipureintro; exact e2
    isplitl [H3]; · iexists f3; isplitr; swap; (· iexact H3); ipureintro; exact e3
    isplitl [H4]
    · iexists _; isplitr; swap; (· iexact H4); ipureintro
      rw [readAt_all, readAt_all, readAt_all, e1, e2, e3]; exact read_columns _ _ _ _
    isplitl [H5]
    · iexists f5; isplitr; swap; (· iexact H5); ipureintro
      unfold plex; rw [if_neg hc]; exact e5
    · iexists _; isplitr; swap; (· iexact H6); ipureintro
      refine (read_write_all scM.view _ f6 _).trans ?_
      dsimp only
      rw [readAt_all, readAt_all, readAt_all, readAt_all, e1, e2, e3, e6]
      rfl

end Cert.Proof.Whole
end
-- ==== Proof.Whole.Contents.lean ====
/-
  What each transfer leaves: a fetched block in its slot, the gathered rows in theirs, a written block of the output.
  Each is said on the elements the slot or the block has, in the words of `fetched`, `gathered` and `result`.
-/
module

public import proofs.«01_k».proof.Proof.Whole.Setup

@[expose] public section

noncomputable section

namespace Cert.Proof.Whole

open Cert.KernelIdeal Cert.KernelIdeal.Gen

open Idealize.ShloMosaic
open Idealize.ShloMosaic.SparseCore (S V T gatherPayload rows)
open Idealize.ShloMosaic.ValueIdx

variable {F : FTy → Type}

/-! ## Where a slot's or a block's element lies -/

theorem emb_iSlot {o : Fin 3 → Nat} (h) {k : Fin 2} (ho : o = ![k.val, 0, 0]) (j : Fin 128) :
    (iSlot o h).view.emb (ix2 (0 : Fin 1) j) = (ix3 k (0 : Fin 1) j : S2x1x128.Idx) := by
  subst ho
  refine (congrArg ((Rect.unit (s := S2x1x128) ![k.val, 0, 0] S1x1x128.size h).emb)
    (reshapeEquiv_ix2_1ab squeezes_S1x1x128_S1x128.numel_eq (0 : Fin 1) j)).trans ?_
  funext a
  apply Fin.ext
  rw [Rect.emb_apply]
  match a with
  | 0 => simp
  | 1 => simp
  | 2 => simp

theorem emb_oSlot {o : Fin 3 → Nat} (h) {k : Fin 2} (ho : o = ![k.val, 0, 0]) (i j : Fin 128) :
    (oSlot o h).view.emb (ix2 i j) = (ix3 k i j : S2x128x128.Idx) := by
  subst ho
  refine (congrArg ((Rect.unit (s := S2x128x128) ![k.val, 0, 0] S1x128x128.size h).emb)
    (reshapeEquiv_ix2_1ab squeezes_S1x128x128_S128x128.numel_eq i j)).trans ?_
  funext a
  apply Fin.ext
  rw [Rect.emb_apply]
  match a with
  | 0 => simp
  | 1 => simp
  | 2 => simp

theorem emb_iList {o : Fin 3 → Nat} (h) {k : Fin 2} (ho : o = ![k.val, 0, 0]) (j : Fin 128) :
    (iList o h).view.emb (ix1 j) = (ix3 k (0 : Fin 1) j : S2x1x128.Idx) := by
  rw [← emb_iSlot h ho j]
  refine congrArg ((iSlot o h).view.emb) ?_
  have e : Shape.reshapeEquiv squeezes_S1x128_S128.numel_eq (ix1 j) = (ix2 (0 : Fin 1) j : S1x128.Idx) :=
    Shape.reshapeEquiv_eq_of_rowMajor _ (by
      rw [Shape.rowMajor_val_two, Shape.rowMajor_val_one]; simp)
  refine (congrArg ((Rect.unit (s := S1x128) ![0, 0] S1x128.size inb_S1x128_S1x128_0_0).emb) e).trans ?_
  funext a
  apply Fin.ext
  rw [Rect.emb_apply]
  match a with
  | 0 => simp
  | 1 => simp

theorem emb_iBlk {o : Fin 2 → Nat} (h) {r : Nat} (ho : o = ![0, r]) (j : Fin 128) (hr : r + j.val < 32768) :
    (iBlk o h).view.emb (ix2 (0 : Fin 1) j) = (ix2 (0 : Fin 1) ⟨r + j.val, hr⟩ : S1x32768.Idx) := by
  subst ho
  funext a
  apply Fin.ext
  refine (Rect.emb_apply _ _ _).trans ?_
  match a with
  | 0 => simp; rfl
  | 1 => simp; rfl

theorem emb_oBlk {o : Fin 2 → Nat} (h) {r : Nat} (ho : o = ![r, 0]) (i j : Fin 128) (hr : r + i.val < 32768) :
    (oBlk o h).view.emb (ix2 i j) = (ix2 ⟨r + i.val, hr⟩ j : S32768x128.Idx) := by
  subst ho
  funext a
  apply Fin.ext
  refine (Rect.emb_apply _ _ _).trans ?_
  match a with
  | 0 => simp; rfl
  | 1 => simp; rfl

theorem emb_cAll (x : S640x128.Idx) : cAll.view.emb x = x := by
  funext a
  apply Fin.ext
  refine (Rect.emb_apply _ _ _).trans ?_
  match a with
  | 0 => simp
  | 1 => simp

/-! ## The fetch -/

theorem fetched_ix3 (fi : S1x32768.Idx → BitVec 32) (b : Nat) (hb : b < 256) (k : Fin 2) (j : Fin 128) :
    fetched fi b (ix3 k (0 : Fin 1) j) = fi (ix2 (0 : Fin 1) ⟨128 * b + j.val, by have := j.isLt; omega⟩) := by
  refine congrArg (fun z : Fin 32768 => fi (ix2 (0 : Fin 1) z)) (Fin.ext ?_)
  show (128 * b + j.val) % 32768 = _
  exact Nat.mod_eq_of_lt (by have := j.isLt; omega)

theorem slotI_eta {k : Fin 2} {x : S2x1x128.Idx} (hx : x ∈ slotI k) : ∃ j : Fin 128, x = ix3 k (0 : Fin 1) j := by
  refine ⟨x 2, ?_⟩
  have h0 : (x 0).val = k.val := (Finset.mem_filter.mp hx).2
  have h1 : (x 1).val < 1 := (x 1).isLt
  funext a
  apply Fin.ext
  match a with
  | 0 => exact h0
  | 1 => show (x 1).val = 0; omega
  | 2 => rfl

theorem slotO_eta {k : Fin 2} {x : S2x128x128.Idx} (hx : x ∈ slotO k) : ∃ i j : Fin 128, x = ix3 k i j := by
  refine ⟨x 1, x 2, ?_⟩
  have h0 : (x 0).val = k.val := (Finset.mem_filter.mp hx).2
  funext a
  apply Fin.ext
  match a with
  | 0 => exact h0
  | 1 => rfl
  | 2 => rfl

/-- A fetch of block `b` leaves the block in its slot. -/
theorem write_iSlot {o : Fin 3 → Nat} (h) {k : Fin 2} (ho : o = ![k.val, 0, 0]) {o' : Fin 2 → Nat} (h') {b : Nat} (hb : b < 256)
    (ho' : o' = ![0, 128 * b]) (fd : S2x1x128.Idx → BitVec 32) (fi : S1x32768.Idx → BitVec 32) :
    ∀ x ∈ slotI k, (iSlot o h).view.write (Elt F) fd ((iBlk o' h').view.read (Elt F) fi) Finset.univ x = fetched fi b x := by
  intro x hx
  obtain ⟨j, rfl⟩ := slotI_eta hx
  refine (congrArg _ (emb_iSlot h ho j).symm).trans ((View.write_emb_of_mem _ _ (Finset.mem_univ _)).trans ?_)
  refine Eq.trans ?_ (fetched_ix3 fi b hb k j).symm
  have hr : 128 * b + j.val < 32768 := by have := j.isLt; omega
  exact congrArg fi (emb_iBlk h' ho' j hr)

/-! ## The gather -/

/-- The list read off a fetched slot: block `b` of the row numbers. -/
theorem read_iList {o : Fin 3 → Nat} (h) {k : Fin 2} (ho : o = ![k.val, 0, 0]) {b : Nat} (hb : b < 256) (fi : S1x32768.Idx → BitVec 32) (j : Fin 128) :
    (iList o h).view.read (Elt F) (fetched fi b) (ix1 j) = fi (ix2 (0 : Fin 1) ⟨128 * b + j.val, by have := j.isLt; omega⟩) := by
  refine Eq.trans ?_ (fetched_ix3 fi b hb k j)
  exact congrArg (fetched fi b) (emb_iList h ho j)

/-- Every row number names a row of the table. -/
def InRange (fi : S1x32768.Idx → BitVec 32) : Prop := ∀ x, (fi x).toNat < 640

theorem list_lt {o : Fin 3 → Nat} (h) {k : Fin 2} (ho : o = ![k.val, 0, 0]) {b : Nat} (hb : b < 256) {fi : S1x32768.Idx → BitVec 32} (hfi : InRange fi) :
    ∀ x, ((iList o h).view.read (Elt F) (fetched fi b) x).toNat < S640x128.size gathers_S640x128_S128x128.axis := by
  intro x
  obtain ⟨j, rfl⟩ : ∃ j : Fin 128, x = ix1 j := ⟨x 0, by funext a; match a with | 0 => rfl⟩
  rw [read_iList h ho hb]
  exact hfi _

theorem gathered_ix3 (fc : S640x128.Idx → F .f32) {fi : S1x32768.Idx → BitVec 32} (b : Nat) (hb : b < 256) (k : Fin 2) (i j : Fin 128) :
    gathered fc fi b (ix3 k i j) = fc (ix2 (rowNo (fi (ix2 (0 : Fin 1) ⟨128 * b + i.val, by have := i.isLt; omega⟩))) j) := by
  refine congrArg (fun z : Fin 32768 => fc (ix2 (rowNo (fi (ix2 (0 : Fin 1) z))) j)) (Fin.ext ?_)
  show (128 * b + i.val) % 32768 = _
  exact Nat.mod_eq_of_lt (by have := i.isLt; omega)

/-- The indirect copy by a fetched block leaves the rows it names. -/
theorem write_oSlot {o : Fin 3 → Nat} (h) {k : Fin 2} (ho : o = ![k.val, 0, 0]) {o' : Fin 3 → Nat} (h') {k' : Fin 2} (ho' : o' = ![k'.val, 0, 0])
    {b : Nat} (hb : b < 256) (fd : S2x128x128.Idx → F .f32) (fc : S640x128.Idx → F .f32) {fi : S1x32768.Idx → BitVec 32} (hfi : InRange fi)
    (hn : S128.numel = S128x128.size gathers_S640x128_S128x128.axis')
    (hin : ∀ x, ((iList o' h').view.read (Elt F) (fetched fi b) x).toNat < S640x128.size gathers_S640x128_S128x128.axis) :
    ∀ x ∈ slotO k, (oSlot o h).view.write (Elt F) fd (gatherPayload gathers_S640x128_S128x128 (cAll.view.read (Elt F) fc)
      (rows ((iList o' h').view.read (Elt F) (fetched fi b)) hn hin)) Finset.univ x = gathered fc fi b x := by
  intro x hx
  obtain ⟨i, j, rfl⟩ := slotO_eta hx
  refine (congrArg _ (emb_oSlot h ho i j).symm).trans ((View.write_emb_of_mem _ _ (Finset.mem_univ _)).trans ?_)
  refine Eq.trans ?_ (gathered_ix3 fc b hb k i j).symm
  refine congrArg fc ((emb_cAll _).trans ?_)
  funext a
  apply Fin.ext
  match a with
  | 0 =>
    have e : (S128.rowMajor.symm (i.cast hn.symm) : S128.Idx) = ix1 i := by
      rw [Equiv.symm_apply_eq]
      apply Fin.ext
      rw [Shape.rowMajor_val_one]; rfl
    show ((iList o' h').view.read (Elt F) (fetched fi b) (S128.rowMajor.symm (i.cast hn.symm))).toNat = _
    rw [e, read_iList h' ho' hb]
    exact (Nat.mod_eq_of_lt (hfi _)).symm
  | 1 => rfl

/-! ## The write-out -/

theorem rowsO_eta {r : Nat} {x : S32768x128.Idx} (hx : x ∈ rowsO r (r + 128)) (hr : r + 128 ≤ 32768) :
    ∃ (i j : Fin 128) (hi : r + i.val < 32768), x = ix2 ⟨r + i.val, hi⟩ j := by
  obtain ⟨h0, h1⟩ := (Finset.mem_filter.mp hx).2
  refine ⟨⟨(x 0).val - r, by omega⟩, x 1, by show r + ((x 0).val - r) < _; omega, ?_⟩
  funext a
  apply Fin.ext
  match a with
  | 0 => show (x 0).val = r + ((x 0).val - r); omega
  | 1 => rfl

/-- The write-out of the gathered rows leaves the result on its block. -/
theorem write_oBlk {o : Fin 2 → Nat} (h) {b : Nat} (hb : b < 256) (ho : o = ![128 * b, 0]) {o' : Fin 3 → Nat} (h') {k : Fin 2} (ho' : o' = ![k.val, 0, 0])
    (fd : S32768x128.Idx → F .f32) (fc : S640x128.Idx → F .f32) (fi : S1x32768.Idx → BitVec 32) :
    ∀ x ∈ rowsO (128 * b) (128 * b + 128),
      (oBlk o h).view.write (Elt F) fd ((oSlot o' h').view.read (Elt F) (gathered fc fi b)) Finset.univ x = result fc fi x := by
  intro x hx
  obtain ⟨i, j, hi, rfl⟩ := rowsO_eta hx (by omega)
  refine (congrArg _ (emb_oBlk h ho i j hi).symm).trans ((View.write_emb_of_mem _ _ (Finset.mem_univ _)).trans ?_)
  refine Eq.trans ?_ (gathered_ix3 fc b hb k i j)
  exact congrArg (gathered fc fi b) (emb_oSlot h' ho' i j)

end Cert.Proof.Whole
end
-- ==== Proof.Whole.Rules.lean ====
/-
  The six transfer steps of one trip, each as a rule over the slots: start a fetch, wait for it; gather, wait for it;
  start a write-out, wait for it. What a flight delivers is already in the words of `fetched`, `gathered`, `result`.
-/
module

public import proofs.«01_k».proof.Proof.Whole.Contents

@[expose] public section

noncomputable section

namespace Cert.Proof.Whole

open Cert.KernelIdeal Cert.KernelIdeal.Gen

open Idealize.ShloMosaic
open Idealize.ShloMosaic.SparseCore (S V T gatherPayload rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- A flight carries along what its wait hands back with the delivery. -/
theorem flight_frame {c : Thread nD τ} {sm : SemLoc sig} {ι : HIx 1} {N : ℕ} {D R D' : sProp 𝕄} (h : iprop(D ∗ R) ⊢ D') :
    iprop(Transfers.Flight countersEmb c sm ι N D ∗ R) ⊢ Transfers.Flight countersEmb c sm ι N D' := by
  refine BIBase.Entails.trans ?_ (Transfers.Flight_mono countersEmb c h)
  unfold Transfers.Flight
  iintro ⟨⟨⟨%C, HC, %hcap, %hpeek⟩, Hcred⟩, HR⟩
  isplitr [Hcred]
  · iexists iprop(C ∗ R)
    isplitl [HC HR]; · isplitl [HC] <;> iassumption
    isplit
    · ipureintro
      intro G
      refine BIBase.Entails.trans ?_ (hcap G)
      iintro ⟨⟨HC, HR⟩, HG⟩
      isplitl [HC]; · iexact HC
      iintro ⟨Hv, HD⟩
      iapply HG
      isplitl [Hv]; · iexact Hv
      isplitl [HD] <;> iassumption
    · ipureintro
      intro G
      refine BIBase.Entails.trans ?_ (hpeek G)
      iintro ⟨⟨HC, HR⟩, HG⟩
      isplitl [HC]; · iexact HC
      iintro HC
      iapply HG
      isplitl [HC] <;> iassumption
  · iexact Hcred

section Steps

variable (d : Dev nD) (L : grid1.Coords)

/-- The credits of a block of row numbers, of a block of rows. -/
def nI : ℕ := (iSlot ![0, 0, 0] (by decide)).view.dmaCredit
def nO : ℕ := (oSlot ![0, 0, 0] (by decide)).view.dmaCredit

variable {d L}
variable {defs : Defs nD τ sig (Elt F) Λ₀}
local notation "WP" => wp frame (wpE defs 𝒱₀ (thr d L) none) Set.univ

/-- START A FETCH of block `b` into slot `k`. -/
theorem wp_fetch {o₁ : Fin 3 → Nat} (h₁) {o₂ : Fin 2 → Nat} (h₂) {o₃ : Fin 1 → Nat} (h₃) {k : Fin 2} {b : Nat} (hb : b < 256)
    (e₁ : o₁ = ![k.val, 0, 0]) (e₂ : o₂ = ![0, 128 * b]) (e₃ : o₃ = ![k.val])
    {q : PosShare TreeShare} {fi : S1x32768.Idx → BitVec 32} {p₁ p₂ p₃} {Q : PUnit → sProp 𝕄} :
    iprop((iLoc d ↦{q} fi) ∗ (∃ f, isLoc d L ↦[slotI k]{fullShare} f) ∗ semVal (thr d L, .dma (semI k)) 0)
      ⊢ iprop((Transfers.Flight countersEmb (thr d L) (.dma (semI k)) default nI
            iprop((isLoc d L ↦[slotI k]{fullShare} (fetched fi b : Buf (Elt F) (isLoc d L))) ∗ iLoc d ↦{q} fi) -∗ Q ⟨⟩)
          -∗ WP (Prog.lift (.enqueueDma (iBlk o₂ h₂) (.here (iSlot o₁ h₁)) (.dma (iSem o₃ h₃)) p₁ p₂ p₃)) Q) := by
  iintro ⟨Hi, ⟨%fd, Hs⟩, Hv⟩ HQ
  rw [← iSem_eq h₃ e₃]
  have hsp := pointsTo_split_subset (Val := Elt F) (ℓ := iLoc d) (q := q) (f := fi) (S := Finset.univ) (Ix := HIx 1) (Name := ℕ) (U := UU) (Lvl := ℕ)
    (Finset.subset_univ (iBlk o₂ h₂).view.set)
  ihave Hi := hsp.1 $$ Hi
  icases Hi with ⟨Hi, Hir⟩
  iapply (Transfers.wp_dmaLocal countersEmb 𝒱₀ (thr d L) none (default : HIx 1) nI rfl (by decide) (show (iSlot o₁ h₁).view.set ⊆ slotI k from (set_iSlot h₁ e₁).subset)) $$ [Hi Hs Hv]
  · isplitl [Hi]; · iexact Hi
    isplitl [Hs]; · iexact Hs
    iexact Hv
  iintro Hf
  sl_step
  iapply HQ
  have hj : iprop(((isLoc d L ↦[slotI k]{fullShare} ((iSlot o₁ h₁).view.write (Elt F) fd ((iBlk o₂ h₂).view.read (Elt F) fi) Finset.univ : Buf (Elt F) (isLoc d L)))
        ∗ (iLoc d ↦[(iBlk o₂ h₂).view.set]{q} fi)) ∗ iLoc d ↦[Finset.univ \ (iBlk o₂ h₂).view.set]{q} fi)
      ⊢ (iprop((isLoc d L ↦[slotI k]{fullShare} (fetched fi b : Buf (Elt F) (isLoc d L))) ∗ iLoc d ↦{q} fi) : sProp 𝕄) := by
    iintro ⟨⟨Hs, Hi⟩, Hir⟩
    isplitl [Hs]
    · iapply (Entails.of_eq (pointsTo_congr (write_iSlot (F := F) h₁ e₁ h₂ hb e₂ fd fi))); iexact Hs
    · iapply hsp.2
      isplitl [Hi] <;> iassumption
  iapply (flight_frame hj)
  isplitl [Hf]; · iexact Hf
  iexact Hir

/-- WRITE OUT slot `k`, block `b`'s rows gathered, to block `b` of the output. -/
theorem wp_out {o₁ : Fin 3 → Nat} (h₁) {o₂ : Fin 2 → Nat} (h₂) {o₃ : Fin 1 → Nat} (h₃) {k : Fin 2} {b : Nat} (hb : b < 256)
    (e₁ : o₁ = ![k.val, 0, 0]) (e₂ : o₂ = ![128 * b, 0]) (e₃ : o₃ = ![k.val])
    {fc : S640x128.Idx → F .f32} {fi : S1x32768.Idx → BitVec 32} {f0 : S32768x128.Idx → F .f32} {p₁ p₂ p₃} {Q : PUnit → sProp 𝕄} :
    iprop((osLoc d L ↦[slotO k]{fullShare} (gathered fc fi b : Buf (Elt F) (osLoc d L)))
        ∗ (oLoc d ↦[rowsO (128 * b) (128 * b + 128)]{fullShare} f0) ∗ semVal (thr d L, .dma (semO k)) 0)
      ⊢ iprop((Transfers.Flight countersEmb (thr d L) (.dma (semO k)) default nO
            iprop((oLoc d ↦[rowsO (128 * b) (128 * b + 128)]{fullShare} (result fc fi : Buf (Elt F) (oLoc d))) ∗ ∃ f, osLoc d L ↦[slotO k]{fullShare} f) -∗ Q ⟨⟩)
          -∗ WP (Prog.lift (.enqueueDma (oSlot o₁ h₁) (.here (oBlk o₂ h₂)) (.dma (oSem o₃ h₃)) p₁ p₂ p₃)) Q) := by
  iintro ⟨Hs, Ho, Hv⟩ HQ
  rw [← oSem_eq h₃ e₃]
  iapply (Transfers.wp_dmaLocal countersEmb 𝒱₀ (thr d L) none (default : HIx 1) nO rfl (by decide)
    (show (oBlk o₂ h₂).view.set ⊆ rowsO (128 * b) (128 * b + 128) from (set_oBlk h₂ e₂).subset)) $$ [Hs Ho Hv]
  · isplitl [Hs]
    · iapply (Entails.of_eq (show (osLoc d L ↦[slotO k]{fullShare} (gathered fc fi b : Buf (Elt F) (osLoc d L)) : sProp 𝕄)
        = (oSlot o₁ h₁).view.loc (thr d L) ↦[(oSlot o₁ h₁).view.set]{fullShare} (gathered fc fi b : Buf (Elt F) (osLoc d L)) by rw [set_oSlot h₁ e₁]))
      iexact Hs
    isplitl [Ho]; · iexact Ho
    iexact Hv
  iintro Hf
  sl_step
  iapply HQ
  iapply (Transfers.Flight_mono countersEmb (thr d L) ?_) $$ Hf
  iintro ⟨Ho, Hs⟩
  isplitl [Ho]
  · iapply (Entails.of_eq (pointsTo_congr (write_oBlk h₂ hb e₂ h₁ e₁ f0 fc fi))); iexact Ho
  · iexists _
    iapply (Entails.of_eq (show ((oSlot o₁ h₁).view.loc (thr d L) ↦[(oSlot o₁ h₁).view.set]{fullShare} (gathered fc fi b : Buf (Elt F) (osLoc d L)) : sProp 𝕄)
      = osLoc d L ↦[slotO k]{fullShare} (gathered fc fi b : Buf (Elt F) (osLoc d L)) by rw [set_oSlot h₁ e₁]))
    iexact Hs

/-- The cell of the indirect copies. -/
abbrev semG : DmaSem sig := cc1_scoped4.sem

/-- GATHER by slot `k'`, block `b` fetched, into slot `k`. -/
theorem wp_gather {o₁ : Fin 3 → Nat} (h₁) {o₂ : Fin 3 → Nat} (h₂) {k k' : Fin 2} {b : Nat} (hb : b < 256)
    (e₁ : o₁ = ![k.val, 0, 0]) (e₂ : o₂ = ![k'.val, 0, 0])
    {fc : S640x128.Idx → F .f32} {fi : S1x32768.Idx → BitVec 32} (hfi : InRange fi) {q : PosShare TreeShare} {hn : S128.numel = S128x128.size gathers_S640x128_S128x128.axis'}
    {p₀ p₁ p₂ p₃} {p₄} {Q : PUnit → sProp 𝕄} :
    iprop((cLoc d ↦{q} fc) ∗ (∃ f, osLoc d L ↦[slotO k]{fullShare} f)
        ∗ (isLoc d L ↦[slotI k']{fullShare} (fetched fi b : Buf (Elt F) (isLoc d L))) ∗ semVal (thr d L, .dma semG) 0)
      ⊢ iprop((Transfers.Flight countersEmb (thr d L) (.dma semG) default nO
            iprop((osLoc d L ↦[slotO k]{fullShare} (gathered fc fi b : Buf (Elt F) (osLoc d L))) ∗ (cLoc d ↦{q} fc)
              ∗ isLoc d L ↦[slotI k']{fullShare} (fetched fi b : Buf (Elt F) (isLoc d L))) -∗ Q ⟨⟩)
          -∗ WP (SparseCore.enqueueIndirectGather p₀ cAll (oSlot o₁ h₁) gathers_S640x128_S128x128 (iList o₂ h₂) hn semG p₁ p₂ p₃ p₄) Q) := by
  iintro ⟨Hc, ⟨%fd, Hs⟩, Hl, Hv⟩ HQ
  have hN : ∑ j, ((oSlot o₁ h₁).slice (S128x128.rowRect gathers_S640x128_S128x128.axis' j) (S128x128.stride_rowRect gathers_S640x128_S128x128.axis' j)).view.dmaCredit
      = nO := by
    refine (Finset.sum_congr rfl fun j _ => show _ = ((oSlot ![0, 0, 0] (by decide)).slice (S128x128.rowRect gathers_S640x128_S128x128.axis' j)
      (S128x128.stride_rowRect gathers_S640x128_S128x128.axis' j)).view.dmaCredit from rfl).trans ?_
    decide
  have hin := list_lt (F := F) h₂ e₂ hb hfi
  rw [← bind_pure (SparseCore.enqueueIndirectGather (F := F) p₀ cAll (oSlot o₁ h₁) gathers_S640x128_S128x128 (iList o₂ h₂) hn semG p₁ p₂ p₃ p₄)]
  iapply (SparseCore.wp_indirectGatherLocal countersEmb 𝒱₀ (thr d L) none (hg := gathers_S640x128_S128x128) (default : HIx 1) nO hN (by decide) hin) $$ [Hc Hs Hl Hv]
  · isplitl [Hc]
    · iapply (Entails.of_eq (show (cLoc d ↦{q} fc : sProp 𝕄) = cAll.view.loc (thr d L) ↦[cAll.view.set]{q} fc by rw [set_cAll])); iexact Hc
    isplitl [Hs]
    · iapply (Entails.of_eq (show (osLoc d L ↦[slotO k]{fullShare} fd : sProp 𝕄)
        = (oSlot o₁ h₁).view.loc (thr d L) ↦[(oSlot o₁ h₁).view.set]{fullShare} fd by rw [set_oSlot h₁ e₁])); iexact Hs
    isplitl [Hl]
    · iapply (Entails.of_eq (show (isLoc d L ↦[slotI k']{fullShare} (fetched fi b : Buf (Elt F) (isLoc d L)) : sProp 𝕄)
        = (iList o₂ h₂).view.loc (thr d L) ↦[(iList o₂ h₂).view.set]{fullShare} (fetched fi b : Buf (Elt F) (isLoc d L)) by rw [set_iList h₂ e₂])); iexact Hl
    iexact Hv
  iintro Hf
  sl_step
  iapply HQ
  iapply (Transfers.Flight_mono countersEmb (thr d L) ?_) $$ Hf
  iintro ⟨Hs, Hc, Hl⟩
  isplitl [Hs]
  · iapply (Entails.of_eq (pointsTo_congr (write_oSlot h₁ e₁ h₂ e₂ hb fd fc hfi hn hin)))
    iapply (Entails.of_eq (show ((oSlot o₁ h₁).view.loc (thr d L) ↦[(oSlot o₁ h₁).view.set]{fullShare} _ : sProp 𝕄)
      = osLoc d L ↦[slotO k]{fullShare} _ by rw [set_oSlot h₁ e₁])); iexact Hs
  isplitl [Hc]
  · iapply (Entails.of_eq (show (cAll.view.loc (thr d L) ↦[cAll.view.set]{q} fc : sProp 𝕄) = cLoc d ↦{q} fc by rw [set_cAll])); iexact Hc
  · iapply (Entails.of_eq (show ((iList o₂ h₂).view.loc (thr d L) ↦[(iList o₂ h₂).view.set]{fullShare} (fetched fi b : Buf (Elt F) (isLoc d L)) : sProp 𝕄)
      = isLoc d L ↦[slotI k']{fullShare} (fetched fi b : Buf (Elt F) (isLoc d L)) by rw [set_iList h₂ e₂])); iexact Hl

/-- The tile's debts: what it came with, and waits recorded at the kernel's own cells only. -/
def Owed (d : Dev nD) (L : grid1.Coords) (O : CellTallies nD τ sig (HIx 1)) (W : Waits sig (HIx 1)) : sProp 𝕄 :=
  iprop(∃ W', ⌜∀ p ∈ W', p ∈ W ∨ p.2 = none⌝ ∗ owes (thr d L) O W')

/-- A WAIT takes the flight's delivery. -/
theorem wp_await {s : Shape} {e : EltTy} {κ' : Kind} {b : Ref sig κ'} {hk : (thr d L).2 = Proc.tc ∨ b.HasMemref s e} {sem : DmaSem sig}
    {N : ℕ} (hN : b.dmaCredit s e = N) {sm : DmaSem sig} (hs : sem = sm)
    {D : sProp 𝕄} {O : CellTallies nD τ sig (HIx 1)} {W : Waits sig (HIx 1)} {Q : PUnit → sProp 𝕄} :
    iprop(Transfers.Flight countersEmb (thr d L) (.dma sm) default N D ∗ Owed d L O W ∗ Transfers.MayWaits (thr d L) (default : HIx 1) O)
      ⊢ iprop((iprop(D ∗ semVal (thr d L, .dma sm) 0 ∗ Owed d L O W) -∗ Q ⟨⟩)
          -∗ WP (Prog.lift (.waitDma sem b s e hk)) Q) := by
  subst hs
  unfold Owed
  iintro ⟨Hf, ⟨%W', %hW, HO⟩, Hmw⟩ HQ
  iapply (Transfers.wp_waitLocalOSized countersEmb 𝒱₀ (thr d L) none (default : HIx 1) hN) $$ [Hf HO Hmw]
  · isplitl [Hf]; · iexact Hf
    isplitl [HO]; · iexact HO
    iapply (Transfers.MayWaits.elim (SemLoc.dma sem)) $$ Hmw
  iintro ⟨HD, Hv, HO⟩
  sl_step
  iapply HQ
  isplitl [HD]; · iexact HD
  isplitl [Hv]; · iexact Hv
  iexists _; isplitr
  swap; · iexact HO
  ipureintro; intro p hp
  rcases Finset.mem_insert.mp hp with hp | hp; · exact .inr (hp ▸ rfl)
  exact hW p hp

/-- The wait for a fetch, for a gather, for a write-out. -/
theorem wp_await_fetch {o₃ : Fin 1 → Nat} {h₃} {k : Fin 2} (e₃ : o₃ = ![k.val]) {hk}
    {D : sProp 𝕄} {O : CellTallies nD τ sig (HIx 1)} {W : Waits sig (HIx 1)} {Q : PUnit → sProp 𝕄} :
    iprop(Transfers.Flight countersEmb (thr d L) (.dma (semI k)) default nI D ∗ Owed d L O W ∗ Transfers.MayWaits (thr d L) (default : HIx 1) O)
      ⊢ iprop((iprop(D ∗ semVal (thr d L, .dma (semI k)) 0 ∗ Owed d L O W) -∗ Q ⟨⟩)
          -∗ WP (Prog.lift (.waitDma (iSem o₃ h₃) (Memref.whole cc1_scoped0).view.ref S1x128 .i32 hk)) Q) :=
  wp_await rfl (iSem_eq h₃ e₃)

theorem wp_await_gather {hk}
    {D : sProp 𝕄} {O : CellTallies nD τ sig (HIx 1)} {W : Waits sig (HIx 1)} {Q : PUnit → sProp 𝕄} :
    iprop(Transfers.Flight countersEmb (thr d L) (.dma (semG)) default nO D ∗ Owed d L O W ∗ Transfers.MayWaits (thr d L) (default : HIx 1) O)
      ⊢ iprop((iprop(D ∗ semVal (thr d L, .dma (semG)) 0 ∗ Owed d L O W) -∗ Q ⟨⟩)
          -∗ WP (Prog.lift (.waitDma semG (Memref.whole cc1_scoped2).view.ref S128x128 .f32 hk)) Q) :=
  wp_await rfl rfl

theorem wp_await_out {o₃ : Fin 1 → Nat} {h₃} {k : Fin 2} (e₃ : o₃ = ![k.val]) {hk}
    {D : sProp 𝕄} {O : CellTallies nD τ sig (HIx 1)} {W : Waits sig (HIx 1)} {Q : PUnit → sProp 𝕄} :
    iprop(Transfers.Flight countersEmb (thr d L) (.dma (semO k)) default nO D ∗ Owed d L O W ∗ Transfers.MayWaits (thr d L) (default : HIx 1) O)
      ⊢ iprop((iprop(D ∗ semVal (thr d L, .dma (semO k)) 0 ∗ Owed d L O W) -∗ Q ⟨⟩)
          -∗ WP (Prog.lift (.waitDma (oSem o₃ h₃) (Memref.whole main_v10_scv).view.ref S128x128 .f32 hk)) Q) :=
  wp_await rfl (oSem_eq h₃ e₃)

/-- A side condition that holds is passed. -/
theorem wp_ask {p : Prop} {i : Decidable p} (h : p) {Q : PLift p → sProp 𝕄} :
    (Q ⟨h⟩ : sProp 𝕄) ⊢ WP (Prog.lift (TpuEff.assume p i)) Q := by
  refine BIBase.Entails.trans ?_ (Idealize.ShloMosaic.wp_assume 𝒱₀ (thr d L) none Set.univ h)
  iintro H
  sl_step
  iexact H

/-- A step done only under a condition, and the rest after it. -/
theorem wp_when {c : Prop} [Decidable c] {α : Type} {A : c → Prog (TpuEff nD τ sig (Elt F) Λ₀ (thr d L).2) PUnit}
    {rest : Prog (TpuEff nD τ sig (Elt F) Λ₀ (thr d L).2) α} {R R' : sProp 𝕄} {Q : α → sProp 𝕄}
    (hpos : ∀ (h : c) (Q' : PUnit → sProp 𝕄), R ⊢ iprop((R' -∗ Q' ⟨⟩) -∗ WP (A h) Q')) (hneg : ¬c → R ⊢ R') :
    R ⊢ iprop((R' -∗ WP rest Q) -∗ WP (if h : c then A h >>= fun _ => rest else rest) Q) := by
  by_cases h : c
  · rw [dif_pos h, wp_bind]
    exact hpos h (fun _ => WP rest Q)
  · rw [dif_neg h]
    iintro HR HQ
    iapply HQ
    iapply (hneg h)
    iexact HR

end Steps

end Cert.Proof.Whole
end
-- ==== Proof.Whole.Trip.lean ====
/-
  One trip of the pipeline. Before trip `n` block `n` is on its way into its slot, the rows of block `n − 1` on theirs to
  the output, and everything before them there already; the trip fetches block `n + 1`, waits for block `n`, gathers its
  rows, starts their write-out and waits for the one before.
-/
module

public import proofs.«01_k».proof.Proof.Whole.Rules

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid1.Coords)
variable (fc : S640x128.Idx → F .f32) (fi : S1x32768.Idx → BitVec 32) (f0 : S32768x128.Idx → F .f32)
-- the tile's share of the table; its shares of the row numbers, one for each slot
variable (qc : PosShare TreeShare) (qi : Fin 2 → PosShare TreeShare)
variable (O : CellTallies nD τ sig (HIx 1)) (W : Waits sig (HIx 1))

/-- Slot `k` of the row numbers free; block `b` on its way into it. -/
def idleI (k : Fin 2) : sProp 𝕄 :=
  iprop((∃ f, isLoc d L ↦[slotI k]{fullShare} f) ∗ (iLoc d ↦{qi k} fi) ∗ semVal (thr d L, .dma (semI k)) 0)
def busyI (k : Fin 2) (b : Nat) : sProp 𝕄 :=
  Transfers.Flight countersEmb (thr d L) (.dma (semI k)) default nI
    iprop((isLoc d L ↦[slotI k]{fullShare} (fetched fi b : Buf (Elt F) (isLoc d L))) ∗ iLoc d ↦{qi k} fi)
/-- Slot `k` of the rows free; block `b`'s rows on their way out of it. -/
def idleO (k : Fin 2) : sProp 𝕄 :=
  iprop((∃ f, osLoc d L ↦[slotO k]{fullShare} f) ∗ semVal (thr d L, .dma (semO k)) 0)
def busyO (k : Fin 2) (b : Nat) : sProp 𝕄 :=
  Transfers.Flight countersEmb (thr d L) (.dma (semO k)) default nO
    iprop((oLoc d ↦[rowsO (128 * b) (128 * b + 128)]{fullShare} (result fc fi : Buf (Elt F) (oLoc d))) ∗ ∃ f, osLoc d L ↦[slotO k]{fullShare} f)

/-- The slot of block `n` before trip `n`: the block's fetch, and nothing after the last. -/
def nextI (n : Nat) : sProp 𝕄 := if n < 8 then busyI d L fi qi (par n) (base L + n) else idleI d L fi qi (par n)
/-- The slot of block `n − 1` before trip `n`: its rows' write-out, and nothing before the first. -/
def lastO (n : Nat) : sProp 𝕄 := if n = 0 then idleO d L (par (n + 1)) else busyO d L fc fi (par (n + 1)) (base L + (n - 1))

theorem nextI_lt {n : Nat} (h : n < 8) : nextI (F := F) d L fi qi n = busyI d L fi qi (par n) (base L + n) := if_pos h
theorem nextI_end {n : Nat} (h : ¬n < 8) : nextI (F := F) d L fi qi n = idleI d L fi qi (par n) := if_neg h
theorem nextI_busy {n : Nat} (h : n < 8) : nextI (F := F) d L fi qi n
    = Transfers.Flight countersEmb (thr d L) (.dma (semI (par n))) default nI
        iprop((isLoc d L ↦[slotI (par n)]{fullShare} (fetched fi (base L + n) : Buf (Elt F) (isLoc d L))) ∗ iLoc d ↦{qi (par n)} fi) := by
  rw [nextI_lt d L fi qi h, busyI]
theorem idleI_eq (k : Fin 2) : idleI (F := F) d L fi qi k
    = iprop((∃ f, isLoc d L ↦[slotI k]{fullShare} f) ∗ (iLoc d ↦{qi k} fi) ∗ semVal (thr d L, .dma (semI k)) 0) := by
  rw [idleI]
theorem nextI_idle {n : Nat} (h : ¬n < 8) : nextI (F := F) d L fi qi n
    = iprop((∃ f, isLoc d L ↦[slotI (par n)]{fullShare} f) ∗ (iLoc d ↦{qi (par n)} fi) ∗ semVal (thr d L, .dma (semI (par n))) 0) := by
  rw [nextI_end d L fi qi h, idleI]
theorem idleO_eq (k : Fin 2) : idleO (F := F) d L k = iprop((∃ f, osLoc d L ↦[slotO k]{fullShare} f) ∗ semVal (thr d L, .dma (semO k)) 0) := by
  rw [idleO]
theorem lastO_first : lastO (F := F) d L fc fi 0 = idleO d L (par 1) := if_pos rfl
theorem lastO_succ (n : Nat) : lastO (F := F) d L fc fi (n + 1) = busyO d L fc fi (par (n + 2)) (base L + n) := if_neg (Nat.succ_ne_zero n)
theorem lastO_busy (m : Nat) : lastO (F := F) d L fc fi (m + 1)
    = Transfers.Flight countersEmb (thr d L) (.dma (semO (par (m + 2)))) default nO
        iprop((oLoc d ↦[rowsO (128 * (base L + m)) (128 * (base L + m) + 128)]{fullShare} (result fc fi : Buf (Elt F) (oLoc d)))
          ∗ ∃ f, osLoc d L ↦[slotO (par (m + 2))]{fullShare} f) := by
  rw [lastO_succ, busyO]

/-- The loop's counters before trip `n`. -/
def accAt (n : Nat) : BitVec 32 × BitVec 32 × BitVec 32 × BitVec 32 × BitVec 32 := (w (min (n + 1) 8), w n, w n, w (n - 1), w (n % 8))

/-- What the tile holds before trip `n`. -/
def inv (n : Nat) (acc : BitVec 32 × BitVec 32 × BitVec 32 × BitVec 32 × BitVec 32) : sProp 𝕄 :=
  iprop(⌜acc = accAt n⌝ ∗ nextI d L fi qi n ∗ idleI d L fi qi (par (n + 1)) ∗ lastO d L fc fi n ∗ idleO d L (par n)
    ∗ (cLoc d ↦{qc} fc) ∗ semVal (thr d L, .dma semG) 0
    ∗ (oLoc d ↦[rowsO (128 * base L) (128 * (base L + (n - 1)))]{fullShare} (result fc fi : Buf (Elt F) (oLoc d)))
    ∗ (oLoc d ↦[rowsO (128 * (base L + n)) (128 * (base L + 8))]{fullShare} (f0 : Buf (Elt F) (oLoc d)))
    ∗ Owed d L O W ∗ Transfers.MayWaits (thr d L) (default : HIx 1) O)

/-- A run of rows is its first part and its second. -/
theorem rowsO_split {lo mid hi : Nat} (h₁ : lo ≤ mid) (h₂ : mid ≤ hi) (f : S32768x128.Idx → F .f32) :
    (oLoc d ↦[rowsO lo hi]{fullShare} (f : Buf (Elt F) (oLoc d)) : sProp 𝕄)
      = iprop((oLoc d ↦[rowsO lo mid]{fullShare} (f : Buf (Elt F) (oLoc d))) ∗ oLoc d ↦[rowsO mid hi]{fullShare} (f : Buf (Elt F) (oLoc d))) := by
  have hd : Disjoint (rowsO lo mid) (rowsO mid hi) := Finset.disjoint_left.mpr fun x h h' => by
    have := (Finset.mem_filter.mp h).2; have := (Finset.mem_filter.mp h').2; omega
  have hu : rowsO lo hi = rowsO lo mid ∪ rowsO mid hi := by
    ext x
    simp only [rowsO, Finset.mem_union, Finset.mem_filter, Finset.mem_univ, true_and]
    omega
  rw [hu]
  exact Idealize.SL.BI.Entails.antisymm (pointsTo_union hd).1 (pointsTo_union hd).2

end Trip

section Body

variable {d : Dev nD} {L : grid1.Coords}
variable {fc : S640x128.Idx → F .f32} {fi : S1x32768.Idx → BitVec 32} {f0 : S32768x128.Idx → F .f32}
variable {qc : PosShare TreeShare} {qi : Fin 2 → PosShare TreeShare}
variable {O : CellTallies nD τ sig (HIx 1)} {W : Waits sig (HIx 1)}

local notation "WP" => wp frame (wpE (defs₀ (F := F)) 𝒱₀ (thr d L) none) Set.univ

set_option maxHeartbeats 400000 in
theorem trip (hfi : InRange fi) (t : Fin k1_t1_loop.trips) (acc) :
    inv d L fc fi f0 qc qi O W t.val acc
      ⊢ WP (k1_t1_body L (Memref.whole main_v8_scv) (Memref.isWhole_whole _) (Memref.whole main_v9_scv) (Memref.isWhole_whole _)
          (Memref.whole main_v10_scv) (Memref.isWhole_whole _) (Memref.whole cc1_scoped0) (Memref.isWhole_whole _) cc1_scoped1
          (Memref.whole cc1_scoped2) (Memref.isWhole_whole _) cc1_scoped3 cc1_scoped4 (BitVec.ofNat 32 (base L)) t acc)
        (inv d L fc fi f0 qc qi O W (t.val + 1)) := by
  have ht : t.val < 8 := lt_of_lt_of_eq t.isLt trips_eq
  unfold inv
  iintro ⟨%hacc, HI, HIo, HO, HOo, Hc, Hg, Hd, Ht, Ho, #Hmw⟩
  subst hacc
  have e1 : min (t.val + 1) 8 = t.val + 1 := by omega
  have e2 : t.val % 8 = t.val := Nat.mod_eq_of_lt ht
  unfold k1_t1_body
  unfold accAt
  rw [e1, e2]
  simp only [k1_part1_eq_skeleton, k1_part2_eq_skeleton]
  unfold k1_part1_skel
  have c1 := chk1_true L t
  have c2 := chk2_true t
  have c3 := chk3_true t
  simp only [wp_bind]
  iapply (wp_ask c3)
  iapply (wp_ask c2)
  iapply (wp_ask c1)
  have hbase := base_le L
  -- the next block's fetch
  iapply (wp_when (R := idleI d L fi qi (par (t.val + 1))) (R' := nextI d L fi qi (t.val + 1)) ?_ ?_) $$ HIo
  · intro h Q'
    have h7 := (cond1_iff L t).mp h
    rw [nextI_lt d L fi qi (by omega : t.val + 1 < 8)]
    unfold idleI busyI
    iintro ⟨Hs, Hi, Hv⟩ HQ
    iapply (wp_fetch _ _ _ (k := par (t.val + 1)) (b := base L + (t.val + 1)) (by omega) (off4_eq t) (off5_eq L t h7) (off6_eq t)) $$ [Hs Hi Hv]
    · isplitl [Hi]; · iexact Hi
      isplitl [Hs]; · iexact Hs
      iexact Hv
    iexact HQ
  · intro h
    have h7 : ¬(t.val + 1 < 8) := fun h7 => h ((cond1_iff L t).mpr (by omega))
    rw [nextI_end d L fi qi h7]
  iintro HIo
  sl_step
  unfold k1_part2_skel
  simp only [wp_bind, ite_self]
  -- this block's arrival
  rw [dif_pos (cond2_true L t)]
  simp only [wp_bind]
  ihave HI := (Entails.of_eq (nextI_busy d L fi qi ht)) $$ HI
  iapply (wp_await_fetch (k := par t.val) (off9_eq t)) $$ [HI Ho]
  · isplitl [HI]; · iexact HI
    isplitl [Ho]; · iexact Ho
    iexact Hmw
  iintro ⟨⟨Hs, Hi⟩, Hv, Ho⟩
  -- its rows' gather
  ihave HOo := (Entails.of_eq (idleO_eq d L (par t.val))) $$ HOo
  icases HOo with ⟨Hos, Hvo⟩
  iapply (wp_gather _ _ (k := par t.val) (k' := par t.val) (b := base L + t.val) (by omega) (off10_eq t) (off11_eq t) hfi) $$ [Hc Hos Hs Hg]
  · isplitl [Hc]; · iexact Hc
    isplitl [Hos]; · iexact Hos
    isplitl [Hs]; · iexact Hs
    iexact Hg
  iintro Hf
  iapply wp_await_gather $$ [Hf Ho]
  · isplitl [Hf]; · iexact Hf
    isplitl [Ho]; · iexact Ho
    iexact Hmw
  iintro ⟨⟨Hos, Hc, Hs⟩, Hg, Ho⟩
  sl_step
  -- the rows' write-out
  rw [dif_pos (cond5_true L t)]
  simp only [wp_bind]
  ihave Ht := (Entails.of_eq (rowsO_split d (mid := 128 * (base L + t.val) + 128) (by omega) (by omega) f0)) $$ Ht
  icases Ht with ⟨Hb, Ht⟩
  iapply (wp_out _ _ _ (k := par t.val) (b := base L + t.val) (by omega) (off12_eq t) (off13_eq L t) (off14_eq t)) $$ [Hos Hb Hvo]
  · isplitl [Hos]; · iexact Hos
    isplitl [Hb]; · iexact Hb
    iexact Hvo
  iintro Hfo
  -- the write-out before
  iapply (wp_when (R := iprop(lastO d L fc fi t.val ∗ Owed d L O W ∗ Transfers.MayWaits (thr d L) (default : HIx 1) O
        ∗ oLoc d ↦[rowsO (128 * base L) (128 * (base L + (t.val - 1)))]{fullShare} (result fc fi : Buf (Elt F) (oLoc d))))
      (R' := iprop(idleO d L (par (t.val + 1)) ∗ Owed d L O W
        ∗ oLoc d ↦[rowsO (128 * base L) (128 * (base L + t.val))]{fullShare} (result fc fi : Buf (Elt F) (oLoc d)))) ?_ ?_) $$ [HO Ho Hd]
  · intro h Q'
    have h0 := (cond7_iff L t).mp h
    obtain ⟨m, hm⟩ : ∃ m, t.val = m + 1 := ⟨t.val - 1, by omega⟩
    have hp : par (t.val + 1) = par (m + 2) := by rw [hm]
    have hk : t.val - 1 = m := by omega
    have hl : lastO (F := F) d L fc fi t.val = Transfers.Flight countersEmb (thr d L) (.dma (semO (par (t.val + 1)))) default nO
        iprop((oLoc d ↦[rowsO (128 * (base L + m)) (128 * (base L + m) + 128)]{fullShare} (result fc fi : Buf (Elt F) (oLoc d)))
          ∗ ∃ f, osLoc d L ↦[slotO (par (t.val + 1))]{fullShare} f) := by
      rw [hp, hm]; exact lastO_busy d L fc fi m
    have hrows := rowsO_split (F := F) d (lo := 128 * base L) (mid := 128 * (base L + m)) (hi := 128 * (base L + t.val)) (by omega) (by omega) (result fc fi)
    have hrow : 128 * (base L + t.val) = 128 * (base L + m) + 128 := by omega
    have hpar : ![(t.val - 1) % 2] = ![(par (t.val + 1)).val] := congrArg (fun n : Nat => ![n]) (by unfold par; simp only; omega)
    iintro ⟨Hf, Ho, Hmw, Hd⟩ HQ
    ihave Hf := (Entails.of_eq hl) $$ Hf
    iapply (wp_await_out (k := par (t.val + 1)) ((off17_eq t).trans hpar)) $$ [Hf Ho Hmw]
    · isplitl [Hf]; · iexact Hf
      isplitl [Ho]; · iexact Ho
      iexact Hmw
    iintro ⟨⟨Hn, Hs⟩, Hv, Ho⟩
    iapply HQ
    isplitl [Hs Hv]
    · rw [idleO_eq]
      isplitl [Hs]; · iexact Hs
      iexact Hv
    isplitl [Ho]; · iexact Ho
    rw [hrows, hrow, hk]
    isplitl [Hd]; · iexact Hd
    iexact Hn
  · intro h
    have h0 : t.val = 0 := by
      by_contra h0; exact h ((cond7_iff L t).mpr (by omega))
    rw [h0, lastO_first]
    iintro ⟨Hl, Ho, -, Hd⟩
    isplitl [Hl]; · iexact Hl
    isplitl [Ho]; · iexact Ho
    iexact Hd
  · isplitl [HO]; · iexact HO
    isplitl [Ho]; · iexact Ho
    isplitr [Hd]; · iexact Hmw
    iexact Hd
  iintro ⟨HOo, Ho, Hd⟩
  have hp2 : par (t.val + 1 + 1) = par t.val := by unfold par; ext; simp; omega
  sl_step
  isplitr
  · ipureintro
    clear * -
    revert t
    rw [← coordsV_eta L]
    generalize L 0 = a
    generalize L 1 = b
    revert a b
    decide +kernel
  isplitl [HIo]; · iexact HIo
  isplitl [Hs Hi Hv]
  · rw [hp2]
    unfold idleI
    isplitl [Hs]; · iexists _; iexact Hs
    isplitl [Hi]; · iexact Hi
    iexact Hv
  isplitl [Hfo]
  · rw [lastO_busy, hp2]
    iexact Hfo
  isplitl [HOo]; · iexact HOo
  isplitl [Hc]; · iexact Hc
  isplitl [Hg]; · iexact Hg
  isplitl [Hd]; · iexact Hd
  isplitl [Ht]
  · rw [show 128 * (base L + (t.val + 1)) = 128 * (base L + t.val) + 128 by omega]
    iexact Ht
  isplitl [Ho]; · iexact Ho
  iexact Hmw

end Body

end Cert.Proof.Whole
end
-- ==== Proof.Whole.Own.lean ====
/-
  What the launch gives a tile, taken apart for the pipeline: each scratch buffer as its two slots, the five counters by
  name.
-/
module

public import proofs.«01_k».proof.Proof.Whole.Trip

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid1.Coords)

/-- A buffer at some contents is two parts of it, each at some contents. -/
theorem halves {ℓ : Loc nD τ sig} {A B : Finset (Idx ℓ)} (hd : Disjoint A B) (hu : A ∪ B = Finset.univ) :
    iprop(∃ f, ℓ ↦{fullShare} f) = (iprop((∃ f, ℓ ↦[A]{fullShare} f) ∗ ∃ f, ℓ ↦[B]{fullShare} f) : sProp 𝕄) := by
  classical
  have h₁ : iprop(∃ f, ℓ ↦{fullShare} f) ⊢ (iprop((∃ f, ℓ ↦[A]{fullShare} f) ∗ ∃ f, ℓ ↦[B]{fullShare} f) : sProp 𝕄) := by
    iintro ⟨%f, H⟩
    ihave H := (Entails.of_eq (show (ℓ ↦{fullShare} f : sProp 𝕄) = ℓ ↦[A ∪ B]{fullShare} f by rw [hu])) $$ H
    ihave H := (pointsTo_union (Val := Elt F) (ℓ := ℓ) (q := fullShare) (f := f) (Ix := HIx 1) (Name := ℕ) (U := UU) (Lvl := ℕ) hd).1 $$ H
    icases H with ⟨HA, HB⟩
    isplitl [HA]; · iexists f; iexact HA
    iexists f; iexact HB
  have h₂ : iprop((∃ f, ℓ ↦[A]{fullShare} f) ∗ ∃ f, ℓ ↦[B]{fullShare} f) ⊢ (iprop(∃ f, ℓ ↦{fullShare} f) : sProp 𝕄) := by
    iintro ⟨⟨%f, HA⟩, ⟨%g, HB⟩⟩
    have eA : (ℓ ↦[A]{fullShare} f : sProp 𝕄) = ℓ ↦[A]{fullShare} (fun x => if x ∈ A then f x else g x) :=
      pointsTo_congr fun x hx => (if_pos hx).symm
    have eB : (ℓ ↦[B]{fullShare} g : sProp 𝕄) = ℓ ↦[B]{fullShare} (fun x => if x ∈ A then f x else g x) :=
      pointsTo_congr fun x hx => (if_neg (Finset.disjoint_right.mp hd hx)).symm
    ihave HA := (Entails.of_eq eA) $$ HA
    ihave HB := (Entails.of_eq eB) $$ HB
    iexists (fun x => if x ∈ A then f x else g x)
    rw [show (ℓ ↦{fullShare} (fun x => if x ∈ A then f x else g x) : sProp 𝕄) = ℓ ↦[A ∪ B]{fullShare} (fun x => if x ∈ A then f x else g x) by rw [hu]]
    iapply (pointsTo_union (Val := Elt F) (ℓ := ℓ) (q := fullShare) (f := fun x => if x ∈ A then f x else g x) (Ix := HIx 1) (Name := ℕ) (U := UU) (Lvl := ℕ) hd).2
    isplitl [HA]; · iexact HA
    iexact HB
  exact Idealize.SL.BI.Entails.antisymm h₁ h₂

theorem slotsI : iprop(∃ f, isLoc d L ↦{fullShare} f)
    = (iprop((∃ f, isLoc d L ↦[slotI 0]{fullShare} f) ∗ ∃ f, isLoc d L ↦[slotI 1]{fullShare} f) : sProp 𝕄) :=
  halves (Finset.disjoint_left.mpr fun x h h' => absurd ((Finset.mem_filter.mp h).2.symm.trans (Finset.mem_filter.mp h').2) (by decide))
    (Finset.eq_univ_of_forall fun x => by
      have h : (x 0).val < 2 := (x 0).isLt
      refine Finset.mem_union.mpr ?_
      rcases (by omega : (x 0).val = 0 ∨ (x 0).val = 1) with h | h
      · exact .inl (Finset.mem_filter.mpr ⟨Finset.mem_univ _, h⟩)
      · exact .inr (Finset.mem_filter.mpr ⟨Finset.mem_univ _, h⟩))
theorem slotsO : iprop(∃ f, osLoc d L ↦{fullShare} f)
    = (iprop((∃ f, osLoc d L ↦[slotO 0]{fullShare} f) ∗ ∃ f, osLoc d L ↦[slotO 1]{fullShare} f) : sProp 𝕄) :=
  halves (Finset.disjoint_left.mpr fun x h h' => absurd ((Finset.mem_filter.mp h).2.symm.trans (Finset.mem_filter.mp h').2) (by decide))
    (Finset.eq_univ_of_forall fun x => by
      have h : (x 0).val < 2 := (x 0).isLt
      refine Finset.mem_union.mpr ?_
      rcases (by omega : (x 0).val = 0 ∨ (x 0).val = 1) with h | h
      · exact .inl (Finset.mem_filter.mpr ⟨Finset.mem_univ _, h⟩)
      · exact .inr (Finset.mem_filter.mpr ⟨Finset.mem_univ _, h⟩))

/-- The five counters, in the order the program allocates them. -/
def dmaOf : Fin 5 → DmaSem sig := ![semI 0, semI 1, semO 0, semO 1, semG]
abbrev cell (k : Fin 5) : GSem nD τ sig := (thr d L, .dma (dmaOf k))
theorem dmaOf_ne : ∀ a b : Fin 5, a ≠ b → dmaOf a ≠ dmaOf b := by decide
theorem cell_ne {a b : Fin 5} (h : a ≠ b) : cell d L a ≠ cell d L b := fun e =>
  dmaOf_ne a b h (SemLoc.dma.inj (congrArg Prod.snd e))
theorem cell_mem (k : Fin 5) : cell d L k ∈ ownCells (thr d L) :=
  mem_ownCells.mpr ⟨rfl, by show (SemLoc.dma (dmaOf k) : SemLoc sig).isScoped .scVector = true; revert k; decide⟩
/-- The tile's other counters. -/
def otherCells : Finset (GSem nD τ sig) :=
  (((((ownCells (thr d L)).erase (cell d L 0)).erase (cell d L 1)).erase (cell d L 2)).erase (cell d L 3)).erase (cell d L 4)

theorem ownSems0_tile :
    (ownSems0 (thr d L) : sProp 𝕄)
      = iprop(semVal (cell d L 0) 0 ∗ semVal (cell d L 1) 0 ∗ semVal (cell d L 2) 0 ∗ semVal (cell d L 3) 0 ∗ semVal (cell d L 4) 0
          ∗ bigSep (otherCells d L) fun g => semVal g 0) := by
  have ne (a b : Fin 5) (h : a ≠ b := by decide) := cell_ne d L h
  have m0 := cell_mem d L 0
  have m1 := Finset.mem_erase.mpr ⟨ne 1 0, cell_mem d L 1⟩
  have m2 := Finset.mem_erase.mpr ⟨ne 2 1, Finset.mem_erase.mpr ⟨ne 2 0, cell_mem d L 2⟩⟩
  have m3 := Finset.mem_erase.mpr ⟨ne 3 2, Finset.mem_erase.mpr ⟨ne 3 1, Finset.mem_erase.mpr ⟨ne 3 0, cell_mem d L 3⟩⟩⟩
  have m4 := Finset.mem_erase.mpr ⟨ne 4 3, Finset.mem_erase.mpr ⟨ne 4 2, Finset.mem_erase.mpr ⟨ne 4 1, Finset.mem_erase.mpr ⟨ne 4 0, cell_mem d L 4⟩⟩⟩⟩
  unfold SparseCore.Cfg.ownSems0 otherCells
  rw [SparseCore.bigSep_erase' m0, SparseCore.bigSep_erase' m1, SparseCore.bigSep_erase' m2, SparseCore.bigSep_erase' m3, SparseCore.bigSep_erase' m4]

/-- The tile's other buffers. -/
def otherBufs : Finset (DevRef τ sig) :=
  ((ownRefs (τ := τ) (.scVector (cV L) (jV L))).erase ((Proc.scVector (cV L) (jV L)).devRef cc1_scoped0)).erase
    ((Proc.scVector (cV L) (jV L)).devRef cc1_scoped2)

theorem ownBufs_tile :
    (ownBufs (thr d L) : sProp 𝕄)
      = iprop((∃ f, isLoc d L ↦{fullShare} f) ∗ (∃ f, osLoc d L ↦{fullShare} f)
          ∗ bigSep (otherBufs L) fun b => iprop(∃ f, ((d, b) : Loc nD τ sig) ↦{fullShare} f)) := by
  unfold SparseCore.Cfg.ownBufs otherBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

end Cert.Proof.Whole
end
-- ==== Proof.Whole.Tile.lean ====
/-
  A tile's run: the first block's fetch, the eight trips, the last write-out's wait. It reads the table and the row
  numbers at shares, and fills its 1024 rows of the output with the rows its numbers name.
-/
module

public import proofs.«01_k».proof.Proof.Whole.Own

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable {d : Dev nD} {L : grid1.Coords}
variable {fc : S640x128.Idx → F .f32} {fi : S1x32768.Idx → BitVec 32} {f0 : S32768x128.Idx → F .f32}
variable {qc : PosShare TreeShare} {qi : Fin 2 → PosShare TreeShare}

local notation "WP" => wp frame (wpE (defs₀ (F := F)) 𝒱₀ (thr d L) none) Set.univ

/-- The tile's first block, as the program computes it. -/
theorem base_word (L : grid1.Coords) :
    Scalar.muli (Scalar.addi (Scalar.addi 0#32 (Scalar.muli (BitVec.ofNat 32 (L 1).val) 1#32)) (Scalar.muli (BitVec.ofNat 32 (L 0).val) 16#32)) 8#32
      = BitVec.ofNat 32 (base L) := by
  rw [← coordsV_eta L]
  generalize L 0 = a
  generalize L 1 = b
  revert a b
  decide +kernel

/-- What the tile is handed and hands back: its shares of the table and the row numbers, its rows of the output. -/
def tilePts (d : Dev nD) (L : grid1.Coords) (fc : S640x128.Idx → F .f32) (fi : S1x32768.Idx → BitVec 32) (qc : PosShare TreeShare)
    (qi : Fin 2 → PosShare TreeShare) (f : S32768x128.Idx → F .f32) : sProp 𝕄 :=
  iprop((cLoc d ↦{qc} fc) ∗ (iLoc d ↦{qi 0} fi) ∗ (iLoc d ↦{qi 1} fi)
    ∗ oLoc d ↦[rowsO (128 * base L) (128 * (base L + 8))]{fullShare} (f : Buf (Elt F) (oLoc d)))

set_option maxHeartbeats 400000 in
theorem tile_body (hF : (K (F := F)).Facts) (hfi : InRange fi) (O : CellTallies nD τ sig (HIx 1)) (W : Waits sig (HIx 1)) (hO : ∀ g, O g none = 0) :
    iprop(levAts (K (F := F)).L (K (F := F)).lev ∗ emp ∗ tilePts d L fc fi qc qi f0
        ∗ scopedBufs (thr d L) ∗ scopedSems0 (thr d L) ∗ owes (thr d L) O W)
      ⊢ WP (cc1_k L (Memref.whole main_v8_scv) (Memref.isWhole_whole _) (Memref.whole main_v9_scv) (Memref.isWhole_whole _)
          (Memref.whole main_v10_scv) (Memref.isWhole_whole _) (Memref.whole cc1_scoped0) (Memref.isWhole_whole _) cc1_scoped1
          (Memref.whole cc1_scoped2) (Memref.isWhole_whole _) cc1_scoped3 cc1_scoped4)
        fun _ => iprop(tilePts d L fc fi qc qi (result fc fi) ∗ scopedBufs (thr d L) ∗ scopedSems0 (thr d L) ∗ Owed d L O W) := by
  simp only [cc1_k_eq_skeleton]
  unfold cc1_k_skel
  simp only [k1_part3_eq_skeleton, k1_part4_eq_skeleton]
  unfold k1_part3_skel tilePts
  simp only [wp_bind]
  rw [(K (F := F)).scopedBufs_V hF d (cV L) (jV L), SparseCore.Cfg.scopedSems0_V (Val := Elt F) d (cV L) (jV L), ownSems0_tile, ownBufs_tile,
    slotsI, slotsO]
  iintro ⟨#Hlv, -, ⟨Hc, Hi0, Hi1, Ho⟩, ⟨⟨Hs0, Hs1⟩, ⟨Hr0, Hr1⟩, Hbufs⟩, ⟨Hv0, Hv1, Hw0, Hw1, Hg, Hsems⟩, HO⟩
  ihave #Hmw := (show levAts (K (F := F)).L (K (F := F)).lev ⊢ Transfers.MayWaits (thr d L) (default : HIx 1) O from
    (K (F := F)).mayWaits_none (thr := thr d L) hO) $$ Hlv
  -- block 0's fetch
  have hb := base_le L
  iapply (wp_fetch _ _ _ (k := 0) (b := base L) (by omega) off1_eq (off2_eq L) off3_eq) $$ [Hi0 Hs0 Hv0]
  · isplitl [Hi0]; · iexact Hi0
    isplitl [Hs0]; · iexact Hs0
    iexact Hv0
  iintro Hf
  sl_step
  rw [base_word L]
  unfold k1_part4_skel
  simp only [wp_bind]
  iapply (Scf.wp_for (I := inv d L fc fi f0 qc qi O W) (hbody := fun t acc => trip hfi t acc))
  isplitl [Hf Hi1 Hs1 Hv1 Hr0 Hr1 Hw0 Hw1 Hc Hg Ho HO]
  · unfold inv
    isplitr
    · ipureintro; decide
    isplitl [Hf]
    · rw [nextI_busy d L fi qi (by decide)]
      iexact Hf
    isplitl [Hi1 Hs1 Hv1]
    · unfold idleI
      isplitl [Hs1]; · iexact Hs1
      isplitl [Hi1]; · iexact Hi1
      iexact Hv1
    isplitl [Hr1 Hw1]
    · rw [lastO_first, idleO_eq]
      isplitl [Hr1]; · iexact Hr1
      iexact Hw1
    isplitl [Hr0 Hw0]
    · rw [idleO_eq]
      isplitl [Hr0]; · iexact Hr0
      iexact Hw0
    isplitl [Hc]; · iexact Hc
    isplitl [Hg]; · iexact Hg
    isplitr [Ho HO]
    · rw [show rowsO (128 * base L) (128 * (base L + (0 - 1))) = ∅ from
        Finset.filter_eq_empty_iff.mpr fun x _ h => absurd h.1 (by have := h.2; simp only [Nat.zero_sub, Nat.add_zero] at this; omega), pointsTo_empty]
      iempintro
    isplitl [Ho]; · iexact Ho
    isplitl [HO]
    · unfold Owed
      iexists W
      isplitr
      · ipureintro; exact fun p hp => .inl hp
      iexact HO
    iexact Hmw
  iintro %acc HI
  ihave HI := (Entails.of_eq (show inv d L fc fi f0 qc qi O W k1_t1_loop.trips acc = inv d L fc fi f0 qc qi O W 8 acc by rw [trips_eq])) $$ HI
  unfold inv
  icases HI with ⟨%hacc, HI0, HI1, HO1, HO0, Hc, Hg, Hd, -, Ho, -⟩
  subst hacc
  iapply (wp_ask (show k1_chk5 L (accAt 8).2.2.2.2 from chk5_true L))
  iapply (wp_ask (show k1_chk4 (accAt 8).2.2.2.1 from chk4_true))
  sl_step
  -- the last write-out's arrival
  ihave Hf := (Entails.of_eq (lastO_busy d L fc fi 7)) $$ HO1
  iapply (wp_await_out (k := 1) (show k1_off20 (accAt 8).2.2.2.1 = _ from off20_eq)) $$ [Hf Ho]
  · isplitl [Hf]; · iexact Hf
    isplitl [Ho]; · iexact Ho
    iexact Hmw
  iintro ⟨⟨Hn, Hr1⟩, Hw1, Ho⟩
  sl_step
  ihave HI0 := (Entails.of_eq (nextI_idle d L fi qi (show ¬(8 < 8) by decide))) $$ HI0
  ihave HI1 := (Entails.of_eq (idleI_eq d L fi qi (par (8 + 1)))) $$ HI1
  ihave HO0 := (Entails.of_eq (idleO_eq d L (par 8))) $$ HO0
  icases HI0 with ⟨Hs0, Hi0, Hv0⟩
  icases HI1 with ⟨Hs1, Hi1, Hv1⟩
  icases HO0 with ⟨Hr0, Hw0⟩
  rw [rowsO_split d (lo := 128 * base L) (mid := 128 * (base L + 7)) (hi := 128 * (base L + 8)) (by omega) (by omega) (result fc fi)]
  isplitl [Hc Hi0 Hi1 Hd Hn]
  · isplitl [Hc]; · iexact Hc
    isplitl [Hi0]; · iexact Hi0
    isplitl [Hi1]; · iexact Hi1
    isplitl [Hd]; · iexact Hd
    rw [show 128 * (base L + 8) = 128 * (base L + 7) + 128 by omega]
    iexact Hn
  isplitl [Hs0 Hs1 Hr0 Hr1 Hbufs]
  · isplitl [Hs0 Hs1]
    · isplitl [Hs0]; · iexact Hs0
      iexact Hs1
    isplitl [Hr0 Hr1]
    · isplitl [Hr0]; · iexact Hr0
      iexact Hr1
    iexact Hbufs
  isplitl [Hv0 Hv1 Hw0 Hw1 Hg Hsems]
  · isplitl [Hv0]; · iexact Hv0
    isplitl [Hv1]; · iexact Hv1
    isplitl [Hw0]; · iexact Hw0
    isplitl [Hw1]; · iexact Hw1
    isplitl [Hg]; · iexact Hg
    iexact Hsems
  iexact Ho

end Cert.Proof.Whole
end
-- ==== Proof.Whole.Deal.lean ====
/-
  How the call's arrays are dealt: half of the table and of the row numbers, and 16384 rows of the output, to each
  SparseCore; of a SparseCore's part, a read share of the table, two of the row numbers and 1024 output rows to each tile,
  the rest of the two read shares staying behind until the tiles are done.
-/
module

public import proofs.«01_k».proof.Proof.Whole.Tile

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- A SparseCore's half of what is read; a tile's part of that half; its two parts of the row numbers, one per slot. -/
def qCore : Fin 2 → PosShare TreeShare := ![fullShare.left, fullShare.right]
def qTile (c : Fin 2) (i : Fin 16) : PosShare TreeShare := Transfers.shareTok (qCore c) 16 i
def qSlot (c : Fin 2) (i : Fin 16) : Fin 2 → PosShare TreeShare := ![(qTile c i).left, (qTile c i).right]
/-- What stays behind. -/
def qKept (c : Fin 2) : PosShare TreeShare := Transfers.shareDrop (qCore c) 16

variable (d : Dev nD) (fc : S640x128.Idx → F .f32) (fi : S1x32768.Idx → BitVec 32) (f : S32768x128.Idx → F .f32)

/-- A tile's part, a SparseCore's, the whole. -/
def taskPts (c : Fin 2) (i : Fin 16) : sProp 𝕄 := tilePts d (coordsV c i) fc fi (qTile c i) (qSlot c i) f
def corePts (c : Fin 2) : sProp 𝕄 :=
  iprop((cLoc d ↦{qCore c} fc) ∗ (iLoc d ↦{qCore c} fi)
    ∗ oLoc d ↦[rowsO (16384 * c.val) (16384 * (c.val + 1))]{fullShare} (f : Buf (Elt F) (oLoc d)))
def keptPts (c : Fin 2) : sProp 𝕄 := iprop((cLoc d ↦{qKept c} fc) ∗ iLoc d ↦{qKept c} fi)

theorem base_coordsV (c : Fin 2) (i : Fin 16) : base (coordsV c i) = 8 * (16 * c.val + i.val) := rfl

/-- An entry's row. -/
def atRow (x : S32768x128.Idx) : ℕ := (x 0).val
theorem mem_rowsO {lo hi : ℕ} {x : S32768x128.Idx} : Iff (x ∈ rowsO lo hi) (lo ≤ atRow x ∧ atRow x < hi) :=
  ⟨fun h => (Finset.mem_filter.mp h).2, fun h => Finset.mem_filter.mpr ⟨Finset.mem_univ _, h⟩⟩
theorem atRow_lt (x : S32768x128.Idx) : atRow x < 32768 := (x 0).isLt

/-- A SparseCore's rows are its tiles'. -/
theorem rows_tiles (c : Fin 2) :
    (oLoc d ↦[rowsO (16384 * c.val) (16384 * (c.val + 1))]{fullShare} (f : Buf (Elt F) (oLoc d)) : sProp 𝕄)
      = bigSep Finset.univ fun i : Fin 16 => oLoc d ↦[rowsO (128 * base (coordsV c i)) (128 * (base (coordsV c i) + 8))]{fullShare} (f : Buf (Elt F) (oLoc d)) := by
  have hu : rowsO (16384 * c.val) (16384 * (c.val + 1))
      = (Finset.univ : Finset (Fin 16)).biUnion fun i => rowsO (128 * base (coordsV c i)) (128 * (base (coordsV c i) + 8)) := by
    ext x
    rw [mem_rowsO, Finset.mem_biUnion]
    generalize hn : atRow x = n
    constructor
    · rintro ⟨h₁, h₂⟩
      exact ⟨⟨(n - 16384 * c.val) / 1024, by omega⟩, Finset.mem_univ _, by rw [mem_rowsO, base_coordsV, hn]; simp only; omega⟩
    · rintro ⟨i, -, h⟩
      have := i.isLt
      rw [mem_rowsO, base_coordsV, hn] at h
      omega
  rw [hu]
  exact pointsTo_biUnion (ℓ := oLoc d) Finset.univ _ fun i _ j _ hij => Finset.disjoint_left.mpr fun x h h' => hij (Fin.ext (by
    rw [mem_rowsO, base_coordsV] at h h'
    omega))

/-- All the rows are the SparseCores'. -/
theorem rows_cores :
    (oLoc d ↦{fullShare} (f : Buf (Elt F) (oLoc d)) : sProp 𝕄)
      = bigSep Finset.univ fun c : Fin 2 => oLoc d ↦[rowsO (16384 * c.val) (16384 * (c.val + 1))]{fullShare} (f : Buf (Elt F) (oLoc d)) := by
  have hu : (Finset.univ : Finset S32768x128.Idx)
      = (Finset.univ : Finset (Fin 2)).biUnion fun c => rowsO (16384 * c.val) (16384 * (c.val + 1)) := by
    ext x
    have hx := atRow_lt x
    rw [Finset.mem_biUnion]
    generalize hn : atRow x = n at hx
    exact ⟨fun _ => ⟨⟨n / 16384, by omega⟩, Finset.mem_univ _, by rw [mem_rowsO, hn]; simp only; omega⟩, fun _ => Finset.mem_univ _⟩
  show (oLoc d ↦[(Finset.univ : Finset S32768x128.Idx)]{fullShare} (f : Buf (Elt F) (oLoc d)) : sProp 𝕄) = _
  rw [hu]
  exact pointsTo_biUnion (ℓ := oLoc d) Finset.univ _ fun i _ j _ hij => Finset.disjoint_left.mpr fun x h h' => hij (Fin.ext (by
    rw [mem_rowsO] at h h'
    omega))

/-- A read share is what stays behind and the tiles'. -/
theorem share_tiles {ℓ : Loc nD τ sig} (g : Buf (Elt F) ℓ) (c : Fin 2) :
    (ℓ ↦{qCore c} g : sProp 𝕄) = iprop((ℓ ↦{qKept c} g) ∗ bigSep Finset.univ fun i : Fin 16 => ℓ ↦{qTile c i} g) :=
  Idealize.SL.BI.Entails.antisymm (Transfers.pointsTo_toks (qCore c) 16).1 (Transfers.pointsTo_toks (qCore c) 16).2
/-- A tile's is its slots'. -/
theorem share_slots {ℓ : Loc nD τ sig} (g : Buf (Elt F) ℓ) (c : Fin 2) (i : Fin 16) :
    (ℓ ↦{qTile c i} g : sProp 𝕄) = iprop((ℓ ↦{qSlot c i 0} g) ∗ ℓ ↦{qSlot c i 1} g) :=
  Idealize.SL.BI.Entails.antisymm (pointsTo_share (PosShare.mem_left_op_right _)).1 (pointsTo_share (PosShare.mem_left_op_right _)).2
/-- All is the SparseCores'. -/
theorem share_cores {ℓ : Loc nD τ sig} (g : Buf (Elt F) ℓ) :
    (ℓ ↦{fullShare} g : sProp 𝕄) = bigSep Finset.univ fun c : Fin 2 => ℓ ↦{qCore c} g := by
  rw [bigSep_univ_two]
  exact Idealize.SL.BI.Entails.antisymm (pointsTo_share (PosShare.mem_left_op_right _)).1 (pointsTo_share (PosShare.mem_left_op_right _)).2

theorem corePts_eq (c : Fin 2) :
    corePts d fc fi f c = iprop(keptPts d fc fi c ∗ bigSep Finset.univ fun i : Fin 16 => taskPts d fc fi f c i) := by
  unfold corePts keptPts taskPts tilePts
  rw [rows_tiles, share_tiles (ℓ := cLoc d) fc c, share_tiles (ℓ := iLoc d) fi c, bigSep_sep', bigSep_sep', bigSep_sep']
  simp only [share_slots (ℓ := iLoc d) fi c]
  rw [bigSep_sep']
  have h₁ : iprop(((cLoc d ↦{qKept c} fc) ∗ bigSep Finset.univ fun i : Fin 16 => cLoc d ↦{qTile c i} fc)
      ∗ ((iLoc d ↦{qKept c} fi) ∗ (bigSep Finset.univ fun i : Fin 16 => iLoc d ↦{qSlot c i 0} fi) ∗ bigSep Finset.univ fun i : Fin 16 => iLoc d ↦{qSlot c i 1} fi)
      ∗ bigSep Finset.univ fun i : Fin 16 => oLoc d ↦[rowsO (128 * base (coordsV c i)) (128 * (base (coordsV c i) + 8))]{fullShare} (f : Buf (Elt F) (oLoc d)))
    ⊢ (iprop(((cLoc d ↦{qKept c} fc) ∗ iLoc d ↦{qKept c} fi)
      ∗ (bigSep Finset.univ fun i : Fin 16 => cLoc d ↦{qTile c i} fc) ∗ (bigSep Finset.univ fun i : Fin 16 => iLoc d ↦{qSlot c i 0} fi)
      ∗ (bigSep Finset.univ fun i : Fin 16 => iLoc d ↦{qSlot c i 1} fi)
      ∗ bigSep Finset.univ fun i : Fin 16 => oLoc d ↦[rowsO (128 * base (coordsV c i)) (128 * (base (coordsV c i) + 8))]{fullShare} (f : Buf (Elt F) (oLoc d))) : sProp 𝕄) := by
    iintro ⟨⟨Hck, Hct⟩, ⟨Hik, Hi0, Hi1⟩, Ho⟩
    isplitl [Hck Hik]
    · isplitl [Hck]; · iexact Hck
      iexact Hik
    isplitl [Hct]; · iexact Hct
    isplitl [Hi0]; · iexact Hi0
    isplitl [Hi1]; · iexact Hi1
    iexact Ho
  have h₂ : iprop(((cLoc d ↦{qKept c} fc) ∗ iLoc d ↦{qKept c} fi)
      ∗ (bigSep Finset.univ fun i : Fin 16 => cLoc d ↦{qTile c i} fc) ∗ (bigSep Finset.univ fun i : Fin 16 => iLoc d ↦{qSlot c i 0} fi)
      ∗ (bigSep Finset.univ fun i : Fin 16 => iLoc d ↦{qSlot c i 1} fi)
      ∗ bigSep Finset.univ fun i : Fin 16 => oLoc d ↦[rowsO (128 * base (coordsV c i)) (128 * (base (coordsV c i) + 8))]{fullShare} (f : Buf (Elt F) (oLoc d)))
    ⊢ (iprop(((cLoc d ↦{qKept c} fc) ∗ bigSep Finset.univ fun i : Fin 16 => cLoc d ↦{qTile c i} fc)
      ∗ ((iLoc d ↦{qKept c} fi) ∗ (bigSep Finset.univ fun i : Fin 16 => iLoc d ↦{qSlot c i 0} fi) ∗ bigSep Finset.univ fun i : Fin 16 => iLoc d ↦{qSlot c i 1} fi)
      ∗ bigSep Finset.univ fun i : Fin 16 => oLoc d ↦[rowsO (128 * base (coordsV c i)) (128 * (base (coordsV c i) + 8))]{fullShare} (f : Buf (Elt F) (oLoc d))) : sProp 𝕄) := by
    iintro ⟨⟨Hck, Hik⟩, Hct, Hi0, Hi1, Ho⟩
    isplitl [Hck Hct]
    · isplitl [Hck]; · iexact Hck
      iexact Hct
    isplitl [Hik Hi0 Hi1]
    · isplitl [Hik]; · iexact Hik
      isplitl [Hi0]; · iexact Hi0
      iexact Hi1
    iexact Ho
  exact Idealize.SL.BI.Entails.antisymm h₁ h₂

theorem cores_eq :
    iprop((cLoc d ↦{fullShare} fc) ∗ (iLoc d ↦{fullShare} fi) ∗ oLoc d ↦{fullShare} (f : Buf (Elt F) (oLoc d)))
      = (bigSep Finset.univ fun c : Fin 2 => corePts d fc fi f c : sProp 𝕄) := by
  unfold corePts
  rw [rows_cores, share_cores (ℓ := cLoc d) fc, share_cores (ℓ := iLoc d) fi, bigSep_sep', bigSep_sep']

end Cert.Proof.Whole
end
-- ==== Proof.Whole.Call.lean ====
/-
  The call, for the launch: what the two handshakes carry, the tiles' obligation from their run, a SparseCore's part
  taken apart and put together. The table, the row numbers and the output's contents before are each device's own.
-/
module

public import proofs.«01_k».proof.Proof.Whole.Deal
public import proofs.«01_k».proof.Proof.Gen.KernelIdeal.Launch

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (fc : Dev nD → S640x128.Idx → F .f32) (fi : Dev nD → S1x32768.Idx → BitVec 32) (f0 : Dev nD → S32768x128.Idx → F .f32)

def P : (K (F := F)).Pay (nD := nD) (Val := Elt F) (Name := ℕ) (U := UU) where
  st := fun q d c => match q with | 0 => corePts d (fc d) (fi d) (f0 d) (Fin.cast nCore_zero c)
  dn := fun q d c => match q with | 0 => corePts d (fc d) (fi d) (result (fc d) (fi d)) (Fin.cast nCore_zero c)
  go := fun q d c i => match q with | 0 => taskPts d (fc d) (fi d) (f0 d) (Fin.cast nCore_zero c) (Fin.cast nSub_zero i)
  td := fun q d c i => match q with | 0 => taskPts d (fc d) (fi d) (result (fc d) (fi d)) (Fin.cast nCore_zero c) (Fin.cast nSub_zero i)
  x := fun _ _ => iprop(emp)

instance corePts_storable (d : Dev nD) (gc gi g c) : BI.Storable (upEmb : UEmb _ 𝕄) (corePts (F := F) d gc gi g c) := by
  unfold corePts; infer_instance
instance taskPts_storable (d : Dev nD) (gc gi g c i) : BI.Storable (upEmb : UEmb _ 𝕄) (taskPts (F := F) d gc gi g c i) := by
  unfold taskPts tilePts; infer_instance

instance P_storable : (P fc fi f0).IsStorable where
  st q d c := match q with | 0 => corePts_storable d _ _ _ _
  dn q d c := match q with | 0 => corePts_storable d _ _ _ _
  go q d c i := match q with | 0 => taskPts_storable d _ _ _ _ _
  td q d c i := match q with | 0 => taskPts_storable d _ _ _ _ _

theorem defs₀_vector (c : Fin τ.nSC) (s : Fin τ.nSub) :
    defs₀ (F := F) (.scVector c s) 1 ()
      = SparseCore.onTile hcore1 hsub1 (fun c s => cc1_k (coordsV c s)
          (Memref.whole main_v8_scv) (Memref.isWhole_whole _) (Memref.whole main_v9_scv) (Memref.isWhole_whole _)
          (Memref.whole main_v10_scv) (Memref.isWhole_whole _) (Memref.whole cc1_scoped0) (Memref.isWhole_whole _) cc1_scoped1
          (Memref.whole cc1_scoped2) (Memref.isWhole_whole _) cc1_scoped3 cc1_scoped4) ⟨⟩ c s := rfl

theorem obl_post {d : Dev nD} {L : grid1.Coords} {A B C : sProp 𝕄} {O : CellTallies nD τ sig (HIx 1)} {W : Waits sig (HIx 1)} {q : Fin 1} :
    iprop(A ∗ B ∗ C ∗ Owed d L O W)
      ⊢ iprop(A ∗ B ∗ C ∗ ∃ W', ⌜∀ p ∈ W', p ∈ W ∨ p.2 = none ∨ p.2 = some q⌝ ∗ owes (thr d L) O W') := by
  unfold Owed
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

theorem tileObl (hfi : ∀ d, InRange (fi d)) : (K (F := F)).TileObl (D (F := F)) 𝒱 (P fc fi f0) v₀ 0 := by
  intro d c i O W hO _ _
  simp only [show (P fc fi f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact BIBase.Entails.trans (tile_body (d := d) (L := coordsV ⟨_, hci.1⟩ ⟨_, hci.2⟩) (fc := fc d) (fi := fi d) (f0 := f0 d) (qc := qTile (Fin.cast nCore_zero c) (Fin.cast nSub_zero i))
    (qi := qSlot (Fin.cast nCore_zero c) (Fin.cast nSub_zero i)) facts (hfi d) O W hO) (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fc fi f0) 0 := by
  intro d c
  show corePts d (fc d) (fi d) (f0 d) (Fin.cast nCore_zero c) ⊢ |={Set.univ}=> iprop(
      (bigSep Finset.univ fun i : Fin ((K (F := F)).nSub 0) => taskPts d (fc d) (fi d) (f0 d) (Fin.cast nCore_zero c) (Fin.cast nSub_zero i))
      ∗ ((bigSep Finset.univ fun i : Fin ((K (F := F)).nSub 0) => taskPts d (fc d) (fi d) (result (fc d) (fi d)) (Fin.cast nCore_zero c) (Fin.cast nSub_zero i))
          -∗ corePts d (fc d) (fi d) (result (fc d) (fi d)) (Fin.cast nCore_zero c)))
  rw [bigSep_tasks (taskPts d (fc d) (fi d) (f0 d) (Fin.cast nCore_zero c)),
    bigSep_tasks (taskPts d (fc d) (fi d) (result (fc d) (fi d)) (Fin.cast nCore_zero c)), corePts_eq, corePts_eq]
  iintro ⟨Hk, H⟩
  imodintro
  isplitl [H]; · iexact H
  iintro H
  isplitl [Hk]; · iexact Hk
  iexact H

/-- All of the call's arrays are what the SparseCores are handed, and what they hand back. -/
theorem st_eq (d : Dev nD) : (bigSep Finset.univ fun c : Fin ((K (F := F)).nCore 0) => (P fc fi f0).st 0 d c)
    = iprop((cLoc d ↦{fullShare} fc d) ∗ (iLoc d ↦{fullShare} fi d) ∗ oLoc d ↦{fullShare} (f0 d : Buf (Elt F) (oLoc d))) :=
  (bigSep_cores (corePts d (fc d) (fi d) (f0 d))).trans (cores_eq d (fc d) (fi d) (f0 d)).symm
theorem dn_eq (d : Dev nD) : (bigSep Finset.univ fun c : Fin ((K (F := F)).nCore 0) => (P fc fi f0).dn 0 d c)
    = iprop((cLoc d ↦{fullShare} fc d) ∗ (iLoc d ↦{fullShare} fi d) ∗ oLoc d ↦{fullShare} (result (fc d) (fi d) : Buf (Elt F) (oLoc d))) :=
  (bigSep_cores (corePts d (fc d) (fi d) (result (fc d) (fi d)))).trans (cores_eq d (fc d) (fi d) (result (fc d) (fi d))).symm

/-! ## The ghost state at the launch -/

/-- No pipeline here prefetches a table. -/
abbrev adm (p : Fin 1) : (pcfgs (F := F) p).Adm := (cfgs p).toPCfg_adm

abbrev pcfg : Fin 1 → Pipeline.Cfg sig Λ₀ := Pipeline.pin (pcfgs (F := F)) adm

def u₀ : UU := (initOf (K (F := F)).hsCells (K (F := F)).hsToks,
  (initOf (Pipeline.cells (nD := nD) (τ := τ) (pcfg (F := F)) cellOf_inj) (Pipeline.launchToks (nD := nD) (τ := τ) (pcfg (F := F)) cellOf_inj), 1))

/-- What the launch deals a TensorCore for its pipeline. -/
abbrev ghost (d : Dev nD) : sProp 𝕄 :=
  iprop(Pipeline.cellsGhost (pcfg (F := F)) EP 0 d ∗ Pipeline.toksInit (pcfg (F := F)) EP 0 d)

theorem emps {I : Type} (s : Finset I) : (bigSep s fun _ => iprop(emp)) = (iprop(emp) : sProp 𝕄) := bigSep_emp_const s

/-- The pipeline's part of the ghost state beside the counters'. -/
theorem own_split (a : UP) : (BI.own ((embR : Emb (UP × Counters) 𝕄) (a, 1)) : sProp 𝕄)
    ⊢ iprop(BI.own ((EP : Emb UP 𝕄) a) ∗ BI.own (((Emb.inr : Emb Counters (UP × Counters)).trans embR : Emb Counters 𝕄) 1)) :=
  own_pair_emb (A := UP) (B := Counters) embR a 1

theorem hu₀ : (ownU (u₀ (F := F)) : sProp 𝕄)
    ⊢ |={Set.univ}=> iprop(BI.own (EH (initOf (K (F := F)).hsCells (K (F := F)).hsToks)) ∗ bigSep Finset.univ (ghost (F := F))
        ∗ bigSep Finset.univ fun thr : Thread nD τ => bigSep Finset.univ fun q : Fin 1 => (P fc fi f0).x q thr) := by
  unfold u₀
  iintro Hu
  ihave H := (ownU_pair (initOf (K (F := F)).hsCells (K (F := F)).hsToks) _) $$ Hu
  icases H with ⟨HH, HR⟩
  ihave HR := (own_split (F := F) _) $$ HR
  icases HR with ⟨HP, -⟩
  imod (Pipeline.fund_ghost (pcfg (F := F)) EP cellOf_inj) $$ HP with ⟨Hc, Ht⟩
  imodintro
  isplitl [HH]; · iexact HH
  isplitl [Hc Ht]
  · rw [show (bigSep Finset.univ (ghost (F := F)) : sProp 𝕄) = iprop((bigSep Finset.univ fun d : Dev nD => bigSep Finset.univ fun p => Pipeline.cellsGhost (pcfg (F := F)) EP p d)
        ∗ bigSep Finset.univ fun d : Dev nD => bigSep Finset.univ fun p => Pipeline.toksInit (pcfg (F := F)) EP p d) from by
      rw [bigSep_congr fun d _ => bigSep_univ_of_subsingleton (0 : Fin 1) (Φ := fun p => Pipeline.cellsGhost (pcfg (F := F)) EP p d),
        bigSep_congr fun d _ => bigSep_univ_of_subsingleton (0 : Fin 1) (Φ := fun p => Pipeline.toksInit (pcfg (F := F)) EP p d)]
      exact bigSep_sep' Finset.univ (fun d => Pipeline.cellsGhost (pcfg (F := F)) EP 0 d) (fun d => Pipeline.toksInit (pcfg (F := F)) EP 0 d)]
    isplitl [Hc] <;> iassumption
  rw [show (bigSep Finset.univ fun thr : Thread nD τ => bigSep Finset.univ fun q : Fin 1 => (P fc fi f0).x q thr) = bigSep Finset.univ fun _ => iprop(emp) from
    bigSep_congr fun _ _ => bigSep_univ_of_subsingleton (0 : Fin 1), emps]
  iempintro

end Cert.Proof.Whole
end
-- ==== Proof.Whole.Region.lean ====
/-
  The TensorCore kernel's pipeline: what each window's buffer holds before and after each of the eight points, the
  counts the scratch buffer carries from point to point, and the obligation of the body at a point.
-/
module

public import proofs.«01_k».proof.Proof.Whole.Body
public import proofs.«01_k».proof.Proof.Whole.Call
public import Idealize.ShloMosaic.Lib.Pipeline.RegionsLoop

@[expose] public section

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat BodyObligation)

variable {F : FTy → Type} [FloatOps F]

local notation "𝕄" => MT nD τ sig (HIx 1) (Elt F) ℕ UU ℕ

/-- Contents for the TensorCore's buffers, by the buffer. -/
abbrev Vals (F : FTy → Type) := (d : Dev nD) → (b : Ref sig .tc) → Buf (Elt F) ((d : Thread nD τ).loc b)

variable (V : Vals F)

/-! ## The blocks and the counts -/

/-- The block of hidden states a point works on, -/
def xblk (d : Dev nD) (t : Fin cfg0.N) : XT F := ((cfg0.win 0).blk t).view.read (Elt F) (V d main_v0)
/-- the weights and the bias, as the first point's transfers stage them. -/
def wts (d : Dev nD) : WT F := ((cfg0.win 1).blk t0_0).view.read (Elt F) (V d main_v3)
def bias (d : Dev nD) : BT F := ((cfg0.win 2).blk t0_0).view.read (Elt F) (V d main_v6)

/-- The counts after the first `n` points. -/
def cnt (d : Dev nD) : ℕ → BT F
  | 0 => bias V d
  | n + 1 => if h : n < cfg0.N then counts (grid0.coords ⟨n, h⟩) (xblk V d ⟨n, h⟩) (wts V d) (bias V d) (cnt d n) else cnt d n

/-- The counts a point leaves are the next of the sequence, whatever the scratch buffer held before the first. -/
theorem counts_cnt (d : Dev nD) (t : Fin cfg0.N) (s : BT F) (hs : t.val ≠ 0 → s = cnt V d t.val) :
    counts (grid0.coords t) (xblk V d t) (wts V d) (bias V d) s = cnt V d (t.val + 1) := by
  rw [cnt, dif_pos t.isLt]
  by_cases h : t.val = 0
  · obtain rfl : t = t0_0 := Fin.ext h
    unfold counts k0_pay1
    have hc : Scalar.cmpi .eq (BitVec.ofNat 32 (grid0.coords t0_0 0).val) 0#32 = 1#1 := by decide
    rw [hc]; rfl
  · rw [hs h]

/-- The pairs the TensorCore has waited at before the call: none above the pipeline's own. -/
def waited (d : Dev nD) : Set (SemLoc sig × HIx 1) := {p | (K (F := F)).lev ((d : Thread nD τ), p.1) p.2 ≤ 0}

/-- The proof data of the pipeline, from the buffers' contents at its call. -/
def dat (d : Dev nD) : Dat τ (Elt F) (HIx 1) ℕ UU ℕ cfg0 d where
  A w := V d (Pipeline.arrRef spec0 w)
  after w t := match w with
    | ⟨0, _⟩ => xblk V d t
    | ⟨1, _⟩ => wts V d
    | ⟨2, _⟩ => bias V d
    | ⟨3, _⟩ => picks (xblk V d t) (wts V d) (bias V d)
    | ⟨4, _⟩ => k0_pay2 (cnt V d (t.val + 1))
  Φ t := iprop(∃ s : BT F, ⌜t.val ≠ 0 → s = cnt V d t.val⌝ ∗ owns (d : Thread nD τ) scM fullShare s)
  q _ := fullShare
  owed _ := (K (F := F)).Otc d 0
  recorded _ := waited (F := F) d

/-! ## What the body finds -/

theorem before_0 (d : Dev nD) (t : Fin cfg0.N) (j) : (dat V d).before 0 t j = xblk V d t := by
  unfold Dat.before; rw [if_pos (fetch0_0 t)]; rfl

theorem before_1 (d : Dev nD) (t : Fin cfg0.N) (j) : (dat V d).before 1 t j = wts V d := by
  have hN : t.val < 8 := lt_of_lt_of_eq t.isLt N_0
  unfold Dat.before
  by_cases h : t.val = 0
  · obtain rfl : t = t0_0 := Fin.ext h
    rw [if_pos ((fetch0_1 t0_0).mpr (by decide))]; rfl
  · rw [if_neg (fun e => h (by have := (fetch0_1 t).mp e; omega)), if_neg h]; rfl

theorem before_2 (d : Dev nD) (t : Fin cfg0.N) (j) : (dat V d).before 2 t j = bias V d := by
  have hN : t.val < 8 := lt_of_lt_of_eq t.isLt N_0
  unfold Dat.before
  by_cases h : t.val = 0
  · obtain rfl : t = t0_0 := Fin.ext h
    rw [if_pos ((fetch0_2 t0_0).mpr (by decide))]; rfl
  · rw [if_neg (fun e => h (by have := (fetch0_2 t).mp e; omega)), if_neg h]; rfl

theorem last_iff (t : Fin cfg0.N) : k0_cond1 (grid0.coords t) = 1#1 ↔ t.val % 8 = 7 := by
  revert t; decide

/-- What the body leaves of the last window's buffer: the perplexity at the last point, what it found at an earlier. -/
theorem leaves_4 (d : Dev nD) (t : Fin cfg0.N) (j : S1x1.Idx → F .f32) :
    (owns (d : Thread nD τ) (st0_4 t) fullShare (plex (grid0.coords t) (cnt V d (t.val + 1)) ((dat V d).before 4 t j)) : sProp 𝕄)
      ⊢ match cfg0.idle 4 (cfg0.grid.coords t) with
        | true => match (cfg0.win 4).flush t with
          | false => iprop(∃ j, owns (d : Thread nD τ) (st0_4 t) fullShare ((dat V d).before 4 t j))
          | true => owns (d : Thread nD τ) (st0_4 t) fullShare ((dat V d).after 4 t)
        | false => owns (d : Thread nD τ) (st0_4 t) fullShare ((dat V d).after 4 t) := by
  by_cases hc : k0_cond1 (grid0.coords t) = 1#1
  · have hi : cfg0.idle 4 (cfg0.grid.coords t) = false := by
      show (!(k0_cond1 (grid0.coords t) == 1#1)) = false; rw [hc]; rfl
    rw [hi]; dsimp only; unfold plex; rw [if_pos hc]; exact .rfl
  · have hi : cfg0.idle 4 (cfg0.grid.coords t) = true := by
      show (!(k0_cond1 (grid0.coords t) == 1#1)) = true; rw [beq_eq_false_iff_ne.mpr hc]; rfl
    have hfl : (cfg0.win 4).flush t = false := Bool.eq_false_iff.mpr fun e => hc ((last_iff t).mpr ((flush0_4 t).mp e))
    rw [hi, hfl]; dsimp only; unfold plex; rw [if_neg hc]
    iintro H; iexists j; iexact H

/-- The body's obligation at a point. -/
theorem body_obligation (d : Dev nD) : BodyObligation (dat V d) (defs₀ (F := F)) 𝒱₀ none Set.univ := fun t => by
  rw [bigSep_W0, bigSep_W0]
  rw [show (dat V d).owesAt none t.succ = (dat V d).owesAt none t.castSucc from rfl]
  iintro ⟨HΦ, Howes, ⟨%d0, H0⟩, ⟨%d1, H1⟩, ⟨%d2, H2⟩, ⟨%d3, H3⟩, ⟨%d4, H4⟩⟩
  rw [before_0, before_1, before_2]
  ihave HΦ := (show (dat V d).Φ t.castSucc ⊢ (iprop(∃ s : BT F, ⌜t.val ≠ 0 → s = cnt V d t.val⌝ ∗ owns (d : Thread nD τ) scM fullShare s) : sProp 𝕄) from .rfl) $$ HΦ
  icases HΦ with ⟨%s, %hs, HS⟩
  iapply (body_run (F := F) d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (xblk V d t) (wts V d) (bias V d) ((dat V d).before 3 t d3) ((dat V d).before 4 t d4) s _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  rw [counts_cnt V d t s hs]
  isplitl [HS]
  · iapply (show (iprop(∃ s : BT F, ⌜t.succ.val ≠ 0 → s = cnt V d t.succ.val⌝ ∗ owns (d : Thread nD τ) scM fullShare s) : sProp 𝕄) ⊢ (dat V d).Φ t.succ from .rfl)
    iexists cnt V d (t.val + 1); isplitr; swap; (· iexact HS)
    ipureintro; exact fun _ => rfl
  isplitl [Howes]; · iexact Howes
  isplitl [H0]; · iexact H0
  isplitl [H1]; · iexact H1
  isplitl [H2]; · iexact H2
  isplitl [H3]; · iexact H3
  iapply (leaves_4 V d t d4); iexact H4

/-! ## The pipeline's call among @main's arrays -/

/-- The proof data of the one pipeline. -/
def pdats (p : Fin 1) (d : Dev nD) : Dat τ (Elt F) (HIx 1) ℕ UU ℕ (pcfg (F := F) p) d :=
  match p with | ⟨0, _⟩ => dat V d

/-- What the TensorCore owes, with the waits it has recorded. -/
abbrev owing (d : Dev nD) : sProp 𝕄 :=
  iprop(∃ W, ⌜(K (F := F)).WBelow (d : Thread nD τ) W 0⌝ ∗ owes (d : Thread nD τ) ((K (F := F)).Otc d 0) W)

variable (V' : Vals F)

set_option backward.isDefEq.respectTransparency.types false in
/-- The pipeline's call, from every array at `V` to every array at `V'`. -/
def reg (h3 : ∀ d, V' d main_v7_0 = (dat V d).arrAt 3 cfg0.N) (h4 : ∀ d, V' d main_v7_1 = (dat V d).arrAt 4 cfg0.N)
    (hne : ∀ d (b : Ref sig .tc), b ≠ main_v7_0 → b ≠ main_v7_1 → V' d b = V d b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V d).loose
  hwaits d := Pipeline.cellsWaits_of_cut (Pipeline.pin (pcfgs (F := F)) adm) (pdats V) none 0 d 0 ((K (F := F)).Otc d 0) (fun _ => rfl)
    (fun _ _ => Finset.mem_univ _) (fun _ _ => le_rfl) (fun g i h => ⟨Finset.mem_univ _, lt_of_lt_of_le (Nat.succ_pos _) (SparseCore.Cfg.lev_of_Otc_pos h)⟩)
  pre d := iprop(unscopedBufs d (V d) ∗ owing (F := F) d)
  post d := iprop(unscopedBufs d (V' d) ∗ owing (F := F) d)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (pdats V) launch0.win launch0.arr_whole d
      ((pdats V 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin d := by
    rw [scopedRest0_eq]
    iintro ⟨-, -, ⟨%f, H⟩⟩
    iapply (show (iprop(∃ s : BT F, ⌜(0 : Fin (cfg0.N + 1)).val ≠ 0 → s = cnt V d (0 : Fin (cfg0.N + 1)).val⌝ ∗ owns (d : Thread nD τ) scM fullShare s) : sProp 𝕄) ⊢ (pdats V 0 d).Φ 0 from .rfl)
    iexists f; isplitr; · ipureintro; exact fun h => absurd rfl h
    rw [owns_whole]; iexact H
  hout d := by
    rw [Pipeline.ownSems0_none, scopedRest0_eq]
    refine BIBase.Entails.trans (show (pdats V 0 d).Φ (Fin.last _) ⊢ (iprop(∃ s : BT F, ⌜(Fin.last cfg0.N).val ≠ 0 → s = cnt V d (Fin.last cfg0.N).val⌝ ∗ owns (d : Thread nD τ) scM fullShare s) : sProp 𝕄) from .rfl) ?_
    iintro ⟨%s, -, H⟩
    isplitr; · iempintro
    isplitr; · iempintro
    iexists s
    rw [owns_whole]; exact .rfl
  hexit d := by
    have hjoin := Pipeline.unscopedBufs_of_arrays (p := 0) (pcfgs (F := F)) adm (Ix := HIx 1) (Name := ℕ) (U := UU) (Lvl := ℕ) launch0.win launch0.arr_whole d
      (pdats V) ((pdats V 0 d).share_full fun _ => rfl) (V d) (V' d) ((pdats V 0 d).arrAt · cfg0.N)
      (fun w => by
        fin_cases w
        · exact ((pdats V 0 d).arrAt_in 0 rfl _).trans (hne d main_v0 (by decide) (by decide)).symm
        · exact ((pdats V 0 d).arrAt_in 1 rfl _).trans (hne d main_v3 (by decide) (by decide)).symm
        · exact ((pdats V 0 d).arrAt_in 2 rfl _).trans (hne d main_v6 (by decide) (by decide)).symm
        · exact (h3 d).symm
        · exact (h4 d).symm)
      (fun b hb => hne d b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    rintro p hp
    rcases hW hp with h | ⟨w, s, rfl⟩
    · exact h
    · exact le_rfl

end Cert.Proof.Whole
end
-- ==== Proof.Whole.Host.lean ====
/-
  @main's arrays: their contents at the launch, as the TensorCore's call finds them, after it, as the SparseCores' call finds
  them, after it and at the end; and the SparseCores' three arrays among them.
-/
module

public import proofs.«01_k».proof.Proof.Whole.Region

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

abbrev vLoc (d : Dev nD) (b : Ref sig .tc) : Loc nD τ sig := (SparseCore.T d : Thread nD τ).loc b

/-! ## @main's operations -/

/-- The weights' padding is zeros, -/
abbrev padW (x : S512x2x320.Idx → F .f32) (v : S_.Idx → F .f32) : S512x2x384.Idx → F .f32 :=
  pad S512x2x384 ![0, 0, 0] ![0, 0, 64] ![0, 0, 0] x v pads_S512x2x320_S512x2x384_000_000_0640 h_S_
/-- the bias's a number below every logit. -/
abbrev padB (x : S1x2x320.Idx → F .f32) (v : S_.Idx → F .f32) : S1x2x384.Idx → F .f32 :=
  pad S1x2x384 ![0, 0, 0] ![0, 0, 64] ![0, 0, 0] x v pads_S1x2x320_S1x2x384_000_000_0640 h_S_

/-- Before the TensorCore's call, -/
abbrev ops1 : List (HloOp τ sig (Elt F)) :=
  [ StableHlo.reshape main_arg0 main_v0 (rfl : (.f32 : EltTy) = .f32) shapeCasts_S8x2048x512_S16384x512,
    StableHlo.reshape main_arg2 main_v1 (rfl : (.f32 : EltTy) = .f32) shapeCasts_S512x640_S512x2x320,
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_v1 main_call0_v0 main_v2 (padW : (⟨S512x2x320, .f32⟩ : BufTy).Contents (Elt F) → (⟨S_, .f32⟩ : BufTy).Contents (Elt F) → (⟨S512x2x384, .f32⟩ : BufTy).Contents (Elt F)),
    StableHlo.reshape main_v2 main_v3 (rfl : (.f32 : EltTy) = .f32) shapeCasts_S512x2x384_S512x768,
    StableHlo.reshape main_arg3 main_v4 (rfl : (.f32 : EltTy) = .f32) shapeCasts_S640_S1x2x320,
    StableHlo.nullary main_cst (constant S_ .f32 0xFF61B1E6#32),
    StableHlo.unary main_cst main_call1_v0 (id : (⟨S_, .f32⟩ : BufTy).Contents (Elt F) → (⟨S_, .f32⟩ : BufTy).Contents (Elt F)),
    StableHlo.binary main_v4 main_call1_v0 main_v5 (padB : (⟨S1x2x320, .f32⟩ : BufTy).Contents (Elt F) → (⟨S_, .f32⟩ : BufTy).Contents (Elt F) → (⟨S1x2x384, .f32⟩ : BufTy).Contents (Elt F)),
    StableHlo.reshape main_v5 main_v6 (rfl : (.f32 : EltTy) = .f32) shapeCasts_S1x2x384_S1x768 ]
/-- between the two calls, -/
abbrev ops2 : List (HloOp τ sig (Elt F)) :=
  [ StableHlo.reshape main_arg1 main_v8 (rfl : (.f32 : EltTy) = .f32) shapeCasts_S1x640x128_S640x128,
    StableHlo.reshape main_v7_0 main_v9 (rfl : (.i32 : EltTy) = .i32) shapeCasts_S16384x2_S1x32768 ]
/-- after them. -/
abbrev ops3 : List (HloOp τ sig (Elt F)) :=
  [ StableHlo.reshape main_v10 main_v11 (rfl : (.f32 : EltTy) = .f32) shapeCasts_S32768x128_S8x2048x256,
    StableHlo.reshape main_v7_1 main_v12 (rfl : (.f32 : EltTy) = .f32) shapeCasts_S1x1_S_ ]

theorem main_eq (d : Dev nD) : main (F := F) d
    = (StableHlo.seq ops1 >>= fun _ => Prog.lift (.customCall (SparseCore.inner (Pipeline.entry 0)) ()) >>= fun _ =>
        StableHlo.seq ops2 >>= fun _ => (K (F := F)).run d 0 >>= fun _ => StableHlo.seq ops3 >>= fun _ => pure ⟨⟩) := rfl

theorem within1 : ∀ op ∈ (ops1 : List (HloOp τ sig (Elt F))), op.bufs ⊆ Pipeline.ucRefs τ sig :=
  List.forall_iff_forall_mem.mp (⟨Pipeline.sub_ucRefs _ (StableHlo.reshape_bufs_sub ..), Pipeline.sub_ucRefs _ (StableHlo.reshape_bufs_sub ..),
    Pipeline.sub_ucRefs _ (StableHlo.nullary_bufs_sub ..), Pipeline.sub_ucRefs _ (StableHlo.unary_bufs_sub ..), Pipeline.sub_ucRefs _ (StableHlo.binary_bufs_sub ..),
    Pipeline.sub_ucRefs _ (StableHlo.reshape_bufs_sub ..), Pipeline.sub_ucRefs _ (StableHlo.reshape_bufs_sub ..),
    Pipeline.sub_ucRefs _ (StableHlo.nullary_bufs_sub ..), Pipeline.sub_ucRefs _ (StableHlo.unary_bufs_sub ..), Pipeline.sub_ucRefs _ (StableHlo.binary_bufs_sub ..),
    Pipeline.sub_ucRefs _ (StableHlo.reshape_bufs_sub ..)⟩ : (ops1 : List (HloOp τ sig (Elt F))).Forall fun op => op.bufs ⊆ Pipeline.ucRefs τ sig)
theorem within2 : ∀ op ∈ (ops2 : List (HloOp τ sig (Elt F))), op.bufs ⊆ Pipeline.ucRefs τ sig :=
  List.forall_iff_forall_mem.mp (⟨Pipeline.sub_ucRefs _ (StableHlo.reshape_bufs_sub ..), Pipeline.sub_ucRefs _ (StableHlo.reshape_bufs_sub ..)⟩ :
    (ops2 : List (HloOp τ sig (Elt F))).Forall fun op => op.bufs ⊆ Pipeline.ucRefs τ sig)
theorem within3 : ∀ op ∈ (ops3 : List (HloOp τ sig (Elt F))), op.bufs ⊆ Pipeline.ucRefs τ sig :=
  List.forall_iff_forall_mem.mp (⟨Pipeline.sub_ucRefs _ (StableHlo.reshape_bufs_sub ..), Pipeline.sub_ucRefs _ (StableHlo.reshape_bufs_sub ..)⟩ :
    (ops3 : List (HloOp τ sig (Elt F))).Forall fun op => op.bufs ⊆ Pipeline.ucRefs τ sig)
theorem fresh1 : ∀ op ∈ (ops1 : List (HloOp τ sig (Elt F))), op.fresh = ∅ :=
  List.forall_iff_forall_mem.mp (⟨rfl, rfl, rfl, rfl, rfl, rfl, rfl, rfl, rfl, rfl, rfl⟩ : (ops1 : List (HloOp τ sig (Elt F))).Forall fun op => op.fresh = ∅)
theorem fresh2 : ∀ op ∈ (ops2 : List (HloOp τ sig (Elt F))), op.fresh = ∅ :=
  List.forall_iff_forall_mem.mp (⟨rfl, rfl⟩ : (ops2 : List (HloOp τ sig (Elt F))).Forall fun op => op.fresh = ∅)
theorem fresh3 : ∀ op ∈ (ops3 : List (HloOp τ sig (Elt F))), op.fresh = ∅ :=
  List.forall_iff_forall_mem.mp (⟨rfl, rfl⟩ : (ops3 : List (HloOp τ sig (Elt F))).Forall fun op => op.fresh = ∅)

/-! ## The arrays' contents along @main -/

/-- At the launch; as the TensorCore's call finds them; -/
def V0 (d : Dev nD) : Valuation τ sig (Elt F) := fun b => m (d, b)
def V1 (d : Dev nD) : Valuation τ sig (Elt F) := StableHlo.after ops1 (V0 m d)
abbrev R1 : Vals F := fun d b => V1 m d (Proc.devRef .tc b)
/-- the picked row numbers and the perplexity, as that call leaves them; -/
def pickArr (d : Dev nD) : S16384x2.Idx → BitVec 32 := (dat (R1 m) d).arrAt 3 cfg0.N
def plexArr (d : Dev nD) : S1x1.Idx → F .f32 := (dat (R1 m) d).arrAt 4 cfg0.N
/-- all the arrays after it; as the SparseCores' call finds them; -/
def V2 (d : Dev nD) : Valuation τ sig (Elt F) :=
  Function.update (Function.update (V1 m d) (Proc.devRef .tc main_v7_0) (pickArr m d)) (Proc.devRef .tc main_v7_1) (plexArr m d)
abbrev R2 : Vals F := fun d b => V2 m d (Proc.devRef .tc b)
def V3 (d : Dev nD) : Valuation τ sig (Elt F) := StableHlo.after ops2 (V2 m d)
/-- after that; at the end. -/
def V4 (d : Dev nD) : Valuation τ sig (Elt F) := Function.update (V3 m d) (Proc.devRef .tc main_v10) (result (V3 m d (Proc.devRef .tc main_v8)) (V3 m d (Proc.devRef .tc main_v9)))
def V5 (d : Dev nD) : Valuation τ sig (Elt F) := StableHlo.after ops3 (V4 m d)

def rows (d : Dev nD) : S640x128.Idx → F .f32 := V3 m d (Proc.devRef .tc main_v8)
def nums (d : Dev nD) : S1x32768.Idx → BitVec 32 := V3 m d (Proc.devRef .tc main_v9)
def before (d : Dev nD) : S32768x128.Idx → F .f32 := V3 m d (Proc.devRef .tc main_v10)

theorem V1_v0 (d : Dev nD) : (V1 m d (Proc.devRef .tc main_v0) : S16384x512.Idx → F .f32)
    = shapeCast S16384x512 (m (vLoc d main_arg0) : S8x2048x512.Idx → F .f32) shapeCasts_S8x2048x512_S16384x512 := by
  unfold V1; after_results; rfl
theorem V1_v3 (d : Dev nD) : (V1 m d (Proc.devRef .tc main_v3) : S512x768.Idx → F .f32)
    = shapeCast S512x768 (padW (shapeCast S512x2x320 (m (vLoc d main_arg2) : S512x640.Idx → F .f32) shapeCasts_S512x640_S512x2x320) (sitofp .f32 (constantI S_ 32 0#32))) shapeCasts_S512x2x384_S512x768 := by
  unfold V1; after_results; rfl
theorem V1_v6 (d : Dev nD) : (V1 m d (Proc.devRef .tc main_v6) : S1x768.Idx → F .f32)
    = shapeCast S1x768 (padB (shapeCast S1x2x320 (m (vLoc d main_arg3) : S640.Idx → F .f32) shapeCasts_S640_S1x2x320) (constant S_ .f32 0xFF61B1E6#32)) shapeCasts_S1x2x384_S1x768 := by
  unfold V1; after_results; rfl

theorem V1_arg0 (d : Dev nD) : V1 m d (Proc.devRef .tc main_arg0) = m (vLoc d main_arg0) := by unfold V1; after_results; rfl
theorem V1_arg1 (d : Dev nD) : V1 m d (Proc.devRef .tc main_arg1) = m (vLoc d main_arg1) := by unfold V1; after_results; rfl
theorem V1_arg2 (d : Dev nD) : V1 m d (Proc.devRef .tc main_arg2) = m (vLoc d main_arg2) := by unfold V1; after_results; rfl
theorem V1_arg3 (d : Dev nD) : V1 m d (Proc.devRef .tc main_arg3) = m (vLoc d main_arg3) := by unfold V1; after_results; rfl

theorem V2_picks (d : Dev nD) : V2 m d (Proc.devRef .tc main_v7_0) = pickArr m d := by
  unfold V2; rw [Function.update_of_ne (by decide), Function.update_self]
theorem V2_plex (d : Dev nD) : V2 m d (Proc.devRef .tc main_v7_1) = plexArr m d := by
  unfold V2; rw [Function.update_self]
theorem V2_ne (d : Dev nD) (b : Ref sig .tc) (h0 : b ≠ main_v7_0) (h1 : b ≠ main_v7_1) : V2 m d (Proc.devRef .tc b) = V1 m d (Proc.devRef .tc b) := by
  unfold V2
  rw [Function.update_of_ne fun e => h1 (Proc.devRef_injective _ e), Function.update_of_ne fun e => h0 (Proc.devRef_injective _ e)]

theorem rows_eq (d : Dev nD) : rows m d = shapeCast S640x128 (m (vLoc d main_arg1) : S1x640x128.Idx → F .f32) shapeCasts_S1x640x128_S640x128 := by
  unfold rows V3; after_results
  rw [V2_ne m d main_arg1 (by decide) (by decide), V1_arg1]; rfl
theorem nums_eq (d : Dev nD) : nums m d = shapeCast S1x32768 (pickArr m d) shapeCasts_S16384x2_S1x32768 := by
  unfold nums V3; after_results
  rw [V2_picks]; rfl

/-- The picked numbers name rows. -/
def PicksOK : Prop := ∀ (d : Dev nD) (x : S16384x2.Idx), (pickArr m d x).toNat < 640

theorem nums_inRange (h : PicksOK m) (d : Dev nD) : InRange (nums m d) := fun x => by rw [nums_eq]; exact h d _

/-- The two results' contents at the end. -/
def out (d : Dev nD) : S8x2048x256.Idx → F .f32 := shapeCast S8x2048x256 (result (rows m d) (nums m d)) shapeCasts_S32768x128_S8x2048x256
def outP (d : Dev nD) : S_.Idx → F .f32 := shapeCast S_ (plexArr m d) shapeCasts_S1x1_S_

theorem V5_out (d : Dev nD) : (V5 m d (Proc.devRef .tc main_v11) : S8x2048x256.Idx → F .f32) = out m d := by
  unfold V5; after_results
  unfold V4
  rw [Function.update_self]
  rfl
theorem V5_outP (d : Dev nD) : (V5 m d (Proc.devRef .tc main_v12) : S_.Idx → F .f32) = outP m d := by
  unfold V5; after_results
  unfold V4
  rw [Function.update_of_ne (by decide)]
  unfold V3; after_results
  rw [V2_plex]; rfl
theorem V5_ne (d : Dev nD) (b : Ref sig .tc) (h : b = main_arg0 ∨ b = main_arg1 ∨ b = main_arg2 ∨ b = main_arg3) :
    V5 m d (Proc.devRef .tc b) = V1 m d (Proc.devRef .tc b) := by
  unfold V5
  rcases h with rfl | rfl | rfl | rfl
  all_goals
    after_results
    unfold V4
    rw [Function.update_of_ne (by decide)]
    unfold V3; after_results
    exact V2_ne m d _ (by decide) (by decide)

/-! ## The SparseCores' arrays among @main's -/

def callRefs : Finset (DevRef τ sig) := {Proc.devRef .tc main_v8, Proc.devRef .tc main_v9, Proc.devRef .tc main_v10}
theorem callRefs_sub : callRefs ⊆ Pipeline.ucRefs τ sig := by decide

theorem held_call (d : Dev nD) (V : Valuation τ sig (Elt F)) :
    (StableHlo.held (T d) callRefs V : sProp 𝕄)
      = iprop((cLoc d ↦{fullShare} V (Proc.devRef .tc main_v8)) ∗ (iLoc d ↦{fullShare} V (Proc.devRef .tc main_v9)) ∗ oLoc d ↦{fullShare} V (Proc.devRef .tc main_v10)) := by
  unfold StableHlo.held callRefs
  rw [SparseCore.bigSep_insert' (by decide), SparseCore.bigSep_insert' (by decide), bigSep_singleton]

/-- The other arrays keep their contents over the call. -/
theorem held_rest (d : Dev nD) : (StableHlo.held (T d) (Pipeline.ucRefs τ sig \ callRefs) (V3 m d) : sProp 𝕄)
    = StableHlo.held (T d) (Pipeline.ucRefs τ sig \ callRefs) (V4 m d) :=
  StableHlo.held_congr _ fun b hb => by
    unfold V4
    rw [Function.update_of_ne]
    rintro rfl
    exact (Finset.mem_sdiff.mp hb).2 (by decide)

theorem held_before (d : Dev nD) : (StableHlo.held (T d) (Pipeline.ucRefs τ sig) (V3 m d) : sProp 𝕄)
    = iprop(((cLoc d ↦{fullShare} rows m d) ∗ (iLoc d ↦{fullShare} nums m d) ∗ oLoc d ↦{fullShare} (before m d : Buf (Elt F) (oLoc d)))
        ∗ StableHlo.held (T d) (Pipeline.ucRefs τ sig \ callRefs) (V4 m d)) := by
  rw [StableHlo.held_sub_split _ callRefs_sub, held_call, held_rest]
  rfl
theorem held_after (d : Dev nD) : (StableHlo.held (T d) (Pipeline.ucRefs τ sig) (V4 m d) : sProp 𝕄)
    = iprop(((cLoc d ↦{fullShare} rows m d) ∗ (iLoc d ↦{fullShare} nums m d) ∗ oLoc d ↦{fullShare} (result (rows m d) (nums m d) : Buf (Elt F) (oLoc d)))
        ∗ StableHlo.held (T d) (Pipeline.ucRefs τ sig \ callRefs) (V4 m d)) := by
  have h0 : V4 m d (Proc.devRef .tc main_v8) = V3 m d (Proc.devRef .tc main_v8) := by unfold V4; rw [Function.update_of_ne (by decide)]
  have h1 : V4 m d (Proc.devRef .tc main_v9) = V3 m d (Proc.devRef .tc main_v9) := by unfold V4; rw [Function.update_of_ne (by decide)]
  have h2 : V4 m d (Proc.devRef .tc main_v10) = result (V3 m d (Proc.devRef .tc main_v8)) (V3 m d (Proc.devRef .tc main_v9)) := by unfold V4; rw [Function.update_self]
  rw [StableHlo.held_sub_split _ callRefs_sub, held_call, h0, h1, h2]
  rfl

/-- What @main leaves: the arguments and the two results. -/
abbrev FIN (d : Dev nD) : sProp 𝕄 :=
  iprop((vLoc d main_arg0 ↦{fullShare} m (vLoc d main_arg0)) ∗ (vLoc d main_arg1 ↦{fullShare} m (vLoc d main_arg1))
    ∗ (vLoc d main_arg2 ↦{fullShare} m (vLoc d main_arg2)) ∗ (vLoc d main_arg3 ↦{fullShare} m (vLoc d main_arg3))
    ∗ (vLoc d main_v11 ↦{fullShare} (out m d : Buf (Elt F) (vLoc d main_v11))) ∗ vLoc d main_v12 ↦{fullShare} (outP m d : Buf (Elt F) (vLoc d main_v12)))

theorem held_end (d : Dev nD) : (StableHlo.held (T d) (Pipeline.ucRefs τ sig) (V5 m d) : sProp 𝕄) ⊢ FIN m d := by
  rw [StableHlo.held_sub_split _ (show ({Proc.devRef .tc main_arg0, Proc.devRef .tc main_arg1, Proc.devRef .tc main_arg2, Proc.devRef .tc main_arg3,
    Proc.devRef .tc main_v11, Proc.devRef .tc main_v12} : Finset (DevRef τ sig)) ⊆ _ by decide)]
  refine sep_elim_left.trans (Entails.of_eq ?_)
  unfold StableHlo.held FIN
  rw [SparseCore.bigSep_insert' (by decide), SparseCore.bigSep_insert' (by decide), SparseCore.bigSep_insert' (by decide), SparseCore.bigSep_insert' (by decide),
    SparseCore.bigSep_insert' (by decide), bigSep_singleton, V5_ne m d main_arg0 (by decide), V5_ne m d main_arg1 (by decide), V5_ne m d main_arg2 (by decide),
    V5_ne m d main_arg3 (by decide), V1_arg0, V1_arg1, V1_arg2, V1_arg3]
  show iprop(_ ∗ _ ∗ _ ∗ _ ∗ (vLoc d main_v11 ↦{fullShare} (V5 m d (Proc.devRef .tc main_v11) : S8x2048x256.Idx → F .f32))
    ∗ vLoc d main_v12 ↦{fullShare} (V5 m d (Proc.devRef .tc main_v12) : S_.Idx → F .f32)) = _
  rw [V5_out, V5_outP]

end Cert.Proof.Whole
end
-- ==== Proof.Whole.Launch.lean ====
/-
  @main: the reshapes and paddings, the TensorCore's call, two reshapes, the SparseCores' call, two reshapes; every memory
  afterwards holds the two results' contents and the arguments as they were.
-/
module

public import proofs.«01_k».proof.Proof.Whole.Host

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main -/

abbrev PM : (K (F := F)).Pay (nD := nD) (Val := Elt F) (Name := ℕ) (U := UU) := P (rows m) (nums m) (before m)

theorem bufs_held (d : Dev nD) : (unscopedBufs d (fun b => m ((SparseCore.T d : Thread nD τ).loc b)) : sProp 𝕄)
    = StableHlo.held (SparseCore.T d) (Pipeline.ucRefs τ sig) (V0 m d) :=
  (show (unscopedBufs d (fun b => m ((SparseCore.T d : Thread nD τ).loc b)) : sProp 𝕄) = unscopedBufs d (fun b => V0 m d (Proc.devRef .tc b)) from rfl).trans
    (Pipeline.unscopedBufs_held d (V0 m d))

theorem R2_picks (d : Dev nD) : R2 m d main_v7_0 = (dat (R1 m) d).arrAt 3 cfg0.N := by
  have h := V2_picks m d
  unfold pickArr at h
  exact h
theorem R2_plex (d : Dev nD) : R2 m d main_v7_1 = (dat (R1 m) d).arrAt 4 cfg0.N := by
  have h := V2_plex m d
  unfold plexArr at h
  exact h

/-- What the TensorCore holds before the SparseCores' call besides what it owes. -/
def held0 (d : Dev nD) : sProp 𝕄 :=
  iprop(Rounds.atPos EH ((K (F := F)).doneCell d) 0 ∅ 0 ∗ Rounds.reached EH ((K (F := F)).doneCell d) 0
    ∗ (bigSep Finset.univ fun c : Fin τ.nSC => Rounds.reached EH ((K (F := F)).startCell d c) ((K (F := F)).sRank c 0))
    ∗ bigSep (SparseCore.Cfg.callsFrom 0) fun q => bigSep Finset.univ fun c : Fin ((K (F := F)).nCore q) =>
        iprop(Rounds.dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : (K (F := F)).tcSt EH d 0 = iprop(owing (F := F) d ∗ held0 (F := F) d) := rfl

/-- The pipeline's call, between @main's arrays before it and after it. -/
abbrev region : Pipeline.RegionSeg (pcfgs (F := F)) adm (pdats (R1 m)) none defs₀ 𝒱₀ (K (F := F)).L (K (F := F)).lev 0 :=
  reg (R1 m) (R2 m) (R2_picks m) (R2_plex m) (V2_ne m)

/-- A call of the pipeline, seen from the program that also holds the SparseCores' call. -/
theorem lift_run (d : Dev nD) (Q : PUnit → sProp 𝕄) :
    wp frame (wpE (D (F := F)) 𝒱 (SparseCore.T d) none) Set.univ (.op (.customCall (Pipeline.entry 0) ()) fun x => .ret x) Q
      ⊢ wp frame (wpE ((K (F := F)).defs (D (F := F))) 𝒱 (SparseCore.T d) none) Set.univ (Prog.lift (.customCall (SparseCore.inner (Pipeline.entry 0)) ())) Q :=
  (K (F := F)).wp_liftProg (D (F := F)) 𝒱 (T d) Set.univ none (.op (.customCall (Pipeline.entry 0) ()) fun x => .ret x) Q

/-- A region's call, between what it takes and what it gives. -/
theorem seg_run [∀ e, Nonempty (Elt F e)]
    (r : Pipeline.RegionSeg (pcfgs (F := F)) adm (pdats (R1 m)) none defs₀ 𝒱₀ (K (F := F)).L (K (F := F)).lev 0) (d : Dev nD) (Q : PUnit → sProp 𝕄) :
    iprop((iprop(boundary (T d) ∗ r.post d) -∗ Q ⟨⟩)
        ∗ boundary (T d) ∗ r.pre d ∗ levAts (K (F := F)).L (K (F := F)).lev ∗ ghost (F := F) d)
      ⊢ wp frame (wpE (D (F := F)) 𝒱 (SparseCore.T d) none) Set.univ (.op (.customCall (Pipeline.entry 0) ()) fun x => .ret x) Q := by
  have h := Pipeline.RegionSeg.wp (pcfgs (F := F)) adm (pdats (R1 m)) none cellOf_inj EP defs₀ 𝒱₀ (K (F := F)).L (K (F := F)).lev r d none
    (fun _ h => nomatch h) (fun x => .ret x) Q
  refine BIBase.Entails.trans ?_ h
  simp only [wp_ret]
  iintro ⟨Hk, Hb, Hpre, Hl, Hc, Ht⟩
  isplitl [Hk]
  · iintro H
    imodintro
    iapply Hk; iexact H
  isplitl [Hb]; · iexact Hb
  isplitl [Hpre]; · iexact Hpre
  isplitl [Hl]; · iexact Hl
  isplitl [Hc]; · iexact Hc
  iexact Ht

theorem region_pre (d : Dev nD) : (region m).pre d = iprop(StableHlo.held (T d) (Pipeline.ucRefs τ sig) (V1 m d) ∗ owing (F := F) d) := by
  rw [← Pipeline.unscopedBufs_held d (V1 m d)]; rfl

theorem region_post (d : Dev nD) : (region m).post d = iprop(StableHlo.held (T d) (Pipeline.ucRefs τ sig) (V2 m d) ∗ owing (F := F) d) := by
  rw [← Pipeline.unscopedBufs_held d (V2 m d)]; rfl

/-- The TensorCore's call, in @main. -/
theorem call_run [∀ e, Nonempty (Elt F e)] (d : Dev nD) (Q : PUnit → sProp 𝕄) :
    iprop((iprop(boundary (T d) ∗ StableHlo.held (T d) (Pipeline.ucRefs τ sig) (V2 m d) ∗ owing (F := F) d) -∗ Q ⟨⟩)
        ∗ boundary (T d) ∗ (StableHlo.held (T d) (Pipeline.ucRefs τ sig) (V1 m d) ∗ owing (F := F) d) ∗ levAts (K (F := F)).L (K (F := F)).lev ∗ ghost (F := F) d)
      ⊢ wp frame (wpE ((K (F := F)).defs (D (F := F))) 𝒱 (SparseCore.T d) none) Set.univ (Prog.lift (.customCall (SparseCore.inner (Pipeline.entry 0)) ())) Q := by
  rw [← region_pre m d, ← region_post m d]
  exact BIBase.Entails.trans (seg_run m (region m) d Q) (lift_run d Q)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_held, main_eq]
  iintro ⟨#Hctx, Hst, ⟨Hb, Hh, Hts, -⟩, Hg⟩
  iapply (StableHlo.wp_seq 𝒱 none Set.univ d (Pipeline.ucRefs τ sig) _ ops1 within1 fresh1 (V0 m d)) $$ [Hb Hh]
  · isplitl [Hb]; · iexact Hb
    iexact Hh
  iintro ⟨Hb, Hh⟩
  rw [wp_bind]
  ihave Hlev := ((K (F := F)).ctx_levAts (EH := EH) (P := PM m) κ) $$ Hctx
  ihave Hst := (Entails.of_eq (tcSt_eq (F := F) d)) $$ Hst
  icases Hst with ⟨HO, Hst⟩
  iapply (call_run (F := F) m d _)
  isplitr [Hb Hh HO Hlev Hg]
  swap
  · isplitl [Hb]; · iexact Hb
    isplitl [Hh HO]
    · isplitl [Hh]; · iexact Hh
      iexact HO
    isplitl [Hlev]; · iexact Hlev
    iexact Hg
  iintro ⟨Hb, Hh, HO⟩
  iapply (StableHlo.wp_seq 𝒱 none Set.univ d (Pipeline.ucRefs τ sig) _ ops2 within2 fresh2 (V2 m d)) $$ [Hb Hh]
  · isplitl [Hb]; · iexact Hb
    iexact Hh
  iintro ⟨Hb, Hh⟩
  rw [wp_bind]
  ihave Hh' := (Entails.of_eq (show StableHlo.held (SparseCore.T d) (Pipeline.ucRefs τ sig) (StableHlo.after ops2 (V2 m d)) = _ from held_before m d)) $$ Hh
  icases Hh' with ⟨Hcall, Hrest⟩
  iapply ((K (F := F)).wp_run (D (F := F)) 𝒱 (EH := EH) (P := PM m) κ d 0) $$ [HO Hst Hcall Hrest Hb Hts]
  isplitr; · iexact Hctx
  isplitl [HO Hst]
  · iapply (Entails.of_eq (tcSt_eq (F := F) d).symm)
    isplitl [HO]; · iexact HO
    iexact Hst
  isplitl [Hcall]
  · rw [st_eq]; iexact Hcall
  iintro ⟨Hst, Hdn⟩
  ihave Hdn' := (Entails.of_eq (dn_eq (rows m) (nums m) (before m) d)) $$ Hdn
  ihave Hh := (Entails.of_eq (held_after m d).symm) $$ [Hdn' Hrest]
  · isplitl [Hdn']; · iexact Hdn'
    iexact Hrest
  iapply (StableHlo.wp_seq 𝒱 none Set.univ d (Pipeline.ucRefs τ sig) _ ops3 within3 fresh3 (V4 m d)) $$ [Hb Hh]
  · isplitl [Hb]; · iexact Hb
    iexact Hh
  iintro ⟨Hb, Hh⟩
  simp only [wp_pure]
  imodintro
  isplitl [Hst]; · iexact Hst
  isplitl [Hh]
  · iapply (show StableHlo.held (SparseCore.T d) (Pipeline.ucRefs τ sig) (StableHlo.after ops3 (V4 m d)) ⊢ FIN m d from held_end m d); iexact Hh
  isplitl [Hb] <;> iassumption

/-! ## The whole program's run -/

def fq (d : Dev nD) (s' : Phys nD τ sig (Elt F)) : Prop :=
  s'.mem.mem (vLoc d main_v11) = out m d ∧ s'.mem.mem (vLoc d main_v12) = outP m d
    ∧ s'.mem.mem (vLoc d main_arg0) = m (vLoc d main_arg0) ∧ s'.mem.mem (vLoc d main_arg1) = m (vLoc d main_arg1)
    ∧ s'.mem.mem (vLoc d main_arg2) = m (vLoc d main_arg2) ∧ s'.mem.mem (vLoc d main_arg3) = m (vLoc d main_arg3)

theorem agree {s' : Phys nD τ sig (Elt F)} {ℓ : Loc nD τ sig} {g : Buf (Elt F) ℓ} :
    iprop(SI s' ∗ ℓ ↦{fullShare} g) ⊢ (iprop(⌜s'.mem.mem ℓ = g⌝ ∗ SI s') : sProp 𝕄) := by
  refine BIBase.Entails.trans (persistent_entails_right (SI_pointsTo_agree (st := s') (ℓ := ℓ) (I := Finset.univ) (q := fullShare) (f := g))) ?_
  iintro ⟨%h, H, -⟩
  isplitr
  · ipureintro; exact funext fun i => h i (Finset.mem_univ i)
  iexact H

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := agree $$ [HSI H0]
  · isplitl [HSI] <;> iassumption
  icases H with ⟨%h0, HSI⟩
  ihave H := agree $$ [HSI H1]
  · isplitl [HSI] <;> iassumption
  icases H with ⟨%h1, HSI⟩
  ihave H := agree $$ [HSI H2]
  · isplitl [HSI] <;> iassumption
  icases H with ⟨%h2, HSI⟩
  ihave H := agree $$ [HSI H3]
  · isplitl [HSI] <;> iassumption
  icases H with ⟨%h3, HSI⟩
  ihave H := agree $$ [HSI H4]
  · isplitl [HSI] <;> iassumption
  icases H with ⟨%h4, HSI⟩
  ihave H := agree $$ [HSI H5]
  · isplitl [HSI] <;> iassumption
  icases H with ⟨%h5, -⟩
  ipureintro
  exact ⟨h4, h5, h0, h1, h2, h3⟩

def QC : PUnit × MemSt nD τ sig (Elt F) → Prop := fun r =>
  (∀ c : Dev nD, r.2.mem (vLoc c main_v11) = out m c ∧ r.2.mem (vLoc c main_v12) = outP m c
    ∧ r.2.mem (vLoc c main_arg0) = m (vLoc c main_arg0) ∧ r.2.mem (vLoc c main_arg1) = m (vLoc c main_arg1)
    ∧ r.2.mem (vLoc c main_arg2) = m (vLoc c main_arg2) ∧ r.2.mem (vLoc c main_arg3) = m (vLoc c main_arg3))
    ∧ r.2.sem = fun _ => 0

/-- The program's run: both results and the arguments at the end, every counter at zero. -/
theorem run_main [∀ e, Nonempty (Elt F e)] (hpre : PicksOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (rows m) (nums m) (before m) (nums_inRange m hpre))
    (fun q _ => match q with | 0 => SparseCore.Cfg.VecSplit.of_plain (vecSplit (rows m) (nums m) (before m)))
    m ρ main (ghost (F := F)) (FIN m) (u₀ (F := F)) (sep_elim_left.trans (hu₀ (rows m) (nums m) (before m))) (hmain m ρ) (fq m) (hfin m) (QC m) (fun _ h hz => ⟨h, hz⟩)

end Cert.Proof.Whole
end
-- ==== Proof.Whole.Blocks.lean ====
/-
  The blocks the TensorCore's pipeline stages, as entries of @main's arguments, and the two arrays it writes, as what its
  body leaves at a point.
-/
module

public import proofs.«01_k».proof.Proof.Whole.Host
public import Idealize.ShloMosaic.Lib.Pipeline.ValueKit
public import Idealize.ShloMosaic.Lib.KernelVsHost
public import Idealize.ShloMosaic.Lib.ValueLayout
public import Idealize.ShloMosaic.Lib.Pointwise.Reshape

@[expose] public section

noncomputable section

namespace Cert.Proof.Whole

open Cert.KernelIdeal Cert.KernelIdeal.Gen

open Idealize.ShloMosaic hiding ix0 ix1 ix2 ix3 ix4 eq_ix1 eq_ix2 eq_ix3
open Idealize.SL.Sem
open Idealize.ShloMosaic.SparseCore.Cfg (HIx)
open Idealize.ShloMosaic.ValueIdx
open Idealize.ShloMosaic.Pipeline (Dat)

variable {F : FTy → Type} [FloatOps F]

variable (m : (ℓ : Loc nD τ sig) → Buf (Elt F) ℓ)

theorem N8 : cfg0.N = 8 := N_0

/-- The point whose block holds a token, and the token's place in it. -/
def ptOf (n : Fin 16384) : Fin cfg0.N := ⟨n.val / 2048, by rw [N8]; omega⟩
def inPt (n : Fin 16384) : Fin 2048 := ⟨n.val % 2048, by omega⟩

theorem index0 (t : Fin cfg0.N) : (cfg0.win 0).index t = ![t.val, 0] := by revert t; decide
theorem index3 (t : Fin cfg0.N) : (cfg0.win 3).index t = ![t.val, 0] := by revert t; decide
theorem index1 (t : Fin cfg0.N) : (cfg0.win 1).index t = ![0, 0] := by revert t; decide
theorem index2 (t : Fin cfg0.N) : (cfg0.win 2).index t = ![0, 0] := by revert t; decide

/-- A block of hidden states, row by row. -/
theorem xblk_apply (d : Dev nD) (t : Fin cfg0.N) (r : Fin 2048) (i : Fin 512) :
    xblk (R1 m) d t (ix2 r i) = (m (vLoc d main_arg0) : S8x2048x512.Idx → F .f32) (ix3 ⟨t.val, lt_of_lt_of_eq t.isLt N8⟩ r i) := by
  have ht : t.val < 8 := lt_of_lt_of_eq t.isLt N8
  unfold xblk
  show (V1 m d (Proc.devRef .tc main_v0) : S16384x512.Idx → F .f32) ((win0_0.rect t).emb (ix2 r i)) = _
  rw [V1_v0]
  suffices hA : ∀ A : S8x2048x512.Idx → F .f32, shapeCast S16384x512 A shapeCasts_S8x2048x512_S16384x512 ((win0_0.rect t).emb (ix2 r i)) = A (ix3 ⟨t.val, ht⟩ r i) from
    hA (m (vLoc d main_arg0))
  intro A
  refine shapeCast_apply A shapeCasts_S8x2048x512_S16384x512 ((win0_0.rect t).emb (ix2 r i)) (ix3 ⟨t.val, ht⟩ r i) ?_
  rw [Shape.rowMajor_val_three, Shape.rowMajor_val_two]
  have e0 : (((win0_0.rect t).emb (ix2 r i)) 0 : Nat) = t.val * 2048 + r.val := by
    refine (Pipeline.Window.rect_emb_val win0_0 t (ix2 r i) 0).trans ?_
    rw [show win0_0.index t = ![t.val, 0] from index0 t]; rfl
  have e1 : (((win0_0.rect t).emb (ix2 r i)) 1 : Nat) = i.val := by
    refine (Pipeline.Window.rect_emb_val win0_0 t (ix2 r i) 1).trans ?_
    rw [show win0_0.index t = ![t.val, 0] from index0 t]; show 0 * 512 + i.val = _; omega
  rw [e0, e1]
  rfl

/-- The lane of the padded weights, and the column of the weights, of an entry of a group. -/
def plane (g : Fin 2) (k : Fin 384) : Fin 768 := ⟨g.val * 384 + k.val, by omega⟩
def col (g : Fin 2) (k : Fin 320) : Fin 640 := ⟨g.val * 320 + k.val, by omega⟩

theorem wts_read (d : Dev nD) (i : Fin 512) (l : Fin 768) :
    wts (R1 m) d (ix2 i l) = (V1 m d (Proc.devRef .tc main_v3) : S512x768.Idx → F .f32) (ix2 i l) := by
  unfold wts
  refine congrArg (V1 m d (Proc.devRef .tc main_v3) : S512x768.Idx → F .f32) (?_ : (win0_1.rect t0_0).emb (ix2 i l) = ix2 i l)
  funext a
  exact Fin.ext (Pipeline.Window.rect_emb_val_of_index_zero win0_1 t0_0 a (by rw [show win0_1.index t0_0 = ![0, 0] from index1 t0_0]; fin_cases a <;> rfl) (ix2 i l))

theorem bias_read (d : Dev nD) (l : Fin 768) :
    bias (R1 m) d (ix2 0 l) = (V1 m d (Proc.devRef .tc main_v6) : S1x768.Idx → F .f32) (ix2 0 l) := by
  unfold bias
  refine congrArg (V1 m d (Proc.devRef .tc main_v6) : S1x768.Idx → F .f32) (?_ : (win0_2.rect t0_0).emb (ix2 0 l) = ix2 0 l)
  funext a
  exact Fin.ext (Pipeline.Window.rect_emb_val_of_index_zero win0_2 t0_0 a (by rw [show win0_2.index t0_0 = ![0, 0] from index2 t0_0]; fin_cases a <;> rfl) (ix2 0 l))

/-- The staged weights: a column of the weights, or padding. -/
theorem wts_apply (d : Dev nD) (i : Fin 512) (g : Fin 2) (k : Fin 320) :
    wts (R1 m) d (ix2 i (plane g ⟨k.val, by omega⟩)) = (m (vLoc d main_arg2) : S512x640.Idx → F .f32) (ix2 i (col g k)) := by
  rw [wts_read, V1_v3]
  generalize (m (vLoc d main_arg2) : S512x640.Idx → F .f32) = A
  refine (shapeCast_apply _ _ _ (ix3 i g ⟨k.val, by omega⟩) ?_).trans ?_
  · rw [Shape.rowMajor_val_three, Shape.rowMajor_val_two]
    show (i.val * 2 + g.val) * 384 + k.val = i.val * 768 + (g.val * 384 + k.val)
    omega
  refine (pad_apply_of_inside _ _ _ _ _ _ _ (ix3 i g ⟨k.val, by omega⟩) (ix3 i g k) ?_).trans ?_
  · intro a; fin_cases a <;> simp
  refine shapeCast_apply _ _ _ (ix2 i (col g k)) ?_
  rw [Shape.rowMajor_val_three, Shape.rowMajor_val_two]
  show i.val * 640 + (g.val * 320 + k.val) = (i.val * 2 + g.val) * 320 + k.val
  omega

theorem wts_pad (d : Dev nD) (i : Fin 512) (g : Fin 2) (k : Fin 384) (hk : 320 ≤ k.val) :
    wts (R1 m) d (ix2 i (plane g k)) = sitofp .f32 (constantI S_ 32 0#32) ix0 := by
  rw [wts_read, V1_v3]
  refine (shapeCast_apply _ _ _ (ix3 i g k) ?_).trans ?_
  · rw [Shape.rowMajor_val_three, Shape.rowMajor_val_two]
    show (i.val * 2 + g.val) * 384 + k.val = i.val * 768 + (g.val * 384 + k.val)
    omega
  exact (pad_apply_of_not_inside _ _ _ _ _ _ _ (ix3 i g k) (2 : Fin 3) (by rintro ⟨-, -, h⟩; have e : ((ix3 i g k : S512x2x384.Idx) 2).val = k.val := rfl; simp at h; omega)).trans rfl

/-- The staged bias likewise. -/
theorem bias_apply (d : Dev nD) (g : Fin 2) (k : Fin 320) :
    bias (R1 m) d (ix2 0 (plane g ⟨k.val, by omega⟩)) = (m (vLoc d main_arg3) : S640.Idx → F .f32) (ix1 (col g k)) := by
  rw [bias_read, V1_v6]
  generalize (m (vLoc d main_arg3) : S640.Idx → F .f32) = A
  refine (shapeCast_apply _ _ _ (ix3 0 g ⟨k.val, by omega⟩) ?_).trans ?_
  · rw [Shape.rowMajor_val_three, Shape.rowMajor_val_two]
    show (0 * 2 + g.val) * 384 + k.val = 0 * 768 + (g.val * 384 + k.val)
    omega
  refine (pad_apply_of_inside _ _ _ _ _ _ _ (ix3 0 g ⟨k.val, by omega⟩) (ix3 0 g k) ?_).trans ?_
  · intro a; fin_cases a <;> simp
  refine shapeCast_apply _ _ _ (ix1 (col g k)) ?_
  rw [Shape.rowMajor_val_three, Shape.rowMajor_val_one]
  show g.val * 320 + k.val = (0 * 2 + g.val) * 320 + k.val
  omega

theorem bias_pad (d : Dev nD) (g : Fin 2) (k : Fin 384) (hk : 320 ≤ k.val) :
    bias (R1 m) d (ix2 0 (plane g k)) = constant S_ .f32 0xFF61B1E6#32 ix0 := by
  rw [bias_read, V1_v6]
  refine (shapeCast_apply _ _ _ (ix3 0 g k) ?_).trans ?_
  · rw [Shape.rowMajor_val_three, Shape.rowMajor_val_two]
    show (0 * 2 + g.val) * 384 + k.val = 0 * 768 + (g.val * 384 + k.val)
    omega
  exact (pad_apply_of_not_inside _ _ _ _ _ _ _ (ix3 0 g k) (2 : Fin 3) (by rintro ⟨-, -, h⟩; have e : ((ix3 0 g k : S1x2x384.Idx) 2).val = k.val := rfl; simp at h; omega)).trans rfl

/-! ## The two arrays the pipeline writes -/

/-- A token's picks, from its block. -/
theorem pickArr_apply (d : Dev nD) (n : Fin 16384) (g : Fin 2) :
    pickArr m d (ix2 n g) = picks (xblk (R1 m) d (ptOf n)) (wts (R1 m) d) (bias (R1 m) d) (ix2 (inPt n) g) := by
  have h : pickArr m d = fun j => picks (xblk (R1 m) d (ptOf (j 0))) (wts (R1 m) d) (bias (R1 m) d) (ix2 (inPt (j 0)) (j 1)) := by
    unfold pickArr
    refine (dat (R1 m) d).arrAt_eq_of_covers 3 (fun j : S16384x2.Idx => picks (xblk (R1 m) d (ptOf (j 0))) (wts (R1 m) d) (bias (R1 m) d) (ix2 (inPt (j 0)) (j 1)))
      (by decide +kernel) fun t hf y => ?_
    have e0 : (((win0_3.rect t).emb y) 0 : Nat) = t.val * 2048 + (y 0).val := by
      refine (Pipeline.Window.rect_emb_val win0_3 t y 0).trans ?_
      rw [show win0_3.index t = ![t.val, 0] from index3 t]; rfl
    have e1 : (((win0_3.rect t).emb y) 1 : Nat) = (y 1).val := by
      refine (Pipeline.Window.rect_emb_val win0_3 t y 1).trans ?_
      rw [show win0_3.index t = ![t.val, 0] from index3 t]; show 0 * 2 + (y 1).val = _; omega
    have hy0 : (y 0).val < 2048 := (y 0).isLt
    show picks (xblk (R1 m) d t) (wts (R1 m) d) (bias (R1 m) d) y
      = picks (xblk (R1 m) d (ptOf (((win0_3.rect t).emb y) 0))) (wts (R1 m) d) (bias (R1 m) d) (ix2 (inPt (((win0_3.rect t).emb y) 0)) (((win0_3.rect t).emb y) 1))
    have ep : ptOf (((win0_3.rect t).emb y) 0) = t := Fin.ext (by
      show (((win0_3.rect t).emb y) 0 : Nat) / 2048 = t.val
      rw [e0]; omega)
    rw [ep]
    refine congrArg _ (funext fun a => Fin.ext ?_)
    match a with
    | 0 => show (y 0).val = (((win0_3.rect t).emb y) 0 : Nat) % 2048; rw [e0]; omega
    | 1 => exact e1.symm
  rw [h]

/-- The perplexity, from the counts after the last point. -/
theorem plexArr_eq (d : Dev nD) : plexArr m d = k0_pay2 (cnt (R1 m) d 8) := by
  unfold plexArr
  refine (dat (R1 m) d).arrAt_eq_of_after_last 4 ⟨7, by rw [N8]; omega⟩ (by decide +kernel) (k0_pay2 (cnt (R1 m) d 8)) fun j => ?_
  show k0_pay2 (cnt (R1 m) d (7 + 1)) _ = k0_pay2 (cnt (R1 m) d 8) _
  rfl

end Cert.Proof.Whole
end
-- ==== Proof.Whole.First.lean ====
/-
  The first index at which a row of extended reals is largest, and the two ways the programs look for it: the kernel's
  index reduction along an axis, and the reference's fold over pairs of a value and an index.
-/
module

public import proofs.«01_k».proof.Proof.Gen.ReferenceIdeal
public import Idealize.ShloMosaic.PureOps.Ideal.Laws

@[expose] public section

noncomputable section

namespace Cert.Proof.Whole

open Idealize.ShloMosaic

/-- `k` is the first index at which `x` is largest. -/
def IsFirst {N : ℕ} (x : Fin N → EReal) (k : Fin N) : Prop := (∀ i, x i ≤ x k) ∧ ∀ i, i < k → x i < x k

theorem IsFirst.unique {N : ℕ} {x : Fin N → EReal} {k l : Fin N} (hk : IsFirst x k) (hl : IsFirst x l) : k = l := by
  rcases lt_trichotomy k l with h | h | h
  · exact absurd (hl.2 k h) (not_lt.mpr (hk.1 l))
  · exact h
  · exact absurd (hk.2 l h) (not_lt.mpr (hl.1 k))

theorem exists_isFirst {N : ℕ} [NeZero N] (x : Fin N → EReal) : ∃ k, IsFirst x k := by
  classical
  obtain ⟨l, hl⟩ := Finite.exists_max x
  have hne : (Finset.univ.filter fun k => ∀ i, x i ≤ x k).Nonempty := ⟨l, Finset.mem_filter.mpr ⟨Finset.mem_univ _, hl⟩⟩
  refine ⟨(Finset.univ.filter fun k => ∀ i, x i ≤ x k).min' hne, (Finset.mem_filter.mp (Finset.min'_mem _ hne)).2, fun i hi => ?_⟩
  by_contra hc
  have hm := (Finset.mem_filter.mp (Finset.min'_mem _ hne)).2
  refine absurd (Finset.min'_le _ i (Finset.mem_filter.mpr ⟨Finset.mem_univ _, fun i' => ?_⟩)) (not_le.mpr hi)
  exact (hm i').trans (not_lt.mp hc)

/-- The first index at which a row is largest. -/
def first {N : ℕ} [NeZero N] (x : Fin N → EReal) : Fin N := Classical.choose (exists_isFirst x)
theorem first_spec {N : ℕ} [NeZero N] (x : Fin N → EReal) : IsFirst x (first x) := Classical.choose_spec (exists_isFirst x)

/-- A row continued by entries below its largest has the same first. -/
theorem IsFirst.extend {N M : ℕ} {x : Fin N → EReal} {y : Fin M → EReal} {k : Fin N} (hk : IsFirst x k) (hNM : N ≤ M)
    (hy : ∀ i : Fin N, y ⟨i.val, lt_of_lt_of_le i.isLt hNM⟩ = x i) {p : EReal} (hp : ∀ i : Fin M, N ≤ i.val → y i = p) (hlt : p < x k) :
    IsFirst y ⟨k.val, lt_of_lt_of_le k.isLt hNM⟩ := by
  refine ⟨fun i => ?_, fun i hi => ?_⟩
  · rw [hy k]
    by_cases h : i.val < N
    · exact (hy ⟨i.val, h⟩).trans_le (hk.1 _)
    · rw [hp i (by omega)]; exact hlt.le
  · rw [hy k]
    have h : i.val < N := lt_trans (Fin.lt_def.mp hi) k.isLt
    exact (hy ⟨i.val, h⟩).trans_lt (hk.2 ⟨i.val, h⟩ (Fin.lt_def.mpr (Fin.lt_def.mp hi)))

theorem lift_self {s t : Shape} {a : Fin s.rank} (h : s.Reduces [a] t) (j : t.Idx) (k : Fin (s.size a)) : h.lift j k a = k :=
  Fin.ext (by rw [h.lift_val]; simp [Shape.Reduces.liftVal])

theorem mem_filter_any {α : Type} {p : α → Prop} {inst : DecidablePred p} {s : Finset α} {a : α} : a ∈ @Finset.filter α p inst s ↔ a ∈ s ∧ p a :=
  Finset.mem_filter

/-- The kernel's index reduction finds it. -/
theorem reduceIndex_first {s t : Shape} {a : Fin s.rank} (h : s.Reduces [a] t) (x : s.Idx → EReal) (j : t.Idx) (k : Fin (s.size a))
    (hk : IsFirst (fun i => x (h.lift j i)) k) : Ideal.reduceIndex .argMax a h x j = BitVec.ofNat 32 k.val := by
  classical
  unfold Ideal.reduceIndex
  dsimp only
  have hin : ∀ i : s.Idx, h.drop i = j → ∃ l : Fin (s.size a), i = h.lift j l ∧ i a = l := fun i hi =>
    ⟨i a, by rw [← hi, h.lift_drop], rfl⟩
  refine congrArg (BitVec.ofNat 32) ?_
  have e : ∀ o : WithTop ℕ, o = WithTop.some k.val → Option.getD o 0 = k.val := by rintro _ rfl; rfl
  refine e _ ?_
  apply le_antisymm
  · apply Finset.min_le
    refine Finset.mem_image.mpr ⟨h.lift j k, ?_, ?_⟩
    · rw [mem_filter_any]
      refine ⟨Finset.mem_filter.mpr ⟨Finset.mem_univ _, h.drop_lift j k⟩, fun i' hi' => ?_⟩
      obtain ⟨l, rfl, -⟩ := hin i' (Finset.mem_filter.mp hi').2
      rw [if_pos rfl]; exact not_lt.mpr (hk.1 l)
    · rw [lift_self]
  · refine Finset.le_min fun b hb => ?_
    obtain ⟨i, hi, rfl⟩ := Finset.mem_image.mp hb
    rw [mem_filter_any] at hi
    obtain ⟨hi, hmax⟩ := hi
    obtain ⟨l, rfl, -⟩ := hin i (Finset.mem_filter.mp hi).2
    rw [lift_self]
    refine WithTop.coe_le_coe.mpr (Nat.le_of_not_lt fun hlt => ?_)
    refine hmax (h.lift j k) (Finset.mem_filter.mpr ⟨Finset.mem_univ _, h.drop_lift j k⟩) ?_
    rw [if_pos rfl]; exact hk.2 l (Fin.lt_def.mpr hlt)

/-! ## The reference's fold -/

/-- A pair of a value and an index that comes no later than another: a larger value, or the same at no larger an index. -/
def Better (p q : EReal × BitVec 32) : Prop := q.1 < p.1 ∨ (q.1 = p.1 ∧ p.2.toInt ≤ q.2.toInt)

theorem Better.refl (p : EReal × BitVec 32) : Better p p := .inr ⟨rfl, le_rfl⟩
theorem Better.trans {p q r : EReal × BitVec 32} (h : Better p q) (h' : Better q r) : Better p r := by
  rcases h with h | ⟨h, hi⟩ <;> rcases h' with h' | ⟨h', hi'⟩
  · exact .inl (h'.trans h)
  · exact .inl (h'.trans_lt h)
  · exact .inl (h'.trans_eq h)
  · exact .inr ⟨h'.trans h, hi.trans hi'⟩

abbrev step : EReal × BitVec 32 → EReal × BitVec 32 → EReal × BitVec 32 := Cert.ReferenceIdeal.reducer_argmax_f32_i32 (F := Ideal)

theorem one_or (v : BitVec 1) : 1#1 ||| v = 1#1 := by revert v; decide

theorem step_left (a b : EReal × BitVec 32) (h : b.1 < a.1 ∨ (a.1 = b.1 ∧ a.2.toInt < b.2.toInt)) : step a b = a := by
  obtain ⟨a1, a2⟩ := a; obtain ⟨b1, b2⟩ := b
  rcases h with h | ⟨h, hi⟩
  · simp only [] at h
    simp [step, Cert.ReferenceIdeal.reducer_argmax_f32_i32, Ideal.cmpf_def, Ideal.cmp, Scalar.select, IntOp.ori, IntOp.andi, h, one_or]
  · simp only [] at h hi
    subst h
    simp [step, Cert.ReferenceIdeal.reducer_argmax_f32_i32, Ideal.cmpf_def, Ideal.cmp, Scalar.select, IntOp.ori, IntOp.andi, IntOp.cmpi, BitVec.slt, hi]

theorem step_right (a b : EReal × BitVec 32) (h : ¬ (b.1 < a.1 ∨ (a.1 = b.1 ∧ a.2.toInt < b.2.toInt))) : step a b = b := by
  obtain ⟨a1, a2⟩ := a; obtain ⟨b1, b2⟩ := b
  simp only [not_or, not_and] at h
  obtain ⟨h, hi⟩ := h
  by_cases e : a1 = b1
  · subst e
    have hi := hi rfl
    simp [step, Cert.ReferenceIdeal.reducer_argmax_f32_i32, Ideal.cmpf_def, Ideal.cmp, Scalar.select, IntOp.ori, IntOp.andi, IntOp.cmpi, BitVec.slt, hi]
  · simp [step, Cert.ReferenceIdeal.reducer_argmax_f32_i32, Ideal.cmpf_def, Ideal.cmp, Scalar.select, IntOp.ori, IntOp.andi, h, e]

theorem step_spec (a b : EReal × BitVec 32) : (step a b = a ∨ step a b = b) ∧ Better (step a b) a ∧ Better (step a b) b := by
  by_cases h : b.1 < a.1 ∨ (a.1 = b.1 ∧ a.2.toInt < b.2.toInt)
  · rw [step_left a b h]
    exact ⟨.inl rfl, .refl _, h.imp id fun h => ⟨h.1.symm, h.2.le⟩⟩
  · rw [step_right a b h]
    refine ⟨.inr rfl, ?_, .refl _⟩
    simp only [not_or, not_and, not_lt] at h
    rcases lt_or_eq_of_le h.1 with h1 | h1
    · exact .inl h1
    · exact .inr ⟨h1, h.2 h1⟩

/-- The fold ends with the best of the pairs it meets. -/
theorem fold_spec (L : List (EReal × BitVec 32)) (p : EReal × BitVec 32) :
    (L.foldl step p = p ∨ L.foldl step p ∈ L) ∧ Better (L.foldl step p) p ∧ ∀ q ∈ L, Better (L.foldl step p) q := by
  induction L generalizing p with
  | nil => exact ⟨.inl rfl, .refl _, fun q hq => absurd hq (List.not_mem_nil)⟩
  | cons r L ih =>
    rw [List.foldl_cons]
    obtain ⟨h1, h2, h3⟩ := ih (step p r)
    obtain ⟨s1, s2, s3⟩ := step_spec p r
    refine ⟨?_, h2.trans s2, fun q hq => ?_⟩
    · rcases h1 with h1 | h1
      · rw [h1]
        rcases s1 with s1 | s1
        · exact .inl s1
        · right; rw [s1]; exact List.mem_cons_self
      · exact .inr (List.mem_cons_of_mem _ h1)
    · rcases List.mem_cons.mp hq with rfl | hq
      · exact h2.trans s3
      · exact h3 q hq

/-- The reference's search along an axis finds the first largest entry, where that is above the fold's start. -/
theorem argReduce_first {s t u : Shape} {a : Fin s.rank} (x : s.Idx → EReal) (ix : u.Idx → EReal) (iy : u.Idx → BitVec 32)
    (h' : s.ReducesTo [a] t) (h : s.Reduces [a] t) (hu : 0 < u.numel) (hN : s.size a < 2 ^ 31) (hx : ix (Shape.Idx.first hu) = ⊥)
    (j : t.Idx) (k : Fin (s.size a)) (hk : IsFirst (fun i => x (h.lift j i)) k) (hb : ⊥ < x (h.lift j k)) :
    (Host.argReduce (F := Ideal) (φ := .f32) (Cert.ReferenceIdeal.reducer_argmax_f32_i32 (F := Ideal)) x (iotaInDim s 32 a) ix iy h' hu j).2 = BitVec.ofNat 32 k.val := by
  rw [Ideal.argReduce_eq_reduce2, Host.reduce2_eq_foldl_fiber, hx]
  obtain ⟨h1, h2, h3⟩ := fold_spec (Host.argReduceFiber x (iotaInDim s 32 a) h' j) (⊥, iy (Shape.Idx.first hu))
  change (List.foldl step (⊥, iy (Shape.Idx.first hu)) (Host.argReduceFiber x (iotaInDim s 32 a) h' j)).2 = _
  generalize List.foldl step (⊥, iy (Shape.Idx.first hu)) (Host.argReduceFiber x (iotaInDim s 32 a) h' j) = r at h1 h2 h3
  have hmem : ∀ l : Fin (s.size a), (x (h.lift j l), BitVec.ofNat 32 l.val) ∈ Host.argReduceFiber x (iotaInDim s 32 a) h' j := fun l => by
    unfold Host.argReduceFiber
    refine List.mem_map.mpr ⟨s.rowMajor (h.lift j l), List.mem_filter.mpr ⟨List.mem_finRange _, ?_⟩, ?_⟩
    · rw [Equiv.symm_apply_apply, Shape.ReducesTo.drop_eq_drop h' h, h.drop_lift]; exact decide_eq_true rfl
    · rw [Equiv.symm_apply_apply]
      exact congrArg (fun v : Fin (s.size a) => (x (h.lift j l), BitVec.ofNat 32 v.val)) (lift_self h j l)
  have hof : ∀ q ∈ Host.argReduceFiber x (iotaInDim s 32 a) h' j, ∃ l : Fin (s.size a), q = (x (h.lift j l), BitVec.ofNat 32 l.val) := fun q hq => by
    unfold Host.argReduceFiber at hq
    obtain ⟨n, hn, rfl⟩ := List.mem_map.mp hq
    have hd := of_decide_eq_true (List.mem_filter.mp hn).2
    rw [Shape.ReducesTo.drop_eq_drop h' h] at hd
    refine ⟨s.rowMajor.symm n a, ?_⟩
    rw [← hd, h.lift_drop]; rfl
  have toI : ∀ l : Fin (s.size a), (BitVec.ofNat 32 l.val).toInt = l.val := fun l => by
    have := l.isLt
    rw [BitVec.toInt_eq_toNat_of_lt (by rw [BitVec.toNat_ofNat]; omega), BitVec.toNat_ofNat, Nat.mod_eq_of_lt (by omega)]
  have hbest := h3 _ (hmem k)
  rcases h1 with rfl | h1
  · rcases hbest with hb' | ⟨hb', -⟩
    · exact absurd hb' (not_lt.mpr bot_le)
    · exact absurd hb' hb.ne'
  · obtain ⟨l, rfl⟩ := hof _ h1
    rcases hbest with hb' | ⟨hb', hi⟩
    · exact absurd (hk.1 l) (not_le.mpr hb')
    · simp only [toI] at hi
      have hl : l = k := by
        rcases lt_trichotomy l k with hlt | he | hgt
        · exact absurd hb' (hk.2 l hlt).ne'
        · exact he
        · have := Fin.lt_def.mp hgt; omega
      rw [hl]

end Cert.Proof.Whole
end
-- ==== Proof.Whole.RefRun.lean ====
/-
  The reference's @main as a list of its host operations, and what a run of it leaves in its two results: the composed
  terms of the arguments' contents, written through a few named steps.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The steps -/

/-- The logits: the product of the hidden states with the weights, and the bias. -/
def logits (a0 : S8x2048x512.Idx → F .f32) (a2 : S512x640.Idx → F .f32) (a3 : S640.Idx → F .f32) : FVec F S8x2048x640 .f32 :=
  addf (Host.dotGeneral dot_S8x2048x512_S512x640_S8x2048x640_2_0_01_1_n_n none a0 a2)
    (broadcastInDim S8x2048x640 ![0, 1, 2] bcast_S1x1x640_S8x2048x640_0_1_2 (broadcastInDim S1x1x640 ![2] bcast_S640_S1x1x640_2 a3))

/-- The value and the index a row's search for its largest entry ends with. -/
def argmaxVal (x : FVec F S32768x320 .f32) (y : IVec S32768x320 32) (u : FVec F S_ .f32) (v : IVec S_ 32) : FVec F S32768 .f32 :=
  fun j => (Host.argReduce reducer_argmax_f32_i32 x y u v reducesTo_S32768x320_S32768_d1 h_S_ j).1
def argmaxIdx (x : FVec F S32768x320 .f32) (y : IVec S32768x320 32) (u : FVec F S_ .f32) (v : IVec S_ 32) : IVec S32768 32 :=
  fun j => (Host.argReduce reducer_argmax_f32_i32 x y u v reducesTo_S32768x320_S32768_d1 h_S_ j).2

/-- The pick of every token and group. -/
def chosen (l : FVec F S8x2048x640 .f32) : IVec S32768 32 :=
  argmaxIdx (shapeCast S32768x320 l shapeCasts_S8x2048x640_S32768x320) (iotaInDim S32768x320 32 1) (constant S_ .f32 0xFF800000#32) (constantI S_ 32 0#32)

/-- The picks as rows of zeros with a one. -/
def hot (p : IVec S32768 32) : FVec F S16384x2x320 .f32 :=
  shapeCast S16384x2x320 (mulf
    (uitofp .f32 (cmpi .eq (broadcastInDim S32768x320 ![0, 1] bcast_S32768x1_S32768x320_0_1 (broadcastInDim S32768x1 ![0] bcast_S32768_S32768x1_0 p))
      (broadcastInDim S32768x320 ![0, 1] bcast_S1x320_S32768x320_0_1 (iotaInDim S1x320 32 1))))
    (broadcastInDim S32768x320 ![] bcast_S_S32768x320 (constant S_ .f32 0x3F800000#32))) shapeCasts_S32768x320_S16384x2x320

/-- How often an entry of a group is picked, as a share of the tokens. -/
def share (h : FVec F S16384x2x320 .f32) : FVec F S2x320 .f32 :=
  Host.divf (Host.reduceAdd h (constant S_ .f32 0x00000000#32) reducesTo_S16384x2x320_S2x320_d0 h_S_)
    (broadcastInDim S2x320 ![] bcast_S_S2x320 (constant S_ .f32 0x46800000#32))

/-- The perplexity of those shares. -/
def perplexity (p : FVec F S2x320 .f32) : FVec F S_ .f32 :=
  Host.reduceAdd (Host.exp (Host.negf (Host.reduceAdd
    (mulf p (Host.log (addf p (broadcastInDim S2x320 ![] bcast_S_S2x320 (constant S_ .f32 0x33D6BF95#32)))))
    (constant S_ .f32 0x00000000#32) reducesTo_S2x320_S2_d1 h_S_))) (constant S_ .f32 0x00000000#32) reducesTo_S2_S_d0 h_S_

/-- The codevectors weighted by the rows of zeros with a one, and summed in each group. -/
def mixed (h : FVec F S16384x2x320 .f32) (a1 : S1x640x128.Idx → F .f32) : FVec F S8x2048x256 .f32 :=
  shapeCast S8x2048x256 (Host.reduceAdd (shapeCast S16384x2x320x128 (mulf
      (broadcastInDim S16384x640x128 ![0, 1, 2] bcast_S16384x640x1_S16384x640x128_0_1_2
        (broadcastInDim S16384x640x1 ![0, 1] bcast_S16384x640_S16384x640x1_0_1 (shapeCast S16384x640 h shapeCasts_S16384x2x320_S16384x640)))
      (broadcastInDim S16384x640x128 ![0, 1, 2] bcast_S1x640x128_S16384x640x128_0_1_2 a1)) shapeCasts_S16384x640x128_S16384x2x320x128)
    (constant S_ .f32 0x00000000#32) reducesTo_S16384x2x320x128_S16384x2x128_d2 h_S_) shapeCasts_S16384x2x128_S8x2048x256

/-! ## The run -/

/-- @main's 45 operations, in order. -/
abbrev ops : List (HloOp τ sig (Elt F)) :=
  [ binary main_arg0 main_arg2 main_v0 ((fun l r => Host.dotGeneral dot_S8x2048x512_S512x640_S8x2048x640_2_0_01_1_n_n none l r) : (⟨S8x2048x512, .f32⟩ : BufTy).Contents (Elt F) → (⟨S512x640, .f32⟩ : BufTy).Contents (Elt F) → (⟨S8x2048x640, .f32⟩ : BufTy).Contents (Elt F)),
    unary main_arg3 main_v1 (broadcastInDim S1x1x640 ![2] bcast_S640_S1x1x640_2 : (⟨S640, .f32⟩ : BufTy).Contents (Elt F) → (⟨S1x1x640, .f32⟩ : BufTy).Contents (Elt F)),
    unary main_v1 main_v2 (broadcastInDim S8x2048x640 ![0, 1, 2] bcast_S1x1x640_S8x2048x640_0_1_2 : (⟨S1x1x640, .f32⟩ : BufTy).Contents (Elt F) → (⟨S8x2048x640, .f32⟩ : BufTy).Contents (Elt F)),
    binary main_v0 main_v2 main_v3 (addf : (⟨S8x2048x640, .f32⟩ : BufTy).Contents (Elt F) → (⟨S8x2048x640, .f32⟩ : BufTy).Contents (Elt F) → (⟨S8x2048x640, .f32⟩ : BufTy).Contents (Elt F)),
    reshape main_v3 main_v4 (rfl : (.f32 : EltTy) = .f32) shapeCasts_S8x2048x640_S32768x320,
    nullary main_call0_v0 (iotaInDim S32768x320 32 1 : (⟨S32768x320, .i32⟩ : BufTy).Contents (Elt F)),
    nullary main_call0_cst (constant S_ .f32 0xFF800000#32),
    nullary main_call0_c (constantI S_ 32 0#32),
    quaternary main_v4 main_call0_v0 main_call0_cst main_call0_c main_call0_v1_0 (argmaxVal : (⟨S32768x320, .f32⟩ : BufTy).Contents (Elt F) → (⟨S32768x320, .i32⟩ : BufTy).Contents (Elt F) → (⟨S_, .f32⟩ : BufTy).Contents (Elt F) → (⟨S_, .i32⟩ : BufTy).Contents (Elt F) → (⟨S32768, .f32⟩ : BufTy).Contents (Elt F)),
    quaternary main_v4 main_call0_v0 main_call0_cst main_call0_c main_v5 (argmaxIdx : (⟨S32768x320, .f32⟩ : BufTy).Contents (Elt F) → (⟨S32768x320, .i32⟩ : BufTy).Contents (Elt F) → (⟨S_, .f32⟩ : BufTy).Contents (Elt F) → (⟨S_, .i32⟩ : BufTy).Contents (Elt F) → (⟨S32768, .i32⟩ : BufTy).Contents (Elt F)),
    unary main_v5 main_call1_v0 (broadcastInDim S32768x1 ![0] bcast_S32768_S32768x1_0 : (⟨S32768, .i32⟩ : BufTy).Contents (Elt F) → (⟨S32768x1, .i32⟩ : BufTy).Contents (Elt F)),
    nullary main_call1_v1 (iotaInDim S1x320 32 1 : (⟨S1x320, .i32⟩ : BufTy).Contents (Elt F)),
    unary main_call1_v0 main_call1_v2 (broadcastInDim S32768x320 ![0, 1] bcast_S32768x1_S32768x320_0_1 : (⟨S32768x1, .i32⟩ : BufTy).Contents (Elt F) → (⟨S32768x320, .i32⟩ : BufTy).Contents (Elt F)),
    unary main_call1_v1 main_call1_v3 (broadcastInDim S32768x320 ![0, 1] bcast_S1x320_S32768x320_0_1 : (⟨S1x320, .i32⟩ : BufTy).Contents (Elt F) → (⟨S32768x320, .i32⟩ : BufTy).Contents (Elt F)),
    binary main_call1_v2 main_call1_v3 main_call1_v4 (cmpi .eq : (⟨S32768x320, .i32⟩ : BufTy).Contents (Elt F) → (⟨S32768x320, .i32⟩ : BufTy).Contents (Elt F) → (⟨S32768x320, .i1⟩ : BufTy).Contents (Elt F)),
    unary main_call1_v4 main_v6 (uitofp .f32 : (⟨S32768x320, .i1⟩ : BufTy).Contents (Elt F) → (⟨S32768x320, .f32⟩ : BufTy).Contents (Elt F)),
    nullary main_cst (constant S_ .f32 0x3F800000#32),
    unary main_cst main_v7 (broadcastInDim S32768x320 ![] bcast_S_S32768x320 : (⟨S_, .f32⟩ : BufTy).Contents (Elt F) → (⟨S32768x320, .f32⟩ : BufTy).Contents (Elt F)),
    binary main_v6 main_v7 main_v8 (mulf : (⟨S32768x320, .f32⟩ : BufTy).Contents (Elt F) → (⟨S32768x320, .f32⟩ : BufTy).Contents (Elt F) → (⟨S32768x320, .f32⟩ : BufTy).Contents (Elt F)),
    reshape main_v8 main_v9 (rfl : (.f32 : EltTy) = .f32) shapeCasts_S32768x320_S16384x2x320,
    nullary main_cst_0 (constant S_ .f32 0x00000000#32),
    binary main_v9 main_cst_0 main_v10 ((fun x v => Host.reduceAdd x v reducesTo_S16384x2x320_S2x320_d0 h_S_) : (⟨S16384x2x320, .f32⟩ : BufTy).Contents (Elt F) → (⟨S_, .f32⟩ : BufTy).Contents (Elt F) → (⟨S2x320, .f32⟩ : BufTy).Contents (Elt F)),
    nullary main_cst_1 (constant S_ .f32 0x46800000#32),
    unary main_cst_1 main_v11 (broadcastInDim S2x320 ![] bcast_S_S2x320 : (⟨S_, .f32⟩ : BufTy).Contents (Elt F) → (⟨S2x320, .f32⟩ : BufTy).Contents (Elt F)),
    binary main_v10 main_v11 main_v12 (Host.divf : (⟨S2x320, .f32⟩ : BufTy).Contents (Elt F) → (⟨S2x320, .f32⟩ : BufTy).Contents (Elt F) → (⟨S2x320, .f32⟩ : BufTy).Contents (Elt F)),
    nullary main_cst_2 (constant S_ .f32 0x33D6BF95#32),
    unary main_cst_2 main_v13 (broadcastInDim S2x320 ![] bcast_S_S2x320 : (⟨S_, .f32⟩ : BufTy).Contents (Elt F) → (⟨S2x320, .f32⟩ : BufTy).Contents (Elt F)),
    binary main_v12 main_v13 main_v14 (addf : (⟨S2x320, .f32⟩ : BufTy).Contents (Elt F) → (⟨S2x320, .f32⟩ : BufTy).Contents (Elt F) → (⟨S2x320, .f32⟩ : BufTy).Contents (Elt F)),
    unary main_v14 main_v15 (Host.log : (⟨S2x320, .f32⟩ : BufTy).Contents (Elt F) → (⟨S2x320, .f32⟩ : BufTy).Contents (Elt F)),
    binary main_v12 main_v15 main_v16 (mulf : (⟨S2x320, .f32⟩ : BufTy).Contents (Elt F) → (⟨S2x320, .f32⟩ : BufTy).Contents (Elt F) → (⟨S2x320, .f32⟩ : BufTy).Contents (Elt F)),
    nullary main_cst_3 (constant S_ .f32 0x00000000#32),
    binary main_v16 main_cst_3 main_v17 ((fun x v => Host.reduceAdd x v reducesTo_S2x320_S2_d1 h_S_) : (⟨S2x320, .f32⟩ : BufTy).Contents (Elt F) → (⟨S_, .f32⟩ : BufTy).Contents (Elt F) → (⟨S2, .f32⟩ : BufTy).Contents (Elt F)),
    unary main_v17 main_v18 (Host.negf : (⟨S2, .f32⟩ : BufTy).Contents (Elt F) → (⟨S2, .f32⟩ : BufTy).Contents (Elt F)),
    unary main_v18 main_v19 (Host.exp : (⟨S2, .f32⟩ : BufTy).Contents (Elt F) → (⟨S2, .f32⟩ : BufTy).Contents (Elt F)),
    nullary main_cst_4 (constant S_ .f32 0x00000000#32),
    binary main_v19 main_cst_4 main_v20 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    reshape main_v9 main_v21 (rfl : (.f32 : EltTy) = .f32) shapeCasts_S16384x2x320_S16384x640,
    unary main_v21 main_v22 (broadcastInDim S16384x640x1 ![0, 1] bcast_S16384x640_S16384x640x1_0_1 : (⟨S16384x640, .f32⟩ : BufTy).Contents (Elt F) → (⟨S16384x640x1, .f32⟩ : BufTy).Contents (Elt F)),
    unary main_v22 main_v23 (broadcastInDim S16384x640x128 ![0, 1, 2] bcast_S16384x640x1_S16384x640x128_0_1_2 : (⟨S16384x640x1, .f32⟩ : BufTy).Contents (Elt F) → (⟨S16384x640x128, .f32⟩ : BufTy).Contents (Elt F)),
    unary main_arg1 main_v24 (broadcastInDim S16384x640x128 ![0, 1, 2] bcast_S1x640x128_S16384x640x128_0_1_2 : (⟨S1x640x128, .f32⟩ : BufTy).Contents (Elt F) → (⟨S16384x640x128, .f32⟩ : BufTy).Contents (Elt F)),
    binary main_v23 main_v24 main_v25 (mulf : (⟨S16384x640x128, .f32⟩ : BufTy).Contents (Elt F) → (⟨S16384x640x128, .f32⟩ : BufTy).Contents (Elt F) → (⟨S16384x640x128, .f32⟩ : BufTy).Contents (Elt F)),
    reshape main_v25 main_v26 (rfl : (.f32 : EltTy) = .f32) shapeCasts_S16384x640x128_S16384x2x320x128,
    nullary main_cst_5 (constant S_ .f32 0x00000000#32),
    binary main_v26 main_cst_5 main_v27 ((fun x v => Host.reduceAdd x v reducesTo_S16384x2x320x128_S16384x2x128_d2 h_S_) : (⟨S16384x2x320x128, .f32⟩ : BufTy).Contents (Elt F) → (⟨S_, .f32⟩ : BufTy).Contents (Elt F) → (⟨S16384x2x128, .f32⟩ : BufTy).Contents (Elt F)),
    reshape main_v27 main_v28 (rfl : (.f32 : EltTy) = .f32) shapeCasts_S16384x2x128_S8x2048x256 ]

set_option maxHeartbeats 2000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., reshape_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., reshape_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., reshape_bufs_sub .., unary_bufs_sub .., unary_bufs_sub .., unary_bufs_sub .., binary_bufs_sub .., reshape_bufs_sub .., nullary_bufs_sub .., binary_bufs_sub .., reshape_bufs_sub ..⟩

variable (m : (ℓ : Loc nD τ sig) → Buf (Elt F) ℓ)

/-- The rows of zeros with a one, from the arguments' contents. -/
abbrev hotOf (c : Dev nD) : FVec F S16384x2x320 .f32 :=
  hot (chosen (logits (m ((c.tc : Thread nD τ).loc main_arg0)) (m ((c.tc : Thread nD τ).loc main_arg2)) (m ((c.tc : Thread nD τ).loc main_arg3))))

set_option maxHeartbeats 2000000 in
/-- Every weakly fair execution of @main ends, each result at its term of the arguments and the arguments as they were. -/
theorem run (ρ : Dev nD → PrngReg) :
    θ_run defs (onTc (τ := τ) (main (F := F))) ⟨m, fun _ => 0, ρ⟩ fun r => ∀ c : Dev nD,
      r.2.mem ((c.tc : Thread nD τ).loc main_v28) = mixed (hotOf m c) (m ((c.tc : Thread nD τ).loc main_arg1))
      ∧ r.2.mem ((c.tc : Thread nD τ).loc main_v20) = perplexity (share (hotOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (by after_results <;> rfl),
      (h c main_v20).trans (by after_results <;> rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.Proof.RefRun
end
-- ==== Proof.Whole.Logits.lean ====
/-
  The logits over the extended reals: a dot product and a bias, read at an index, in the kernel's padded product, in the
  reference's product and in the precondition, which gives every group a logit above the kernel's padding.
-/
module

public import proofs.«01_k».proof.Proof.Whole.Blocks
public import proofs.«01_k».proof.Proof.Whole.First
public import proofs.«01_k».proof.Proof.Whole.RefRun
public import proofs.«01_k».proof.Proof.Gen.Pre_no_tie
public import Idealize.ShloMosaic.Lib.MatmulPlain
public import Idealize.ShloMosaic.Lib.IdealHost

@[expose] public section

noncomputable section

namespace Cert.Proof.Whole

open Idealize.ShloMosaic hiding ix0 ix1 ix2 ix3 ix4 eq_ix1 eq_ix2 eq_ix3
open Idealize.SL.Sem
open Idealize.ShloMosaic.ValueIdx
open scoped BigOperators

/-- The arguments' contents, over the extended reals. -/
abbrev A0 : Type := (⟨3, ![8, 2048, 512]⟩ : Shape).Idx → EReal
abbrev A1 : Type := (⟨3, ![1, 640, 128]⟩ : Shape).Idx → EReal
abbrev A2 : Type := (⟨2, ![512, 640]⟩ : Shape).Idx → EReal
abbrev A3 : Type := (⟨1, ![640]⟩ : Shape).Idx → EReal

/-- A token's row of the batch. -/
def rowOf (n : Fin 16384) : Fin 8 := ⟨n.val / 2048, by omega⟩

/-- The logit of a token at an entry of a group. -/
def logit (a0 : A0) (a2 : A2) (a3 : A3) (n : Fin 16384) (g : Fin 2) (k : Fin 320) : EReal :=
  (∑ i : Fin 512, a0 (ix3 (rowOf n) (inPt n) i) * a2 (ix2 i (col g k))) + a3 (ix1 (col g k))

/-- The padding of the bias. -/
def low : EReal := Ideal.ofBits .f32 0xFF61B1E6#32

/-! ## The kernel's -/

section Kernel
open Cert.KernelIdeal Cert.KernelIdeal.Gen

/-- The body's product and bias, at an index. -/
theorem pay3_apply (x : XT Ideal) (w : WT Ideal) (b : BT Ideal) (r : Fin 2048) (l : Fin 768) :
    k0_pay3 x w b (ix2 r l) = (∑ i : Fin 512, x (ix2 r i) * w (ix2 i l)) + b (ix2 0 l) := by
  unfold k0_pay3
  simp only [shapeCast_self]
  show FloatOps.matmul dot_S2048x512_S512x768_S2048x768_1_0_0_1_n_n none x w (constant S2048x768 .f32 0x00000000#32) (ix2 r l)
    + broadcastTo S2048x768 b broadcasts_S1x768_S2048x768 (ix2 r l) = _
  rw [show dot_S2048x512_S512x768_S2048x768_1_0_0_1_n_n = DotDims.plain 2048 512 768 from rfl, Ideal.matmul_plain_apply,
    broadcastTo_apply b _ (ix2 r l) (ix2 0 l) (by intro a; fin_cases a <;> rfl)]
  rw [show (constant (F := Ideal) S2048x768 .f32 0x00000000#32) (ix2 r l) = 0 from Ideal.ofBits_zero_f32, zero_add]

variable (m : (ℓ : Loc nD τ sig) → Buf (Elt Ideal) ℓ)

/-- On the lanes of a group's entries it is the logit. -/
theorem pay3_logit (d : Dev nD) (n : Fin 16384) (g : Fin 2) (k : Fin 320) :
    k0_pay3 (xblk (R1 m) d (ptOf n)) (wts (R1 m) d) (bias (R1 m) d) (ix2 (inPt n) (plane g ⟨k.val, by omega⟩))
      = logit (m (vLoc d main_arg0)) (m (vLoc d main_arg2)) (m (vLoc d main_arg3)) n g k := by
  rw [pay3_apply, bias_apply]
  simp only [xblk_apply, wts_apply]
  rfl

/-- On the padded lanes it is the padding. -/
theorem pay3_pad (d : Dev nD) (t : Fin cfg0.N) (r : Fin 2048) (g : Fin 2) (k : Fin 384) (hk : 320 ≤ k.val) :
    k0_pay3 (xblk (R1 m) d t) (wts (R1 m) d) (bias (R1 m) d) (ix2 r (plane g k)) = low := by
  rw [pay3_apply, bias_pad m d g k hk]
  simp only [wts_pad m d _ g k hk]
  rw [show (sitofp (F := Ideal) .f32 (constantI S_ 32 0#32) ix0 : EReal) = 0 from by
    show ((((0#32 : BitVec 32).toInt : ℝ)) : EReal) = 0
    simp]
  simp only [mul_zero, Finset.sum_const_zero, zero_add]
  rfl

end Kernel

/-! ## The reference's -/

section Reference
open Cert.ReferenceIdeal Cert.ReferenceIdeal.Gen

/-- The product of the hidden states with the weights, at an index. -/
theorem product_apply {d : DotDims S8x2048x512 S512x640 S8x2048x640} (hd : d = dot_S8x2048x512_S512x640_S8x2048x640_2_0_01_1_n_n)
    (a0 : A0) (a2 : A2) (b : Fin 8) (s : Fin 2048) (c : Fin 640) :
    Host.dotGeneral (F := Ideal) (φ₁ := .f32) (φ₂ := .f32) d none a0 a2 (ix3 b s c) = ∑ i : Fin 512, a0 (ix3 b s i) * a2 (ix2 i c) := by
  subst hd
  simp only [Host.dotGeneral]
  rw [Ideal.dotGeneral_apply]
  let e := contrEquiv1 dot_S8x2048x512_S512x640_S8x2048x640_2_0_01_1_n_n 512 rfl rfl
  rw [← Equiv.sum_comp e.symm]
  refine Finset.sum_congr rfl fun k _ => ?_
  have hk := contrEquiv1_symm_val dot_S8x2048x512_S512x640_S8x2048x640_2_0_01_1_n_n 512 rfl rfl k
  have el : dot_S8x2048x512_S512x640_S8x2048x640_2_0_01_1_n_n.lhsIdx (ix3 b s c) (e.symm k) = ix3 b s k := by
    funext a; apply Fin.ext
    match a with
    | ⟨0, _⟩ => rfl
    | ⟨1, _⟩ => rfl
    | ⟨2, _⟩ => exact hk
  have er : dot_S8x2048x512_S512x640_S8x2048x640_2_0_01_1_n_n.rhsIdx (ix3 b s c) (e.symm k) = ix2 k c := by
    funext a; apply Fin.ext
    match a with
    | ⟨0, _⟩ => exact hk
    | ⟨1, _⟩ => rfl
  rw [el, er]

/-- The logits as the reference computes them. -/
theorem logits_apply (a0 : A0) (a2 : A2) (a3 : A3) (n : Fin 16384) (g : Fin 2) (k : Fin 320) :
    RefRun.logits (F := Ideal) a0 a2 a3 (ix3 (rowOf n) (inPt n) (col g k)) = logit a0 a2 a3 n g k := by
  unfold RefRun.logits logit
  show Host.dotGeneral (F := Ideal) (φ₁ := .f32) (φ₂ := .f32) dot_S8x2048x512_S512x640_S8x2048x640_2_0_01_1_n_n none a0 a2 (ix3 (rowOf n) (inPt n) (col g k)) + _ = _
  rw [product_apply rfl]
  refine congrArg _ ?_
  rw [broadcastInDim_apply _ _ _ _ (ix3 0 0 (col g k)) (by intro a; fin_cases a <;> rfl)]
  exact broadcastInDim_apply _ _ _ _ (ix1 (col g k)) (by intro a; fin_cases a; rfl)

/-- The row of a token and a group, among all of them. -/
def pairOf (n : Fin 16384) (g : Fin 2) : Fin 32768 := ⟨n.val * 2 + g.val, by omega⟩

theorem logits_row (a0 : A0) (a2 : A2) (a3 : A3) (n : Fin 16384) (g : Fin 2) (k : Fin 320) :
    shapeCast S32768x320 (RefRun.logits (F := Ideal) a0 a2 a3) shapeCasts_S8x2048x640_S32768x320 (ix2 (pairOf n g) k) = logit a0 a2 a3 n g k := by
  refine (shapeCast_apply _ _ _ (ix3 (rowOf n) (inPt n) (col g k)) ?_).trans (logits_apply a0 a2 a3 n g k)
  rw [Shape.rowMajor_val_three, Shape.rowMajor_val_two]
  show (n.val / 2048 * 2048 + n.val % 2048) * 640 + (g.val * 320 + k.val) = (n.val * 2 + g.val) * 320 + k.val
  omega

end Reference

/-! ## The precondition's -/

section Pre
open Cert.Pre_no_tie Cert.Pre_no_tie.Gen

theorem neg_inf : Ideal.ofBits .f32 0xFF800000#32 = ⊥ := by simp [Ideal.ofBits, Ideal.ieee]

/-- The largest logit of every token and group. -/
def best (a0 : A0) (a2 : A2) (a3 : A3) : FVec Ideal S8x2048x2 .f32 :=
  Host.reduce FloatOps.maximumf (shapeCast S8x2048x2x320 (RefRun.logits (F := Ideal) a0 a2 a3) shapeCasts_S8x2048x640_S8x2048x2x320)
    (constant (F := Ideal) S_ .f32 0xFF800000#32) reducesTo_S8x2048x2x320_S8x2048x2_d3 h_S_

theorem and_right : ∀ x y : BitVec 1, x &&& y = 1#1 → y = 1#1 := by decide

theorem last_bit (x : IVec S8x2048x2 1) (y : FVec Ideal S8x2048x2 .f32) (z : FVec Ideal S_ .f32) (j : S8x2048x2.Idx)
    (h : andi x (cmpf (F := Ideal) (φ := .f32) .ogt y (broadcastInDim S8x2048x2 ![] bcast_S_S8x2048x2 z)) j = 1#1) : Ideal.cmp .ogt (y j) (z ix0) = 1#1 := by
  have h2 := and_right (x j) _ h
  have h3 : broadcastInDim S8x2048x2 ![] bcast_S_S8x2048x2 z j = z ix0 := broadcastInDim_scalar_apply ..
  rw [← h3]
  exact h2

theorem cmp_best (a0 : A0) (a1 : A1) (a2 : A2) (a3 : A3) :
    ∃ x : IVec S8x2048x2 1, fn (F := Ideal) a0 a1 a2 a3 = andi x (cmpf (F := Ideal) (φ := .f32) .ogt
      (shapeCast S8x2048x2 (broadcastInDim S8x2048x2x1 ![0, 1, 2] bcast_S8x2048x2_S8x2048x2x1_0_1_2 (best a0 a2 a3)) shapeCasts_S8x2048x2x1_S8x2048x2)
      (broadcastInDim S8x2048x2 ![] bcast_S_S8x2048x2 (constant (F := Ideal) S_ .f32 0xFF61B1E6#32))) := ⟨_, rfl⟩

/-- The precondition's second half, at a token and a group. -/
theorem pre_above (a0 : A0) (a1 : A1) (a2 : A2) (a3 : A3) (h : fn (F := Ideal) a0 a1 a2 a3 = fun _ => 1#1) (j : S8x2048x2.Idx) :
    Ideal.cmp .ogt (shapeCast S8x2048x2 (broadcastInDim S8x2048x2x1 ![0, 1, 2] bcast_S8x2048x2_S8x2048x2x1_0_1_2 (best a0 a2 a3))
      shapeCasts_S8x2048x2x1_S8x2048x2 j) low = 1#1 := by
  obtain ⟨x, hx⟩ := cmp_best a0 a1 a2 a3
  have h1 := congrFun (hx.symm.trans h) j
  generalize shapeCast S8x2048x2 (broadcastInDim S8x2048x2x1 ![0, 1, 2] bcast_S8x2048x2_S8x2048x2x1_0_1_2 (best a0 a2 a3))
    shapeCasts_S8x2048x2x1_S8x2048x2 = y at h1 ⊢
  exact last_bit x y _ j h1

/-- A logit of every token and group is above the padding. -/
theorem above (a0 : A0) (a1 : A1) (a2 : A2) (a3 : A3) (h : fn (F := Ideal) a0 a1 a2 a3 = fun _ => 1#1) (n : Fin 16384) (g : Fin 2) :
    ∃ k, low < logit a0 a2 a3 n g k := by
  have h1 := pre_above a0 a1 a2 a3 h (ix3 (rowOf n) (inPt n) g)
  have h2 : low < shapeCast S8x2048x2 (broadcastInDim S8x2048x2x1 ![0, 1, 2] bcast_S8x2048x2_S8x2048x2x1_0_1_2 (best a0 a2 a3))
      shapeCasts_S8x2048x2x1_S8x2048x2 (ix3 (rowOf n) (inPt n) g) := by
    by_contra hc
    unfold Ideal.cmp at h1
    simp [hc] at h1
  rw [shapeCast_apply _ _ _ (ix4 (rowOf n) (inPt n) g 0) (by
      rw [Shape.rowMajor_val_three, Shape.rowMajor_val_four]
      show ((n.val / 2048 * 2048 + n.val % 2048) * 2 + g.val) * 1 + 0 = (n.val / 2048 * 2048 + n.val % 2048) * 2 + g.val
      omega),
    broadcastInDim_apply _ _ _ _ (ix3 (rowOf n) (inPt n) g) (by intro a; fin_cases a <;> rfl),
    best, Host.reduce_eq_fold_single _ _ _ _ (by decide : S8x2048x2x320.Reduces [3] S8x2048x2)] at h2
  rcases (Finset.lt_fold_max (c := low)).mp h2 with hb | ⟨k, -, hk⟩
  · rw [show (constant (F := Ideal) S_ .f32 0xFF800000#32 (Shape.Idx.first h_S_) : EReal) = ⊥ from neg_inf] at hb
    exact absurd hb not_lt_bot
  · refine ⟨k, lt_of_lt_of_eq hk ?_⟩
    refine (shapeCast_apply _ _ _ (ix3 (rowOf n) (inPt n) (col g k)) ?_).trans (logits_apply a0 a2 a3 n g k)
    rw [Shape.rowMajor_val_three, Shape.rowMajor_val_four]
    show (n.val / 2048 * 2048 + n.val % 2048) * 640 + (g.val * 320 + k.val) = ((n.val / 2048 * 2048 + n.val % 2048) * 2 + g.val) * 320 + k.val
    omega

end Pre

end Cert.Proof.Whole

end
-- ==== Proof.Whole.Picks.lean ====
/-
  The picks over the extended reals: the kernel's and the reference's are the first entry of a group with the largest logit.
-/
module

public import proofs.«01_k».proof.Proof.Whole.Logits

@[expose] public section

noncomputable section

namespace Cert.Proof.Whole

open Idealize.ShloMosaic hiding ix0 ix1 ix2 ix3 ix4 eq_ix1 eq_ix2 eq_ix3
open Idealize.SL.Sem
open Idealize.ShloMosaic.ValueIdx
open scoped BigOperators

/-- The entry of a group a token picks. -/
def sel (a0 : A0) (a2 : A2) (a3 : A3) (n : Fin 16384) (g : Fin 2) : Fin 320 := first (logit a0 a2 a3 n g)

/-! ## The kernel's -/

section Kernel
open Cert.KernelIdeal Cert.KernelIdeal.Gen

variable (m : (ℓ : Loc nD τ sig) → Buf (Elt Ideal) ℓ)

/-- Every token and group of a device has a logit above the padding. -/
def Above (d : Dev nD) : Prop := ∀ n g, ∃ k, low < logit (m (vLoc d main_arg0)) (m (vLoc d main_arg2)) (m (vLoc d main_arg3)) n g k

/-- The pick of a token, of a device's arguments. -/
abbrev selD (d : Dev nD) (n : Fin 16384) (g : Fin 2) : Fin 320 := sel (m (vLoc d main_arg0)) (m (vLoc d main_arg2)) (m (vLoc d main_arg3)) n g

/-- The 384 lanes of a group have their first largest where its 320 entries have it. -/
theorem lanes_first (d : Dev nD) (h : Above m d) (n : Fin 16384) (g : Fin 2) :
    IsFirst (fun k : Fin 384 => k0_pay3 (xblk (R1 m) d (ptOf n)) (wts (R1 m) d) (bias (R1 m) d) (ix2 (inPt n) (plane g k))) ⟨(selD m d n g).val, by omega⟩ := by
  obtain ⟨k, hk⟩ := h n g
  exact (first_spec (logit (m (vLoc d main_arg0)) (m (vLoc d main_arg2)) (m (vLoc d main_arg3)) n g)).extend (by omega)
    (fun i => pay3_logit m d n g i) (fun i hi => pay3_pad m d (ptOf n) (inPt n) g i hi) (hk.trans_le ((first_spec _).1 k))

/-- A row of 384 lanes' first largest. -/
theorem lane_index (v : FVec Ideal S2048x384 .f32) (r : Fin 2048) (k : Fin 384) (hk : IsFirst (fun i => v (ix2 r i)) k) :
    reduceIndex (F := Ideal) .argMax 1 S2048 v reduces_S2048x384_S2048 (ix1 r) = BitVec.ofNat 32 k.val := by
  refine reduceIndex_first reduces_S2048x384_S2048 v (ix1 r) k ?_
  have e : (fun i : Fin 384 => v (reduces_S2048x384_S2048.lift (ix1 r) i)) = fun i => v (ix2 r i) := funext fun i =>
    congrArg v (by funext a; refine Fin.ext ?_; match a with | ⟨0, _⟩ => rfl | ⟨1, _⟩ => rfl)
  exact (congrArg (fun f => IsFirst f k) e).mpr hk

theorem pay4_apply (d : Dev nD) (h : Above m d) (n : Fin 16384) :
    k0_pay4 (xblk (R1 m) d (ptOf n)) (wts (R1 m) d) (bias (R1 m) d) (ix2 (inPt n) 0) = BitVec.ofNat 32 (selD m d n 0).val := by
  have hf := lanes_first m d h n 0
  unfold k0_pay4
  generalize k0_pay3 (xblk (R1 m) d (ptOf n)) (wts (R1 m) d) (bias (R1 m) d) = v at hf ⊢
  refine (shapeCast_apply _ _ _ (ix1 (inPt n)) (by rw [Shape.rowMajor_val_two, Shape.rowMajor_val_one]; show (inPt n).val = (inPt n).val * 1 + 0; omega)).trans ?_
  refine lane_index _ (inPt n) ⟨(selD m d n 0).val, _⟩ ((congrArg (fun f => IsFirst f _) (funext fun i => ?_)).mpr hf)
  refine extractStridedSlice_apply _ _ _ _ (ix2 (inPt n) (plane 0 i)) ?_
  intro a
  fin_cases a
  · show (inPt n).val = 0 + (inPt n).val; omega
  · show 0 * 384 + i.val = 0 + i.val; omega

theorem pay5_apply (d : Dev nD) (h : Above m d) (n : Fin 16384) :
    k0_pay5 (xblk (R1 m) d (ptOf n)) (wts (R1 m) d) (bias (R1 m) d) (ix2 (inPt n) 0) = BitVec.ofNat 32 (selD m d n 1).val := by
  have hf := lanes_first m d h n 1
  unfold k0_pay5
  generalize k0_pay3 (xblk (R1 m) d (ptOf n)) (wts (R1 m) d) (bias (R1 m) d) = v at hf ⊢
  refine (shapeCast_apply _ _ _ (ix1 (inPt n)) (by rw [Shape.rowMajor_val_two, Shape.rowMajor_val_one]; show (inPt n).val = (inPt n).val * 1 + 0; omega)).trans ?_
  refine lane_index _ (inPt n) ⟨(selD m d n 1).val, _⟩ ((congrArg (fun f => IsFirst f _) (funext fun i => ?_)).mpr hf)
  refine extractStridedSlice_apply _ _ _ _ (ix2 (inPt n) (plane 1 i)) ?_
  intro a
  fin_cases a
  · show (inPt n).val = 0 + (inPt n).val; omega
  · show 1 * 384 + i.val = 384 + i.val; omega

/-- A row number the pipeline writes: the group's first row, and the pick. -/
theorem pickArr_sel (d : Dev nD) (h : Above m d) (n : Fin 16384) (g : Fin 2) :
    pickArr m d (ix2 n g) = BitVec.ofNat 32 (g.val * 320 + (selD m d n g).val) := by
  rw [pickArr_apply]
  unfold picks
  match g with
  | ⟨0, _⟩ =>
    refine (if_pos rfl).trans ((pay4_apply m d h n).trans ?_)
    exact congrArg _ (by show (selD m d n 0).val = 0 * 320 + (selD m d n 0).val; omega)
  | ⟨1, _⟩ =>
    refine (if_neg (by show ¬ (1 : ℕ) = 0; omega)).trans ?_
    show k0_pay5 (xblk (R1 m) d (ptOf n)) (wts (R1 m) d) (bias (R1 m) d) (ix2 (inPt n) 0) + 320#32 = _
    rw [pay5_apply m d h n]
    refine BitVec.eq_of_toNat_eq ?_
    have := (selD m d n 1).isLt
    simp only [BitVec.toNat_add, BitVec.toNat_ofNat]
    show _ = (1 * 320 + (selD m d n 1).val) % 2 ^ 32
    omega

/-- Every row number is one of a row. -/
theorem picksOK (h : ∀ d, Above m d) : PicksOK m := fun d x => by
  obtain ⟨n, g, rfl⟩ : ∃ (n : Fin 16384) (g : Fin 2), x = ix2 n g := ⟨x 0, x 1, eq_ix2 x⟩
  rw [pickArr_sel m d (h d)]
  have := (selD m d n g).isLt
  rw [BitVec.toNat_ofNat]
  exact (Nat.mod_le _ _).trans_lt (by omega)

end Kernel

/-! ## The reference's -/

section Reference
open Cert.ReferenceIdeal Cert.ReferenceIdeal.Gen

/-- The search along the rows of a matrix, at a row. -/
theorem row_index_of {M N : ℕ} (v : (⟨2, ![M, N]⟩ : Shape).Idx → EReal) (c : S_.Idx → EReal) (z : S_.Idx → BitVec 32)
    (h' : (⟨2, ![M, N]⟩ : Shape).ReducesTo [1] ⟨1, ![M]⟩) (hr : (⟨2, ![M, N]⟩ : Shape).Reduces [1] ⟨1, ![M]⟩) (hu : 0 < S_.numel)
    (hN : N < 2 ^ 31) (hx : c (Shape.Idx.first hu) = ⊥) (p : Fin M) (k : Fin N) (hk : IsFirst (fun i => v (ix2 p i)) k) (hb : ⊥ < v (ix2 p k)) :
    (Host.argReduce (F := Ideal) (φ := .f32) (reducer_argmax_f32_i32 (F := Ideal)) v (iotaInDim ⟨2, ![M, N]⟩ 32 1) c z h' hu (ix1 p)).2 = BitVec.ofNat 32 k.val := by
  have el : ∀ i : Fin N, v (hr.lift (ix1 p) i) = v (ix2 p i) := fun i =>
    congrArg v (by funext a; refine Fin.ext ?_; match a with | ⟨0, _⟩ => rfl | ⟨1, _⟩ => rfl)
  have e : (fun i : Fin N => v (hr.lift (ix1 p) i)) = fun i => v (ix2 p i) := funext el
  exact argReduce_first v c z h' hr hu hN hx (ix1 p) k ((congrArg (fun f => IsFirst f k) e).mpr hk) (hb.trans_eq (el k).symm)

theorem reduces_rows : S32768x320.Reduces [1] S32768 := by decide

theorem first_const : (constant (F := Ideal) S_ .f32 0xFF800000#32 : S_.Idx → EReal) (Shape.Idx.first h_S_) = ⊥ := neg_inf

/-- The indices of a row-by-row search's pairs. -/
def ofPair {F : FTy → Type} (g : S32768.Idx → F .f32 × BitVec 32) : IVec S32768 32 := fun j => (g j).2
theorem ofPair_apply {F : FTy → Type} (g : S32768.Idx → F .f32 × BitVec 32) (j : S32768.Idx) : ofPair g j = (g j).2 := rfl

theorem argmaxIdx_eq {F : FTy → Type} [FloatOps F] (x : FVec F S32768x320 .f32) (y : IVec S32768x320 32) (u : FVec F S_ .f32) (v : IVec S_ 32) :
    RefRun.argmaxIdx x y u v = ofPair (Host.argReduce reducer_argmax_f32_i32 x y u v reducesTo_S32768x320_S32768_d1 h_S_) := rfl

/-- The search over 32768 rows of 320, at a row. -/
theorem row_index (v : FVec Ideal S32768x320 .f32) (p : Fin 32768) (k : Fin 320) (hk : IsFirst (fun i => v (ix2 p i)) k) (hb : ⊥ < v (ix2 p k)) :
    RefRun.argmaxIdx v (iotaInDim S32768x320 32 1) (constant S_ .f32 0xFF800000#32) (constantI S_ 32 0#32) (ix1 p) = BitVec.ofNat 32 k.val :=
  (congrFun (argmaxIdx_eq v (iotaInDim S32768x320 32 1) (constant S_ .f32 0xFF800000#32) (constantI S_ 32 0#32)) (ix1 p)).trans
    ((ofPair_apply _ _).trans
      (row_index_of v (constant (F := Ideal) S_ .f32 0xFF800000#32) (constantI S_ 32 0#32) reducesTo_S32768x320_S32768_d1 reduces_rows h_S_ (by norm_num) first_const p k hk hb))

/-- The reference's pick. -/
theorem chosen_apply (a0 : A0) (a2 : A2) (a3 : A3) (n : Fin 16384) (g : Fin 2) (h : ∃ k, low < logit a0 a2 a3 n g k) :
    RefRun.chosen (F := Ideal) (RefRun.logits a0 a2 a3) (ix1 (pairOf n g)) = BitVec.ofNat 32 (sel a0 a2 a3 n g).val := by
  have hl := logits_row a0 a2 a3 n g
  unfold RefRun.chosen
  generalize (shapeCast S32768x320 (RefRun.logits (F := Ideal) a0 a2 a3) shapeCasts_S8x2048x640_S32768x320) = v at hl ⊢
  have hv : (fun i : Fin 320 => v (ix2 (pairOf n g) i)) = logit a0 a2 a3 n g := funext hl
  obtain ⟨k, hk⟩ := h
  refine row_index v (pairOf n g) (sel a0 a2 a3 n g) ?_ ?_
  · exact (congrArg (fun f => IsFirst f (sel a0 a2 a3 n g)) hv).mpr (first_spec _)
  · exact (bot_le.trans_lt hk).trans_le (((first_spec (logit a0 a2 a3 n g)).1 k).trans_eq (hl (sel a0 a2 a3 n g)).symm)

end Reference

end Cert.Proof.Whole

end
-- ==== Proof.Whole.Gathered.lean ====
/-
  The first result over the extended reals: the kernel's gathered rows, and the reference's sums of rows weighted by a row
  of zeros with a one, are both the codevector each group of a token picks.
-/
module

public import proofs.«01_k».proof.Proof.Whole.Picks

@[expose] public section

noncomputable section

namespace Cert.Proof.Whole

open Idealize.ShloMosaic hiding ix0 ix1 ix2 ix3 ix4 eq_ix1 eq_ix2 eq_ix3
open Idealize.SL.Sem
open Idealize.ShloMosaic.ValueIdx
open scoped BigOperators

/-- The token, the group and the lane of an entry of the first result. -/
def tok (b : Fin 8) (s : Fin 2048) : Fin 16384 := ⟨b.val * 2048 + s.val, by omega⟩
def grp (c : Fin 256) : Fin 2 := ⟨c.val / 128, by omega⟩
def lan (c : Fin 256) : Fin 128 := ⟨c.val % 128, by omega⟩

theorem small_word (x : ℕ) (h : x < 640) : (BitVec.ofNat 32 x).toNat % 640 = x := by
  rw [BitVec.toNat_ofNat, Nat.mod_eq_of_lt (show x < 2 ^ 32 by omega), Nat.mod_eq_of_lt h]

/-! ## The kernel's -/

section Kernel
open Cert.KernelIdeal Cert.KernelIdeal.Gen

variable (m : (ℓ : Loc nD τ sig) → Buf (Elt Ideal) ℓ)

theorem nums_sel (d : Dev nD) (h : Above m d) (n : Fin 16384) (g : Fin 2) :
    nums m d (ix2 0 (pairOf n g)) = BitVec.ofNat 32 (g.val * 320 + (selD m d n g).val) := by
  rw [nums_eq]
  refine (shapeCast_apply _ _ _ (ix2 n g) ?_).trans (pickArr_sel m d h n g)
  rw [Shape.rowMajor_val_two, Shape.rowMajor_val_two]
  show n.val * 2 + g.val = 0 * 32768 + (n.val * 2 + g.val)
  omega

theorem rows_apply (d : Dev nD) (r : Fin 640) (l : Fin 128) :
    rows m d (ix2 r l) = (m (vLoc d main_arg1) : S1x640x128.Idx → EReal) (ix3 0 r l) := by
  rw [rows_eq]
  suffices hA : ∀ A : S1x640x128.Idx → EReal, shapeCast S640x128 A shapeCasts_S1x640x128_S640x128 (ix2 r l) = A (ix3 0 r l) from hA _
  intro A
  refine shapeCast_apply _ _ _ (ix3 0 r l) ?_
  rw [Shape.rowMajor_val_three, Shape.rowMajor_val_two]
  show (0 * 640 + r.val) * 128 + l.val = r.val * 128 + l.val
  omega

theorem out_apply (d : Dev nD) (h : Above m d) (b : Fin 8) (s : Fin 2048) (c : Fin 256) :
    out m d (ix3 b s c) = (m (vLoc d main_arg1) : S1x640x128.Idx → EReal) (ix3 0 (col (grp c) (selD m d (tok b s) (grp c))) (lan c)) := by
  unfold out
  refine (shapeCast_apply _ _ _ (ix2 (pairOf (tok b s) (grp c)) (lan c)) ?_).trans ?_
  · rw [Shape.rowMajor_val_two, Shape.rowMajor_val_three]
    show ((b.val * 2048 + s.val) * 2 + c.val / 128) * 128 + c.val % 128 = (b.val * 2048 + s.val) * 256 + c.val
    omega
  show rows m d (ix2 (rowNo (nums m d (ix2 0 (pairOf (tok b s) (grp c))))) (lan c)) = _
  rw [nums_sel m d h, rows_apply]
  refine congrArg _ (congrArg (fun r => ix3 0 r (lan c)) (Fin.ext ?_))
  have h1 := (selD m d (tok b s) (grp c)).isLt
  have h2 := (grp c).isLt
  show (BitVec.ofNat 32 ((grp c).val * 320 + (selD m d (tok b s) (grp c)).val)).toNat % 640 = (grp c).val * 320 + (selD m d (tok b s) (grp c)).val
  exact small_word _ (by omega)

end Kernel

/-! ## The reference's -/

section Reference
open Cert.ReferenceIdeal Cert.ReferenceIdeal.Gen

/-- The test of two words as a number. -/
theorem eq_number (a b : BitVec 32) : (FloatOps.uitofp (F := Ideal) .f32 (IntOp.cmpi .eq a b) : EReal) = if a = b then 1 else 0 := by
  by_cases h : a = b
  · subst h
    rw [if_pos rfl]
    show (((((IntOp.cmpi .eq a a).toNat : ℝ)) : EReal)) = 1
    simp [IntOp.cmpi]
  · rw [if_neg h]
    show (((((IntOp.cmpi .eq a b).toNat : ℝ)) : EReal)) = 0
    simp [IntOp.cmpi, h]

/-- A row of zeros with a one, at an index. -/
theorem hot_apply (p : IVec S32768 32) (n : Fin 16384) (g : Fin 2) (k : Fin 320) :
    RefRun.hot (F := Ideal) p (ix3 n g k) = if p (ix1 (pairOf n g)) = BitVec.ofNat 32 k.val then 1 else 0 := by
  unfold RefRun.hot
  refine (shapeCast_apply _ _ _ (ix2 (pairOf n g) k) ?_).trans ?_
  · rw [Shape.rowMajor_val_two, Shape.rowMajor_val_three]; rfl
  show (FloatOps.uitofp (F := Ideal) .f32 (IntOp.cmpi .eq
      (broadcastInDim S32768x320 ![0, 1] bcast_S32768x1_S32768x320_0_1 (broadcastInDim S32768x1 ![0] bcast_S32768_S32768x1_0 p) (ix2 (pairOf n g) k))
      (broadcastInDim S32768x320 ![0, 1] bcast_S1x320_S32768x320_0_1 (iotaInDim S1x320 32 1) (ix2 (pairOf n g) k))) : EReal)
    * broadcastInDim S32768x320 ![] bcast_S_S32768x320 (constant (F := Ideal) S_ .f32 0x3F800000#32) (ix2 (pairOf n g) k) = _
  rw [broadcastInDim_apply _ _ (broadcastInDim S32768x1 ![0] bcast_S32768_S32768x1_0 p) _ (ix2 (pairOf n g) 0) (by intro a; fin_cases a <;> rfl),
    broadcastInDim_apply _ _ p _ (ix1 (pairOf n g)) (by intro a; fin_cases a; rfl),
    broadcastInDim_apply _ _ (iotaInDim S1x320 32 1) _ (ix2 0 k) (by intro a; fin_cases a <;> rfl),
    broadcastInDim_scalar_apply, eq_number]
  rw [show (constant (F := Ideal) S_ .f32 0x3F800000#32 : S_.Idx → EReal) _ = 1 from Ideal.ofBits_one_f32, mul_one]
  rfl

/-- The reference's rows of zeros with a one stand at the picks. -/
theorem hot_sel (a0 : A0) (a2 : A2) (a3 : A3) (h : ∀ n g, ∃ k, low < logit a0 a2 a3 n g k) (n : Fin 16384) (g : Fin 2) (k : Fin 320) :
    RefRun.hot (F := Ideal) (RefRun.chosen (F := Ideal) (RefRun.logits (F := Ideal) a0 a2 a3)) (ix3 n g k) = if sel a0 a2 a3 n g = k then 1 else 0 := by
  rw [hot_apply, chosen_apply a0 a2 a3 n g (h n g)]
  refine if_congr ⟨fun e => ?_, fun e => by rw [e]⟩ rfl rfl
  have e := congrArg BitVec.toNat e
  simp only [BitVec.toNat_ofNat] at e
  have h1 := (sel a0 a2 a3 n g).isLt
  exact Fin.ext (by omega)

theorem reduces_mixed : S16384x2x320x128.Reduces [2] S16384x2x128 := by decide

/-- The weighted sum of a group's rows, at a lane. -/
theorem mixed_apply (v : FVec Ideal S16384x2x320 .f32) (a1 : A1) (b : Fin 8) (s : Fin 2048) (c : Fin 256) :
    RefRun.mixed (F := Ideal) v a1 (ix3 b s c) = ∑ k : Fin 320, v (ix3 (tok b s) (grp c) k) * a1 (ix3 0 (col (grp c) k) (lan c)) := by
  unfold RefRun.mixed
  refine (shapeCast_apply _ _ _ (ix3 (tok b s) (grp c) (lan c)) ?_).trans ?_
  · rw [Shape.rowMajor_val_three, Shape.rowMajor_val_three]
    show ((b.val * 2048 + s.val) * 2 + c.val / 128) * 128 + c.val % 128 = (b.val * 2048 + s.val) * 256 + c.val
    omega
  refine (Ideal.hostReduceAdd_single reducesTo_S16384x2x320x128_S16384x2x128_d2 reduces_mixed _ _ _).trans ?_
  rw [show (constant (F := Ideal) S_ .f32 0x00000000#32 : S_.Idx → EReal) _ = 0 from Ideal.ofBits_zero_f32, zero_add]
  refine Finset.sum_congr rfl fun (k : Fin 320) _ => ?_
  refine (shapeCast_apply _ _ _ (ix3 (tok b s) (col (grp c) k) (lan c)) ?_).trans ?_
  · rw [Shape.rowMajor_val_three, Shape.rowMajor_val_four]
    show ((tok b s).val * 640 + ((grp c).val * 320 + k.val)) * 128 + (lan c).val = (((tok b s).val * 2 + (grp c).val) * 320 + k.val) * 128 + (lan c).val
    omega
  show broadcastInDim S16384x640x128 ![0, 1, 2] bcast_S16384x640x1_S16384x640x128_0_1_2
        (broadcastInDim S16384x640x1 ![0, 1] bcast_S16384x640_S16384x640x1_0_1 (shapeCast S16384x640 v shapeCasts_S16384x2x320_S16384x640)) (ix3 (tok b s) (col (grp c) k) (lan c))
      * broadcastInDim S16384x640x128 ![0, 1, 2] bcast_S1x640x128_S16384x640x128_0_1_2 a1 (ix3 (tok b s) (col (grp c) k) (lan c)) = _
  rw [broadcastInDim_apply _ _ a1 _ (ix3 0 (col (grp c) k) (lan c)) (by intro a; fin_cases a <;> rfl),
    broadcastInDim_apply _ _ (broadcastInDim S16384x640x1 ![0, 1] bcast_S16384x640_S16384x640x1_0_1 (shapeCast S16384x640 v shapeCasts_S16384x2x320_S16384x640)) _
      (ix3 (tok b s) (col (grp c) k) 0) (by intro a; fin_cases a <;> rfl),
    broadcastInDim_apply _ _ (shapeCast S16384x640 v shapeCasts_S16384x2x320_S16384x640) _ (ix2 (tok b s) (col (grp c) k)) (by intro a; fin_cases a <;> rfl)]
  refine congrArg (· * _) (shapeCast_apply _ _ _ (ix3 (tok b s) (grp c) k) ?_)
  rw [Shape.rowMajor_val_three, Shape.rowMajor_val_two]
  show ((tok b s).val * 2 + (grp c).val) * 320 + k.val = (tok b s).val * 640 + ((grp c).val * 320 + k.val)
  omega

/-- With the picks' zeros and one it is the picked row. -/
theorem mixed_sel (a0 : A0) (a1 : A1) (a2 : A2) (a3 : A3) (h : ∀ n g, ∃ k, low < logit a0 a2 a3 n g k) (b : Fin 8) (s : Fin 2048) (c : Fin 256) :
    RefRun.mixed (F := Ideal) (RefRun.hot (RefRun.chosen (F := Ideal) (RefRun.logits (F := Ideal) a0 a2 a3))) a1 (ix3 b s c)
      = a1 (ix3 0 (col (grp c) (sel a0 a2 a3 (tok b s) (grp c))) (lan c)) := by
  rw [mixed_apply]
  simp only [hot_sel a0 a2 a3 h, ite_mul, one_mul, zero_mul]
  rw [Finset.sum_ite_eq, if_pos (Finset.mem_univ _)]

end Reference

/-- The first results agree. -/
theorem out_eq (m : (ℓ : Loc Cert.KernelIdeal.nD Cert.KernelIdeal.τ Cert.KernelIdeal.sig) → Buf (Elt Ideal) ℓ) (d : Dev Cert.KernelIdeal.nD) (h : Above m d) :
    out m d = RefRun.mixed (F := Ideal) (RefRun.hot (RefRun.chosen (F := Ideal) (RefRun.logits (F := Ideal) (m (vLoc d Cert.KernelIdeal.main_arg0) : A0) (m (vLoc d Cert.KernelIdeal.main_arg2) : A2)
      (m (vLoc d Cert.KernelIdeal.main_arg3) : A3)))) (m (vLoc d Cert.KernelIdeal.main_arg1) : A1) := by
  funext x
  obtain ⟨b, s, c, rfl⟩ : ∃ (b : Fin 8) (s : Fin 2048) (c : Fin 256), x = ix3 b s c := ⟨x 0, x 1, x 2, eq_ix3 x⟩
  exact (out_apply m d h b s c).trans (mixed_sel _ _ _ _ h b s c).symm

end Cert.Proof.Whole

end
-- ==== Proof.Whole.Counted.lean ====
/-
  The counts over the extended reals: after the last point, a lane of the counts holds how many tokens pick its entry, and
  a padded lane holds zero.
-/
module

public import proofs.«01_k».proof.Proof.Whole.Picks

@[expose] public section

noncomputable section

namespace Cert.Proof.Whole

open Cert.KernelIdeal Cert.KernelIdeal.Gen
open Idealize.ShloMosaic hiding ix0 ix1 ix2 ix3 ix4 eq_ix1 eq_ix2 eq_ix3
open Idealize.SL.Sem
open Idealize.ShloMosaic.ValueIdx
open scoped BigOperators

/-- One where two words agree, zero elsewhere. -/
theorem select_number (a b : BitVec 32) : (Scalar.select (IntOp.cmpi .eq a b) (1 : EReal) 0) = if a = b then 1 else 0 := by
  by_cases h : a = b
  · subst h; rw [if_pos rfl]; simp [IntOp.cmpi, Scalar.select]
  · rw [if_neg h]
    have e : IntOp.cmpi .eq a b = 0#1 := by show BitVec.ofBool (a == b) = 0#1; rw [beq_false_of_ne h]; rfl
    rw [e]; rfl

/-- How many rows of a block hold a lane's number, as the body sums it. -/
def rowCount (p : IVec S2048x1 32) : FVec Ideal S1x384 .f32 :=
  shapeCast S1x384 (multiReduction .add [0] S384 (select (cmpi .eq (iota .tc S2048x384 32 [1] iota_S2048x384_d1_w32) (broadcastTo S2048x384 p broadcasts_S2048x1_S2048x384))
    (broadcast S2048x384 (Scalar.ofBits (F := Ideal) .f32 0x3F800000#32)) (broadcast S2048x384 (Scalar.ofBits (F := Ideal) .f32 0x00000000#32)))
    0x00000000#32 reduces_S2048x384_S384 (.inl rfl) rfl) shapeCasts_S384_S1x384

theorem rowCount_apply (p : IVec S2048x1 32) (k : Fin 384) :
    rowCount p (ix2 0 k) = ∑ r : Fin 2048, if BitVec.ofNat 32 k.val = p (ix2 r 0) then (1 : EReal) else 0 := by
  unfold rowCount
  refine (shapeCast_apply _ _ _ (ix1 k) ?_).trans ?_
  · rw [Shape.rowMajor_val_two, Shape.rowMajor_val_one]; show k.val = 0 * 384 + k.val; omega
  refine (Ideal.multiReduction_add_single _ _ reduces_S2048x384_S384 _ _ (ix1 k)).trans ?_
  refine Finset.sum_congr rfl fun (r : Fin 2048) _ => ?_
  have e : reduces_S2048x384_S384.lift (ix1 k) r = (ix2 r k : S2048x384.Idx) := by
    funext a; refine Fin.ext ?_; match a with | ⟨0, _⟩ => rfl | ⟨1, _⟩ => rfl
  rw [e]
  show Scalar.select (IntOp.cmpi .eq (iota .tc S2048x384 32 [1] iota_S2048x384_d1_w32 (ix2 r k)) (broadcastTo S2048x384 p broadcasts_S2048x1_S2048x384 (ix2 r k)))
    (Ideal.ofBits .f32 0x3F800000#32) (Ideal.ofBits .f32 0x00000000#32) = _
  rw [Ideal.ofBits_zero_f32, Ideal.ofBits_one_f32, iota_single_apply,
    broadcastTo_apply p _ (ix2 r k) (ix2 r 0) (by intro a; fin_cases a <;> rfl)]
  exact select_number _ _

theorem side_first (x y : FVec Ideal S1x384 .f32) (k : Fin 384) :
    concatenate S1x768 1 [⟨S1x384, x⟩, ⟨S1x384, y⟩] concatenates_S1x384_S1x384_S1x768_d1 (ix2 0 (plane 0 k)) = x (ix2 0 k) :=
  concatenate_pair_apply_left (t := S1x768) 1 x y concatenates_S1x384_S1x384_S1x768_d1 (ix2 0 (plane 0 k)) rfl (ix2 0 k) (by
    intro a
    match a with
    | ⟨0, _⟩ => rfl
    | ⟨1, _⟩ => show k.val = 0 * 384 + k.val; omega)
theorem side_second (x y : FVec Ideal S1x384 .f32) (k : Fin 384) :
    concatenate S1x768 1 [⟨S1x384, x⟩, ⟨S1x384, y⟩] concatenates_S1x384_S1x384_S1x768_d1 (ix2 0 (plane 1 k)) = y (ix2 0 k) :=
  concatenate_pair_apply_right (t := S1x768) 1 x y concatenates_S1x384_S1x384_S1x768_d1 (ix2 0 (plane 1 k)) rfl rfl (ix2 0 k) (by
    intro a ha
    match a with
    | ⟨0, _⟩ => rfl
    | ⟨1, _⟩ => exact absurd rfl ha) (by show k.val + 384 = 1 * 384 + k.val; omega)

/-- What a block adds to the counts: a lane of the first group, and one of the second. -/
theorem pay7_eq (x : XT Ideal) (w : WT Ideal) (b : BT Ideal) : k0_pay7 x w b
    = concatenate S1x768 1 [⟨S1x384, rowCount (k0_pay4 (F := Ideal) x w b)⟩, ⟨S1x384, rowCount (k0_pay5 (F := Ideal) x w b)⟩] concatenates_S1x384_S1x384_S1x768_d1 := rfl
theorem pay7_first (x : XT Ideal) (w : WT Ideal) (b : BT Ideal) (k : Fin 384) : k0_pay7 x w b (ix2 0 (plane 0 k)) = rowCount (k0_pay4 (F := Ideal) x w b) (ix2 0 k) := by
  rw [pay7_eq]; exact side_first _ _ k
theorem pay7_second (x : XT Ideal) (w : WT Ideal) (b : BT Ideal) (k : Fin 384) : k0_pay7 x w b (ix2 0 (plane 1 k)) = rowCount (k0_pay5 (F := Ideal) x w b) (ix2 0 k) := by
  rw [pay7_eq]; exact side_second _ _ k

variable (m : (ℓ : Loc nD τ sig) → Buf (Elt Ideal) ℓ)

/-- The token in a place of a block. -/
def tokOf (t : Fin 8) (r : Fin 2048) : Fin 16384 := ⟨t.val * 2048 + r.val, by omega⟩

/-- A block's share of an entry's count. -/
def blockCount (d : Dev nD) (g : Fin 2) (k : Fin 384) (t : Fin 8) : EReal :=
  ∑ r : Fin 2048, if k.val = (selD m d (tokOf t r) g).val then (1 : EReal) else 0

theorem word_eq (a b : ℕ) (ha : a < 384) (hb : b < 384) : BitVec.ofNat 32 a = BitVec.ofNat 32 b ↔ a = b := by
  refine ⟨fun e => ?_, fun e => by rw [e]⟩
  have e := congrArg BitVec.toNat e
  rwa [BitVec.toNat_ofNat, BitVec.toNat_ofNat, Nat.mod_eq_of_lt (show a < 2 ^ 32 by omega), Nat.mod_eq_of_lt (show b < 2 ^ 32 by omega)] at e

theorem pt_tok (t : Fin cfg0.N) (ht : t.val < 8) (r : Fin 2048) : ptOf (tokOf ⟨t.val, ht⟩ r) = t ∧ inPt (tokOf ⟨t.val, ht⟩ r) = r :=
  ⟨Fin.ext (by show (t.val * 2048 + r.val) / 2048 = t.val; omega), Fin.ext (by show (t.val * 2048 + r.val) % 2048 = r.val; omega)⟩

theorem pay4_blk (d : Dev nD) (h : Above m d) (t : Fin cfg0.N) (ht : t.val < 8) (r : Fin 2048) :
    k0_pay4 (xblk (R1 m) d t) (wts (R1 m) d) (bias (R1 m) d) (ix2 r 0) = BitVec.ofNat 32 (selD m d (tokOf ⟨t.val, ht⟩ r) 0).val := by
  have e := pay4_apply m d h (tokOf ⟨t.val, ht⟩ r)
  rw [(pt_tok t ht r).1, (pt_tok t ht r).2] at e
  exact e
theorem pay5_blk (d : Dev nD) (h : Above m d) (t : Fin cfg0.N) (ht : t.val < 8) (r : Fin 2048) :
    k0_pay5 (xblk (R1 m) d t) (wts (R1 m) d) (bias (R1 m) d) (ix2 r 0) = BitVec.ofNat 32 (selD m d (tokOf ⟨t.val, ht⟩ r) 1).val := by
  have e := pay5_apply m d h (tokOf ⟨t.val, ht⟩ r)
  rw [(pt_tok t ht r).1, (pt_tok t ht r).2] at e
  exact e

theorem rowCount_sel (d : Dev nD) (t : Fin 8) (g : Fin 2) (k : Fin 384) (p : IVec S2048x1 32)
    (hp : ∀ r : Fin 2048, p (ix2 r 0) = BitVec.ofNat 32 (selD m d (tokOf t r) g).val) : rowCount p (ix2 0 k) = blockCount m d g k t := by
  rw [rowCount_apply]
  unfold blockCount
  refine Finset.sum_congr rfl fun r _ => ?_
  rw [hp r]
  have := (selD m d (tokOf t r) g).isLt
  exact if_congr (word_eq _ _ k.isLt (by omega)) rfl rfl

theorem pay7_count (d : Dev nD) (h : Above m d) (t : Fin cfg0.N) (ht : t.val < 8) (g : Fin 2) (k : Fin 384) :
    k0_pay7 (xblk (R1 m) d t) (wts (R1 m) d) (bias (R1 m) d) (ix2 0 (plane g k)) = blockCount m d g k ⟨t.val, ht⟩ := by
  rcases (by omega : g = 0 ∨ g = 1) with rfl | rfl
  · exact (pay7_first _ _ _ k).trans (rowCount_sel m d ⟨t.val, ht⟩ 0 k _ fun r => pay4_blk m d h t ht r)
  · exact (pay7_second _ _ _ k).trans (rowCount_sel m d ⟨t.val, ht⟩ 1 k _ fun r => pay5_blk m d h t ht r)

/-- The counts after the first point, and after a later one. -/
theorem counts_zero (i : grid0.Coords) (hi : (i 0).val = 0) (x : XT Ideal) (w : WT Ideal) (b : BT Ideal) (c : BT Ideal) : counts i x w b c = k0_pay7 x w b := by
  unfold counts k0_pay1
  rw [hi]
  refine (shapeCast_self _ _).trans ?_
  rfl
theorem counts_succ (i : grid0.Coords) (hi : (i 0).val ≠ 0) (x : XT Ideal) (w : WT Ideal) (b : BT Ideal) (c : BT Ideal) (l : S1x768.Idx) :
    counts i x w b c l = c l + k0_pay7 x w b l := by
  have hlt : (i 0).val < 8 := (i 0).isLt
  have e : Scalar.cmpi .eq (BitVec.ofNat 32 (i 0).val) 0#32 = 0#1 := by
    generalize (i 0).val = n at hi hlt
    interval_cases n
    · exact absurd rfl hi
    all_goals rfl
  unfold counts k0_pay1
  rw [e]
  refine (congrFun (shapeCast_self _ _) l).trans ?_
  rfl

theorem coords_val (t : Fin cfg0.N) : ((grid0.coords t) 0).val = t.val := by revert t; decide

/-- The counts after a point. -/
theorem cnt_sum (d : Dev nD) (h : Above m d) (g : Fin 2) (k : Fin 384) (n : ℕ) (hn : n < 8) :
    cnt (R1 m) d (n + 1) (ix2 0 (plane g k)) = ∑ t : Fin (n + 1), blockCount m d g k ⟨t.val, by omega⟩ := by
  induction n with
  | zero =>
    have h0 : 0 < cfg0.N := by rw [N8]; omega
    rw [cnt, dif_pos h0, counts_zero _ (coords_val ⟨0, h0⟩), pay7_count m d h ⟨0, h0⟩ (by show 0 < 8; omega) g k]
    exact (Fin.sum_univ_one (fun t : Fin 1 => blockCount m d g k ⟨t.val, by omega⟩)).symm
  | succ n ih =>
    have h0 : n + 1 < cfg0.N := by rw [N8]; omega
    rw [cnt, dif_pos h0, counts_succ _ (by rw [coords_val ⟨n + 1, h0⟩]; exact Nat.succ_ne_zero n), pay7_count m d h ⟨n + 1, h0⟩ hn g k, ih (by omega)]
    exact (Fin.sum_univ_castSucc (fun t : Fin (n + 1 + 1) => blockCount m d g k ⟨t.val, by omega⟩)).symm

/-- The counts after the last: over all tokens. -/
theorem cnt_total (d : Dev nD) (h : Above m d) (g : Fin 2) (k : Fin 384) :
    cnt (R1 m) d 8 (ix2 0 (plane g k)) = ∑ n : Fin 16384, if k.val = (selD m d n g).val then (1 : EReal) else 0 := by
  rw [cnt_sum m d h g k 7 (by omega)]
  show (∑ t : Fin 8, ∑ r : Fin 2048, if k.val = (selD m d (tokOf t r) g).val then (1 : EReal) else 0) = _
  rw [← Fintype.sum_prod_type' (f := fun (t : Fin 8) (r : Fin 2048) => if k.val = (selD m d (tokOf t r) g).val then (1 : EReal) else 0)]
  refine (Equiv.sum_comp (finProdFinEquiv (m := 8) (n := 2048)) (fun n : Fin 16384 => if k.val = (selD m d n g).val then (1 : EReal) else 0)).symm.trans ?_ |>.symm
  refine Finset.sum_congr rfl fun p _ => ?_
  rw [show (finProdFinEquiv p : Fin 16384) = tokOf p.1 p.2 from Fin.ext (by show p.2.val + 2048 * p.1.val = p.1.val * 2048 + p.2.val; omega)]

/-- A padded lane counts nothing. -/
theorem cnt_pad (d : Dev nD) (h : Above m d) (g : Fin 2) (k : Fin 384) (hk : 320 ≤ k.val) : cnt (R1 m) d 8 (ix2 0 (plane g k)) = 0 := by
  rw [cnt_total m d h]
  refine Finset.sum_eq_zero fun n _ => if_neg ?_
  have := (selD m d n g).isLt
  omega

end Cert.Proof.Whole

end
-- ==== Proof.Whole.Perplexity.lean ====
/-
  The second result over the extended reals: the kernel's perplexity, from its counts, is the reference's, from its rows of
  zeros with a one.
-/
module

public import proofs.«01_k».proof.Proof.Whole.Counted
public import proofs.«01_k».proof.Proof.Whole.Gathered

@[expose] public section

noncomputable section

namespace Cert.Proof.Whole

open Idealize.ShloMosaic hiding ix0 ix1 ix2 ix3 ix4 eq_ix1 eq_ix2 eq_ix3
open Idealize.SL.Sem
open Idealize.ShloMosaic.ValueIdx
open scoped BigOperators

/-- The kernel's reciprocal of the number of tokens, and the reference's number of them. -/
theorem recip_bits : Ideal.ofBits .f32 0x38800000#32 = ((1 / 16384 : ℝ) : EReal) := by
  simp [Ideal.ofBits, Ideal.ieee, -EReal.coe_mul]; norm_num
theorem total_bits : Ideal.ofBits .f32 0x46800000#32 = ((16384 : ℝ) : EReal) := by
  simp [Ideal.ofBits, Ideal.ieee, -EReal.coe_mul]; norm_num

/-- A share times the logarithm of it and a little. -/
def term (p : EReal) : EReal := p * Ideal.log (p + Ideal.ofBits .f32 0x33D6BF95#32)

theorem term_zero : term 0 = 0 := zero_mul _

/-- The share of the tokens that pick an entry. -/
def part (s : Fin 16384 → Fin 2 → Fin 320) (g : Fin 2) (k : Fin 320) : EReal :=
  (∑ n : Fin 16384, if k.val = (s n g).val then (1 : EReal) else 0) * ((1 / 16384 : ℝ) : EReal)

/-- The exponential of a group's entropy. -/
def spread (s : Fin 16384 → Fin 2 → Fin 320) (g : Fin 2) : EReal := Ideal.exp (-(∑ k : Fin 320, term (part s g k)))

/-! ## The kernel's -/

section Kernel
open Cert.KernelIdeal Cert.KernelIdeal.Gen

/-- A group's 384 lanes summed, as the body sums them. -/
def laneSum (v : FVec Ideal S1x384 .f32) : EReal :=
  extractAt ![0, 0, 0] (shapeCast S1x1x1 (multiReduction (F := Ideal) (φ := .f32) .add [1, 2] S1 (shapeCast S1x1x384 v shapeCasts_S1x384_S1x1x384) 0x00000000#32
    reduces_S1x1x384_S1 (.inl rfl) rfl) shapeCasts_S1_S1x1x1) inpos_S1x1x1_p0_0_0

/-- The lanes' indices. -/
def laneIx : Fin 384 ≃ S1x1x384.Idx where
  toFun k := ix3 0 0 k
  invFun i := i 2
  left_inv k := rfl
  right_inv i := by
    funext a
    match a with
    | ⟨0, _⟩ => exact Fin.ext (by have h := (i 0).isLt; show 0 = (i 0).val; have : (i 0).val < 1 := h; omega)
    | ⟨1, _⟩ => exact Fin.ext (by have h := (i 1).isLt; show 0 = (i 1).val; have : (i 1).val < 1 := h; omega)
    | ⟨2, _⟩ => rfl

theorem laneSum_eq (v : FVec Ideal S1x384 .f32) : laneSum v = ∑ k : Fin 384, v (ix2 0 k) := by
  unfold laneSum extractAt
  refine (shapeCast_apply _ _ _ (ix1 0) ?_).trans ?_
  · rw [Shape.rowMajor_val_one, Shape.rowMajor_val_three]; rfl
  refine (Ideal.multiReduction_add_total _ _ reduces_S1x1x384_S1 (by intro b; fin_cases b; rfl) _ _ (ix1 0)).trans ?_
  rw [← Equiv.sum_comp laneIx]
  refine Finset.sum_congr rfl fun k _ => ?_
  refine shapeCast_apply _ _ _ (ix2 0 k) ?_
  rw [Shape.rowMajor_val_two, Shape.rowMajor_val_three]
  show 0 * 384 + k.val = (0 * 1 + 0) * 384 + k.val
  omega

/-- The terms of a row of counts. -/
def terms (v : FVec Ideal S1x768 .f32) : FVec Ideal S1x768 .f32 := fun l => term (v l * Ideal.ofBits .f32 0x38800000#32)

theorem pay2_eq (v : FVec Ideal S1x768 .f32) (j : S1x1.Idx) : k0_pay2 (F := Ideal) v j
    = Ideal.exp (Ideal.ofBits .f32 0x00000000#32 - laneSum (extractStridedSlice S1x384 ![0, 0] (terms v) slices_S1x768_o0_0_S1x384))
      + Ideal.exp (Ideal.ofBits .f32 0x00000000#32 - laneSum (extractStridedSlice S1x384 ![0, 384] (terms v) slices_S1x768_o0_384_S1x384)) := rfl

theorem slice_first (v : FVec Ideal S1x768 .f32) (k : Fin 384) : extractStridedSlice S1x384 ![0, 0] v slices_S1x768_o0_0_S1x384 (ix2 0 k) = v (ix2 0 (plane 0 k)) :=
  extractStridedSlice_apply _ _ _ _ (ix2 0 (plane 0 k)) (by
    intro a
    match a with
    | ⟨0, _⟩ => rfl
    | ⟨1, _⟩ => show 0 * 384 + k.val = 0 + k.val; omega)
theorem slice_second (v : FVec Ideal S1x768 .f32) (k : Fin 384) : extractStridedSlice S1x384 ![0, 384] v slices_S1x768_o0_384_S1x384 (ix2 0 k) = v (ix2 0 (plane 1 k)) :=
  extractStridedSlice_apply _ _ _ _ (ix2 0 (plane 1 k)) (by
    intro a
    match a with
    | ⟨0, _⟩ => rfl
    | ⟨1, _⟩ => show 1 * 384 + k.val = 384 + k.val; omega)

variable (m : (ℓ : Loc nD τ sig) → Buf (Elt Ideal) ℓ)

/-- The padded lanes add nothing to a group's sum. -/
theorem terms_sum (d : Dev nD) (h : Above m d) (g : Fin 2) :
    ∑ k : Fin 384, terms (cnt (R1 m) d 8) (ix2 0 (plane g k)) = ∑ k : Fin 320, term (part (selD m d) g k) := by
  refine (Fin.sum_univ_add (a := 320) (b := 64) (fun k => terms (cnt (R1 m) d 8) (ix2 0 (plane g k)))).trans ?_
  have hp : ∑ i : Fin 64, terms (cnt (R1 m) d 8) (ix2 0 (plane g (Fin.natAdd 320 i))) = 0 := Finset.sum_eq_zero fun i _ => by
    unfold terms
    rw [cnt_pad m d h g _ (by show 320 ≤ 320 + i.val; omega), zero_mul, term_zero]
  rw [hp, add_zero]
  refine Finset.sum_congr rfl fun k _ => ?_
  unfold terms part
  rw [cnt_total m d h, recip_bits]
  rfl

theorem outP_eq_spread (d : Dev nD) (h : Above m d) (j : S_.Idx) : outP m d j = spread (selD m d) 0 + spread (selD m d) 1 := by
  unfold outP
  rw [plexArr_eq]
  refine (shapeCast_apply _ _ _ (ix2 0 0) ?_).trans ?_
  · rw [Shape.rowMajor_val_two]
    have := (S_.rowMajor j).isLt
    have e : S_.numel = 1 := by decide
    show 0 * 1 + 0 = _
    omega
  rw [pay2_eq, laneSum_eq, laneSum_eq]
  simp only [slice_first, slice_second]
  rw [terms_sum m d h 0, terms_sum m d h 1, Ideal.ofBits_zero_f32, zero_sub, zero_sub]
  rfl

end Kernel

/-! ## The reference's -/

section Reference
open Cert.ReferenceIdeal Cert.ReferenceIdeal.Gen

theorem reduces_tokens : S16384x2x320.Reduces [0] S2x320 := by decide
theorem reduces_entries : S2x320.Reduces [1] S2 := by decide

/-- The groups' indices. -/
def groupIx : Fin 2 ≃ S2.Idx where
  toFun g := ix1 g
  invFun i := i 0
  left_inv g := rfl
  right_inv i := by
    funext a
    match a with
    | ⟨0, _⟩ => rfl

theorem const_apply (b : BitVec 32) (j : S_.Idx) : (constant (F := Ideal) S_ .f32 b : S_.Idx → EReal) j = Ideal.ofBits .f32 b := rfl

theorem scaled {a b r : EReal} (h : a = b) : a * r = b * r := by rw [h]

/-- The share of the tokens, from the rows of zeros with a one. -/
theorem share_apply (v : FVec Ideal S16384x2x320 .f32) (g : Fin 2) (k : Fin 320) :
    RefRun.share (F := Ideal) v (ix2 g k) = (∑ n : Fin 16384, v (ix3 n g k)) * ((1 / 16384 : ℝ) : EReal) := by
  unfold RefRun.share
  show Ideal.div (Host.reduceAdd (F := Ideal) (φ := .f32) v (constant S_ .f32 0x00000000#32) reducesTo_S16384x2x320_S2x320_d0 h_S_ (ix2 g k))
    (broadcastInDim S2x320 ![] bcast_S_S2x320 (constant (F := Ideal) S_ .f32 0x46800000#32) (ix2 g k)) = _
  rw [broadcastInDim_scalar_apply]
  rw [const_apply, total_bits, Ideal.div_coe (by norm_num)]
  refine scaled ?_
  refine (Ideal.hostReduceAdd_single reducesTo_S16384x2x320_S2x320_d0 reduces_tokens v _ _).trans ?_
  rw [const_apply, Ideal.ofBits_zero_f32, zero_add]
  refine Finset.sum_congr rfl fun (n : Fin 16384) _ => congrArg v ?_
  funext a
  refine Fin.ext ?_
  match a with
  | ⟨0, _⟩ => rfl
  | ⟨1, _⟩ => rfl
  | ⟨2, _⟩ => rfl

/-- A group's term of the perplexity. -/
theorem entropy_apply (p : FVec Ideal S2x320 .f32) (g : Fin 2) :
    Host.reduceAdd (F := Ideal) (φ := .f32) (mulf p (Host.log (addf p (broadcastInDim S2x320 ![] bcast_S_S2x320 (constant S_ .f32 0x33D6BF95#32)))))
      (constant S_ .f32 0x00000000#32) reducesTo_S2x320_S2_d1 h_S_ (ix1 g) = ∑ k : Fin 320, term (p (ix2 g k)) := by
  refine (Ideal.hostReduceAdd_single reducesTo_S2x320_S2_d1 reduces_entries _ _ _).trans ?_
  rw [const_apply, Ideal.ofBits_zero_f32, zero_add]
  refine Finset.sum_congr rfl fun (k : Fin 320) _ => ?_
  have e : reduces_entries.lift (ix1 g) k = (ix2 g k : S2x320.Idx) := by
    funext a; refine Fin.ext ?_; match a with | ⟨0, _⟩ => rfl | ⟨1, _⟩ => rfl
  rw [e]
  show p (ix2 g k) * Ideal.log (p (ix2 g k) + broadcastInDim S2x320 ![] bcast_S_S2x320 (constant (F := Ideal) S_ .f32 0x33D6BF95#32) (ix2 g k)) = _
  rw [broadcastInDim_scalar_apply]
  rfl

theorem perplexity_apply (p : FVec Ideal S2x320 .f32) (j : S_.Idx) :
    RefRun.perplexity (F := Ideal) p j = Ideal.exp (-(∑ k : Fin 320, term (p (ix2 0 k)))) + Ideal.exp (-(∑ k : Fin 320, term (p (ix2 1 k)))) := by
  unfold RefRun.perplexity
  have he := entropy_apply p
  generalize (Host.reduceAdd (F := Ideal) (φ := .f32) (mulf p (Host.log (addf p (broadcastInDim S2x320 ![] bcast_S_S2x320 (constant S_ .f32 0x33D6BF95#32)))))
      (constant S_ .f32 0x00000000#32) reducesTo_S2x320_S2_d1 h_S_) = w at he ⊢
  refine (Ideal.hostReduceAdd_total reducesTo_S2_S_d0 (fun b => b.elim0) _ _ _).trans ?_
  rw [const_apply, Ideal.ofBits_zero_f32, zero_add, ← Equiv.sum_comp groupIx, Fin.sum_univ_two, ← he 0, ← he 1]
  rfl

theorem plex_sel (a0 : A0) (a2 : A2) (a3 : A3) (h : ∀ n g, ∃ k, low < logit a0 a2 a3 n g k) (j : S_.Idx) :
    RefRun.perplexity (F := Ideal) (RefRun.share (RefRun.hot (RefRun.chosen (F := Ideal) (RefRun.logits (F := Ideal) a0 a2 a3)))) j
      = spread (sel a0 a2 a3) 0 + spread (sel a0 a2 a3) 1 := by
  have hs : ∀ g k, RefRun.share (F := Ideal) (RefRun.hot (RefRun.chosen (F := Ideal) (RefRun.logits (F := Ideal) a0 a2 a3))) (ix2 g k) = part (sel a0 a2 a3) g k := fun g k => by
    rw [share_apply]
    unfold part
    refine scaled (Finset.sum_congr rfl fun n _ => ?_)
    rw [hot_sel a0 a2 a3 h]
    exact if_congr ⟨fun e => by rw [e], fun e => Fin.ext e.symm⟩ rfl rfl
  rw [perplexity_apply]
  simp only [hs]
  rfl

end Reference

/-- The second results agree. -/
theorem outP_eq (m : (ℓ : Loc Cert.KernelIdeal.nD Cert.KernelIdeal.τ Cert.KernelIdeal.sig) → Buf (Elt Ideal) ℓ) (d : Dev Cert.KernelIdeal.nD) (h : Above m d) :
    outP m d = RefRun.perplexity (F := Ideal) (RefRun.share (RefRun.hot (RefRun.chosen (F := Ideal) (RefRun.logits (F := Ideal) (m (vLoc d Cert.KernelIdeal.main_arg0) : A0)
      (m (vLoc d Cert.KernelIdeal.main_arg2) : A2) (m (vLoc d Cert.KernelIdeal.main_arg3) : A3))))) := by
  funext j
  exact (outP_eq_spread m d h j).trans (plex_sel _ _ _ h j).symm

end Cert.Proof.Whole

end
-- ==== Proof.Whole.Claims.lean ====
/-
  The claims about the whole kernel over the extended reals: the frames, and both results the reference's.
-/
module

public import proofs.«01_k».proof.Proof.Whole.Launch
public import proofs.«01_k».proof.Proof.Whole.Gathered
public import proofs.«01_k».proof.Proof.Whole.Perplexity
public import proofs.«01_k».proof.Proof.Whole.RefRun
public import proofs.«01_k».proof.Proof.Gen.Pre_no_tie
public import proofs.«01_k».proof.Defs

@[expose] public section

noncomputable section

namespace Cert.Proof.Whole

open Idealize.ShloMosaic hiding ix0 ix1 ix2 ix3 ix4 eq_ix1 eq_ix2 eq_ix3
open Idealize.SL.Sem
open Cert.KernelIdeal.Gen Cert.ReferenceIdeal.Gen Cert.Pre_no_tie.Gen

/-- What the precondition says of a device's arguments. -/
theorem above_of_pre (m : (ℓ : Loc Cert.KernelIdeal.nD Cert.KernelIdeal.τ Cert.KernelIdeal.sig) → Buf (Elt Ideal) ℓ) (h : Cert.Pre_KernelIdeal m)
    (d : Dev Cert.KernelIdeal.nD) : Above m d := fun n g => above _ _ _ _ (h d) n g

theorem ok_of_pre (m : (ℓ : Loc Cert.KernelIdeal.nD Cert.KernelIdeal.τ Cert.KernelIdeal.sig) → Buf (Elt Ideal) ℓ) (h : Cert.Pre_KernelIdeal m) : PicksOK m :=
  picksOK m fun d => above_of_pre m h d

theorem frame : Cert.quiescent_KernelIdeal := fun m g h =>
  (θ_run Cert.KernelIdeal.defs _ _).mono (fun _ h => ⟨fun c => (h.1 c).2.2, h.2⟩) (run_main m g (ok_of_pre m h))

theorem frame_reference : Cert.quiescent_ReferenceIdeal := fun m g _ =>
  (θ_run Cert.ReferenceIdeal.defs _ _).mono (fun r h => ⟨fun c => (h c).2.2, sem_eq_zero_of_no_sems (by decide) r.2⟩) (RefRun.run (F := Ideal) m g)

theorem frame_reference_pre : Cert.quiescent_ReferenceIdeal_pre_no_tie := fun m g _ => frame_reference m g trivial

theorem algebraic : Cert.algebraic_KernelIdeal_ReferenceIdeal := by
  intro m g m' g' h hagree
  refine ⟨fun c => out m c, fun c => outP m c, (θ_run Cert.KernelIdeal.defs _ _).mono (fun _ h => h.1) (run_main m g (ok_of_pre m h)),
    (θ_run Cert.ReferenceIdeal.defs _ _).mono (fun _ hr c => ⟨(hr c).1.trans ?_, (hr c).2.1.trans ?_, (hr c).2.2⟩) (RefRun.run (F := Ideal) m' g')⟩
  · unfold RefRun.hotOf
    rw [(hagree c).1, (hagree c).2.1, (hagree c).2.2.1, (hagree c).2.2.2]
    exact (out_eq m c (above_of_pre m h c)).symm
  · unfold RefRun.hotOf
    rw [(hagree c).1, (hagree c).2.2.1, (hagree c).2.2.2]
    exact (outP_eq m c (above_of_pre m h c)).symm

end Cert.Proof.Whole

end
-- ==== Proof.lean ====
/- The claims about the whole kernel, from `Proof/Whole/`, and about its gather alone, from `Proof/Gather/`. -/
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.Gen.Pre_no_tie
public import proofs.«01_k».proof.Proof.Gen.Pre_idx_in_rows
public import proofs.«01_k».proof.Proof.Gather.Claims
public import proofs.«01_k».proof.Proof.Whole.Claims
public import Idealize.ShloMosaic.Adequacy
public import Idealize.ShloMosaic.Init

@[expose] public section

noncomputable section

namespace Cert.Proof

theorem claim : Cert.Claim := ⟨Cert.KernelIdeal.Gen.facts, Cert.ReferenceIdeal.Gen.facts, Cert.Gather.Gen.facts, Cert.GatherIdeal.Gen.facts,
  Cert.GatherRefIdeal.Gen.facts, Cert.GatherRef.Gen.facts, Cert.Pre_no_tie.Gen.facts, Cert.Pre_idx_in_rows.Gen.facts,
  Whole.frame, Whole.frame_reference, Whole.frame_reference_pre,
  Gather.frame, Gather.frame_ideal, Gather.frame_reference_ideal, Gather.frame_reference_ideal_pre, Gather.frame_reference,
  Whole.algebraic, Gather.bitexact, trivial, Gather.algebraic⟩

end Cert.Proof

end
